-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_valid_state [hPre_valid_state : Cert.Pre_valid_state.Facts] (m : (ℓ : Loc Cert.KernelIdeal.nD Cert.KernelIdeal.τ Cert.KernelIdeal.sig) → Buf (Elt Ideal) ℓ) : Prop :=
  ∀ c : Dev Cert.KernelIdeal.nD,
    (Cert.Pre_valid_state.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid_state [hPre_valid_state : Cert.Pre_valid_state.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid_state.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_valid_state [hKernelIdeal : Cert.KernelIdeal.Facts] [hPre_valid_state : Cert.Pre_valid_state.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_valid_state m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_valid_state [hReferenceIdeal : Cert.ReferenceIdeal.Facts] [hPre_valid_state : Cert.Pre_valid_state.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid_state m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "inv_ln2" .f32 0x3FB8AA3B#32 (((Real.log 2)⁻¹ : ℝ) : EReal)
  ∧ IdealRules.named_const.Statement Cert.KernelIdeal.κ "log2_m_max" .f32 0x410CEAED#32 (((Real.log 448) * (Real.log 2)⁻¹ : ℝ) : EReal)
  ∧ IdealRules.named_const.Statement Cert.KernelIdeal.κ "log2_v_max" .f32 0x417CEAED#32 (((Real.log 57344) * (Real.log 2)⁻¹ : ℝ) : EReal)
  ∧ IdealRules.named_const.Statement Cert.KernelIdeal.κ "log2_beta1" .f32 0xBE1BA6B3#32 (((Real.log (9 / 10)) * (Real.log 2)⁻¹ : ℝ) : EReal)
  ∧ IdealRules.named_const.Statement Cert.KernelIdeal.κ "log2_beta2" .f32 0xBD978D9E#32 (((Real.log (19 / 20)) * (Real.log 2)⁻¹ : ℝ) : EReal)
  ∧ IdealRules.named_const.Statement Cert.KernelIdeal.κ "eps" .f32 0x322BCC77#32 ((1 / 100000000 : ℝ) : EReal)
  ∧ IdealRules.named_const.Statement Cert.KernelIdeal.κ "m_range_8" .f32 0x400E7576#32 ((((Real.log 229376) * (Real.log 2)⁻¹) * (1 / 8) : ℝ) : EReal)
  ∧ IdealRules.named_const.Statement Cert.KernelIdeal.κ "m_range" .f32 0x418E7576#32 (((Real.log 229376) * (Real.log 2)⁻¹ : ℝ) : EReal)
  ∧ IdealRules.named_const.Statement Cert.KernelIdeal.κ "tenth" .f32 0x3DCCCCCD#32 ((1 / 10 : ℝ) : EReal)
  ∧ IdealRules.named_const.Statement Cert.KernelIdeal.κ "v_range_8" .f32 0x407E7576#32 ((((Real.log 3758096384) * (Real.log 2)⁻¹) * (1 / 8) : ℝ) : EReal)
  ∧ IdealRules.named_const.Statement Cert.KernelIdeal.κ "v_range" .f32 0x41FE7576#32 (((Real.log 3758096384) * (Real.log 2)⁻¹ : ℝ) : EReal)
  ∧ IdealRules.named_const.Statement Cert.KernelIdeal.κ "twentieth" .f32 0x3D4CCCCD#32 ((1 / 20 : ℝ) : EReal)
  ∧ IdealRules.sign_bit.MaskStatement Cert.KernelIdeal.S128x256 .f32

def algebraic_KernelIdeal_ReferenceIdeal_pre_valid_state [hKernelIdeal : Cert.KernelIdeal.Facts] [hReferenceIdeal : Cert.ReferenceIdeal.Facts] [hPre_valid_state : Cert.Pre_valid_state.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_valid_state m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)) (v3 : (c : Dev Cert.KernelIdeal.nD) → Buf (Elt Ideal) ((c.tc : Thread Cert.KernelIdeal.nD Cert.KernelIdeal.τ).loc Cert.KernelIdeal.main_v11_3)) (v4 : (c : Dev Cert.KernelIdeal.nD) → Buf (Elt Ideal) ((c.tc : Thread Cert.KernelIdeal.nD Cert.KernelIdeal.τ).loc Cert.KernelIdeal.main_v11_4)) (v5 : (c : Dev Cert.KernelIdeal.nD) → Buf (Elt Ideal) ((c.tc : Thread Cert.KernelIdeal.nD Cert.KernelIdeal.τ).loc Cert.KernelIdeal.main_v11_5)) (v6 : (c : Dev Cert.KernelIdeal.nD) → Buf (Elt Ideal) ((c.tc : Thread Cert.KernelIdeal.nD Cert.KernelIdeal.τ).loc Cert.KernelIdeal.main_v11_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_v11_3) = v3 c
          ∧ r.2.mem ((c.tc : Thread Cert.KernelIdeal.nD Cert.KernelIdeal.τ).loc Cert.KernelIdeal.main_v11_4) = v4 c
          ∧ r.2.mem ((c.tc : Thread Cert.KernelIdeal.nD Cert.KernelIdeal.τ).loc Cert.KernelIdeal.main_v11_5) = v5 c
          ∧ r.2.mem ((c.tc : Thread Cert.KernelIdeal.nD Cert.KernelIdeal.τ).loc Cert.KernelIdeal.main_v11_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11_0) = v0 c
          ∧ r.2.mem ((c.tc : Thread Cert.ReferenceIdeal.nD Cert.ReferenceIdeal.τ).loc Cert.ReferenceIdeal.main_v11_1) = v1 c
          ∧ r.2.mem ((c.tc : Thread Cert.ReferenceIdeal.nD Cert.ReferenceIdeal.τ).loc Cert.ReferenceIdeal.main_v11_2) = v2 c
          ∧ r.2.mem ((c.tc : Thread Cert.ReferenceIdeal.nD Cert.ReferenceIdeal.τ).loc Cert.ReferenceIdeal.main_v11_3) = v3 c
          ∧ r.2.mem ((c.tc : Thread Cert.ReferenceIdeal.nD Cert.ReferenceIdeal.τ).loc Cert.ReferenceIdeal.main_v11_4) = v4 c
          ∧ r.2.mem ((c.tc : Thread Cert.ReferenceIdeal.nD Cert.ReferenceIdeal.τ).loc Cert.ReferenceIdeal.main_v11_5) = v5 c
          ∧ r.2.mem ((c.tc : Thread Cert.ReferenceIdeal.nD Cert.ReferenceIdeal.τ).loc Cert.ReferenceIdeal.main_v11_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_valid_state : Cert.Pre_valid_state.Facts),
    quiescent_Kernel (hKernel := hKernel)
    ∧ quiescent_KernelIdeal (hKernelIdeal := hKernelIdeal)
    ∧ quiescent_KernelIdeal_pre_valid_state (hKernelIdeal := hKernelIdeal) (hPre_valid_state := hPre_valid_state)
    ∧ quiescent_ReferenceIdeal (hReferenceIdeal := hReferenceIdeal)
    ∧ quiescent_ReferenceIdeal_pre_valid_state (hReferenceIdeal := hReferenceIdeal) (hPre_valid_state := hPre_valid_state)
    ∧ preserves_Kernel_KernelIdeal
    ∧ algebraic_KernelIdeal_ReferenceIdeal_pre_valid_state (hKernelIdeal := hKernelIdeal) (hReferenceIdeal := hReferenceIdeal) (hPre_valid_state := hPre_valid_state)
-- ==== Pre_valid_state.lean ====
abbrev S1x256x131072 : Shape := ⟨3, ![1, 256, 131072]⟩
abbrev S1x256x1024 : Shape := ⟨3, ![1, 256, 1024]⟩
abbrev S_ : Shape := ⟨0, ![]⟩

class Facts : Prop where
  bcast_S_S1x256x131072 : S_.BroadcastsInDim S1x256x131072 (![] : Fin 0 → Fin S1x256x131072.rank)
  reducesTo_S1x256x131072_S_d0_1_2 : S1x256x131072.ReducesTo [0, 1, 2] S_
  h_S_ : 0 < S_.numel
  bcast_S_S1x256x1024 : S_.BroadcastsInDim S1x256x1024 (![] : Fin 0 → Fin S1x256x1024.rank)
  reducesTo_S1x256x1024_S_d0_1_2 : S1x256x1024.ReducesTo [0, 1, 2] S_

variable [Facts]

def fn_part2 {F : FTy → Type} [FloatOps F] (main_arg6 : FVec F S1x256x1024 .f32) (main_arg7 : FVec F S1x256x1024 .f32) (main_arg8 : IVec S_ 32) (main_v30 : IVec S_ 1) (main_v33 : IVec S1x256x1024 1) : IVec S_ 1 :=
  let main_cst_12 : FVec F S_ .f32 := constant S_ .f32 0x00000000#32
  let main_v34 : FVec F S1x256x1024 .f32 := broadcastInDim S1x256x1024 ![] bcast_S_S1x256x1024 main_cst_12
  let main_v35 : IVec S1x256x1024 1 := cmpf .oge main_arg6 main_v34
  let main_v36 : IVec S1x256x1024 1 := andi main_v33 main_v35
  let main_c_13 : IVec S_ 1 := constantI S_ 1 1#1
  let main_v37 : IVec S_ 1 := (fun x v => Host.reduce IntOp.andi x v reducesTo_S1x256x1024_S_d0_1_2 h_S_) main_v36 main_c_13
  let main_v38 : IVec S_ 1 := andi main_v30 main_v37
  let main_v39 : FVec F S1x256x1024 .f32 := Host.absf main_arg7
  let main_cst_14 : FVec F S_ .f32 := constant S_ .f32 0x7F800000#32
  let main_v40 : FVec F S1x256x1024 .f32 := broadcastInDim S1x256x1024 ![] bcast_S_S1x256x1024 main_cst_14
  let main_v41 : IVec S1x256x1024 1 := cmpf .olt main_v39 main_v40
  let main_cst_15 : FVec F S_ .f32 := constant S_ .f32 0x00000000#32
  let main_v42 : FVec F S1x256x1024 .f32 := broadcastInDim S1x256x1024 ![] bcast_S_S1x256x1024 main_cst_15
  let main_v43 : IVec S1x256x1024 1 := cmpf .ogt main_arg7 main_v42
  let main_v44 : IVec S1x256x1024 1 := andi main_v41 main_v43
  let main_c_16 : IVec S_ 1 := constantI S_ 1 1#1
  let main_v45 : IVec S_ 1 := (fun x v => Host.reduce IntOp.andi x v reducesTo_S1x256x1024_S_d0_1_2 h_S_) main_v44 main_c_16
  let main_v46 : IVec S_ 1 := andi main_v38 main_v45
  let main_c_17 : IVec S_ 32 := constantI S_ 32 1#32
  let main_v47 : IVec S_ 1 := cmpi .sge main_arg8 main_c_17
  let main_v48 : IVec S_ 1 := andi main_v46 main_v47
  main_v48

def fn_part1 {F : FTy → Type} [FloatOps F] (main_arg3 : FVec F S1x256x1024 .f32) (main_arg4 : FVec F S1x256x1024 .f32) (main_arg6 : FVec F S1x256x1024 .f32) (main_arg7 : FVec F S1x256x1024 .f32) (main_arg8 : IVec S_ 32) (main_v14 : IVec S_ 1) (main_v15 : FVec F S1x256x1024 .f32) (main_cst_5 : FVec F S_ .f32) : IVec S_ 1 :=
  let main_v16 : FVec F S1x256x1024 .f32 := broadcastInDim S1x256x1024 ![] bcast_S_S1x256x1024 main_cst_5
  let main_v17 : IVec S1x256x1024 1 := cmpf .olt main_v15 main_v16
  let main_cst_6 : FVec F S_ .f32 := constant S_ .f32 0x00000000#32
  let main_v18 : FVec F S1x256x1024 .f32 := broadcastInDim S1x256x1024 ![] bcast_S_S1x256x1024 main_cst_6
  let main_v19 : IVec S1x256x1024 1 := cmpf .oge main_arg3 main_v18
  let main_v20 : IVec S1x256x1024 1 := andi main_v17 main_v19
  let main_c_7 : IVec S_ 1 := constantI S_ 1 1#1
  let main_v21 : IVec S_ 1 := (fun x v => Host.reduce IntOp.andi x v reducesTo_S1x256x1024_S_d0_1_2 h_S_) main_v20 main_c_7
  let main_v22 : IVec S_ 1 := andi main_v14 main_v21
  let main_v23 : FVec F S1x256x1024 .f32 := Host.absf main_arg4
  let main_cst_8 : FVec F S_ .f32 := constant S_ .f32 0x7F800000#32
  let main_v24 : FVec F S1x256x1024 .f32 := broadcastInDim S1x256x1024 ![] bcast_S_S1x256x1024 main_cst_8
  let main_v25 : IVec S1x256x1024 1 := cmpf .olt main_v23 main_v24
  let main_cst_9 : FVec F S_ .f32 := constant S_ .f32 0x00000000#32
  let main_v26 : FVec F S1x256x1024 .f32 := broadcastInDim S1x256x1024 ![] bcast_S_S1x256x1024 main_cst_9
  let main_v27 : IVec S1x256x1024 1 := cmpf .ogt main_arg4 main_v26
  let main_v28 : IVec S1x256x1024 1 := andi main_v25 main_v27
  let main_c_10 : IVec S_ 1 := constantI S_ 1 1#1
  let main_v29 : IVec S_ 1 := (fun x v => Host.reduce IntOp.andi x v reducesTo_S1x256x1024_S_d0_1_2 h_S_) main_v28 main_c_10
  let main_v30 : IVec S_ 1 := andi main_v22 main_v29
  let main_v31 : FVec F S1x256x1024 .f32 := Host.absf main_arg6
  let main_cst_11 : FVec F S_ .f32 := constant S_ .f32 0x7F800000#32
  let main_v32 : FVec F S1x256x1024 .f32 := broadcastInDim S1x256x1024 ![] bcast_S_S1x256x1024 main_cst_11
  let main_v33 : IVec S1x256x1024 1 := cmpf .olt main_v31 main_v32
  fn_part2 (F := F) main_arg6 main_arg7 main_arg8 main_v30 main_v33

def fn {F : FTy → Type} [FloatOps F] (main_arg0 : FVec F S1x256x131072 .f32) (main_arg1 : FVec F S1x256x131072 .bf16) (main_arg2 : IVec S1x256x131072 8) (main_arg3 : FVec F S1x256x1024 .f32) (main_arg4 : FVec F S1x256x1024 .f32) (main_arg5 : IVec S1x256x131072 8) (main_arg6 : FVec F S1x256x1024 .f32) (main_arg7 : FVec F S1x256x1024 .f32) (main_arg8 : IVec S_ 32) : IVec S_ 1 :=
  let main_v0 : FVec F S1x256x131072 .bf16 := Host.absf main_arg1
  let main_cst : FVec F S_ .bf16 := constant S_ .bf16 0x7F80#16
  let main_v1 : FVec F S1x256x131072 .bf16 := broadcastInDim S1x256x131072 ![] bcast_S_S1x256x131072 main_cst
  let main_v2 : IVec S1x256x131072 1 := cmpf .olt main_v0 main_v1
  let main_c : IVec S_ 1 := constantI S_ 1 1#1
  let main_v3 : IVec S_ 1 := (fun x v => Host.reduce IntOp.andi x v reducesTo_S1x256x131072_S_d0_1_2 h_S_) main_v2 main_c
  let main_c_0 : IVec S_ 8 := constantI S_ 8 127#8
  let main_v4 : IVec S1x256x131072 8 := broadcastInDim S1x256x131072 ![] bcast_S_S1x256x131072 main_c_0
  let main_v5 : IVec S1x256x131072 1 := cmpi .ne main_arg2 main_v4
  let main_c_1 : IVec S_ 8 := constantI S_ 8 255#8
  let main_v6 : IVec S1x256x131072 8 := broadcastInDim S1x256x131072 ![] bcast_S_S1x256x131072 main_c_1
  let main_v7 : IVec S1x256x131072 1 := cmpi .ne main_arg2 main_v6
  let main_v8 : IVec S1x256x131072 1 := andi main_v5 main_v7
  let main_c_2 : IVec S_ 1 := constantI S_ 1 1#1
  let main_v9 : IVec S_ 1 := (fun x v => Host.reduce IntOp.andi x v reducesTo_S1x256x131072_S_d0_1_2 h_S_) main_v8 main_c_2
  let main_v10 : IVec S_ 1 := andi main_v3 main_v9
  let main_c_3 : IVec S_ 8 := constantI S_ 8 123#8
  let main_v11 : IVec S1x256x131072 8 := broadcastInDim S1x256x131072 ![] bcast_S_S1x256x131072 main_c_3
  let main_v12 : IVec S1x256x131072 1 := cmpi .ule main_arg5 main_v11
  let main_c_4 : IVec S_ 1 := constantI S_ 1 1#1
  let main_v13 : IVec S_ 1 := (fun x v => Host.reduce IntOp.andi x v reducesTo_S1x256x131072_S_d0_1_2 h_S_) main_v12 main_c_4
  let main_v14 : IVec S_ 1 := andi main_v10 main_v13
  let main_v15 : FVec F S1x256x1024 .f32 := Host.absf main_arg3
  let main_cst_5 : FVec F S_ .f32 := constant S_ .f32 0x7F800000#32
  fn_part1 (F := F) main_arg3 main_arg4 main_arg6 main_arg7 main_arg8 main_v14 main_v15 main_cst_5
-- ==== Kernel.lean ====
abbrev S1x256x131072 : Shape := ⟨3, ![1, 256, 131072]⟩
abbrev S1x256x1024 : Shape := ⟨3, ![1, 256, 1024]⟩
abbrev S_ : Shape := ⟨0, ![]⟩
abbrev S1 : Shape := ⟨1, ![1]⟩
abbrev S256x131072 : Shape := ⟨2, ![256, 131072]⟩
abbrev S256x1024 : Shape := ⟨2, ![256, 1024]⟩
abbrev S1024x256 : Shape := ⟨2, ![1024, 256]⟩
abbrev S4x8x256 : Shape := ⟨3, ![4, 8, 256]⟩
abbrev S8x128 : Shape := ⟨2, ![8, 128]⟩
abbrev S1x1 : Shape := ⟨2, ![1, 1]⟩
abbrev S1x8x256 : Shape := ⟨3, ![1, 8, 256]⟩
abbrev S8x256 : Shape := ⟨2, ![8, 256]⟩
abbrev S128x256 : Shape := ⟨2, ![128, 256]⟩
abbrev S256x128 : Shape := ⟨2, ![256, 128]⟩
abbrev S1x256 : Shape := ⟨2, ![1, 256]⟩
abbrev S256x256 : Shape := ⟨2, ![256, 256]⟩
abbrev S256 : Shape := ⟨1, ![256]⟩
abbrev S1x1x256 : Shape := ⟨3, ![1, 1, 256]⟩

abbrev nBuf : Space → Nat
  | .hbm => 27
  | .vmem => 35
  | .smem => 1
  | _ => 0

abbrev bufTy : (tb : Table) → Fin (tcTables nBuf tb) → BufTy
  | .hbm, ⟨0, _⟩ => ⟨S1x256x131072, .f32⟩
  | .hbm, ⟨1, _⟩ => ⟨S1x256x131072, .bf16⟩
  | .hbm, ⟨2, _⟩ => ⟨S1x256x131072, .i8⟩
  | .hbm, ⟨3, _⟩ => ⟨S1x256x1024, .f32⟩
  | .hbm, ⟨4, _⟩ => ⟨S1x256x1024, .f32⟩
  | .hbm, ⟨5, _⟩ => ⟨S1x256x131072, .i8⟩
  | .hbm, ⟨6, _⟩ => ⟨S1x256x1024, .f32⟩
  | .hbm, ⟨7, _⟩ => ⟨S1x256x1024, .f32⟩
  | .hbm, ⟨8, _⟩ => ⟨S_, .i32⟩
  | .hbm, ⟨9, _⟩ => ⟨S1, .i32⟩
  | .hbm, ⟨10, _⟩ => ⟨S256x131072, .f32⟩
  | .hbm, ⟨11, _⟩ => ⟨S256x131072, .bf16⟩
  | .hbm, ⟨12, _⟩ => ⟨S1x256x131072, .fp8e4m3⟩
  | .hbm, ⟨13, _⟩ => ⟨S256x131072, .fp8e4m3⟩
  | .hbm, ⟨14, _⟩ => ⟨S1x256x131072, .fp8e5m2⟩
  | .hbm, ⟨15, _⟩ => ⟨S256x131072, .fp8e5m2⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S256x131072, .f32⟩
  | .hbm, ⟨21, _⟩ => ⟨S256x131072, .fp8e4m3⟩
  | .hbm, ⟨22, _⟩ => ⟨S256x1024, .f32⟩
  | .hbm, ⟨23, _⟩ => ⟨S256x1024, .f32⟩
  | .hbm, ⟨24, _⟩ => ⟨S256x131072, .fp8e5m2⟩
  | .hbm, ⟨25, _⟩ => ⟨S256x1024, .f32⟩
  | .hbm, ⟨26, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .fp8e4m3⟩
  | .local _ .vmem, ⟨5, _⟩ => ⟨S256x1024, .fp8e4m3⟩
  | .local _ .vmem, ⟨6, _⟩ => ⟨S256x1024, .fp8e5m2⟩
  | .local _ .vmem, ⟨7, _⟩ => ⟨S256x1024, .fp8e5m2⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .fp8e4m3⟩
  | .local _ .vmem, ⟨15, _⟩ => ⟨S256x1024, .fp8e4m3⟩
  | .local _ .vmem, ⟨16, _⟩ => ⟨S256x1024, .f32⟩
  | .local _ .vmem, ⟨17, _⟩ => ⟨S256x1024, .f32⟩
  | .local _ .vmem, ⟨18, _⟩ => ⟨S256x1024, .fp8e5m2⟩
  | .local _ .vmem, ⟨19, _⟩ => ⟨S256x1024, .fp8e5m2⟩
  | .local _ .vmem, ⟨20, _⟩ => ⟨S256x1024, .f32⟩
  | .local _ .vmem, ⟨21, _⟩ => ⟨S256x1024, .f32⟩
  | .local _ .vmem, ⟨22, _⟩ => ⟨S1024x256, .f32⟩
  | .local _ .vmem, ⟨23, _⟩ => ⟨S1024x256, .f32⟩
  | .local _ .vmem, ⟨24, _⟩ => ⟨S1024x256, .f32⟩
  | .local _ .vmem, ⟨25, _⟩ => ⟨S1024x256, .f32⟩
  | .local _ .vmem, ⟨26, _⟩ => ⟨S4x8x256, .f32⟩
  | .local _ .vmem, ⟨27, _⟩ => ⟨S1024x256, .f32⟩
  | .local _ .vmem, ⟨28, _⟩ => ⟨S1024x256, .f32⟩
  | .local _ .vmem, ⟨29, _⟩ => ⟨S1024x256, .f32⟩
  | .local _ .vmem, ⟨30, _⟩ => ⟨S1024x256, .f32⟩
  | .local _ .vmem, ⟨31, _⟩ => ⟨S1024x256, .f32⟩
  | .local _ .vmem, ⟨32, _⟩ => ⟨S1024x256, .f32⟩
  | .local _ .vmem, ⟨33, _⟩ => ⟨S1024x256, .f32⟩
  | .local _ .vmem, ⟨34, _⟩ => ⟨S1024x256, .f32⟩
  | .local _ .smem, ⟨0, _⟩ => ⟨S1, .i32⟩
  | _, _ => ⟨S1x256x131072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev main_v11_3 : Ref sig .tc := ⟨.hbm, 23, rfl⟩
abbrev main_v11_4 : Ref sig .tc := ⟨.hbm, 24, rfl⟩
abbrev main_v11_5 : Ref sig .tc := ⟨.hbm, 25, rfl⟩
abbrev main_v11_6 : Ref sig .tc := ⟨.hbm, 26, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg15_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_scratch8 : Ref sig .tc := ⟨.vmem, 30, rfl⟩
abbrev cc0_scratch9 : Ref sig .tc := ⟨.vmem, 31, rfl⟩
abbrev cc0_scratch10 : Ref sig .tc := ⟨.vmem, 32, rfl⟩
abbrev cc0_scratch11 : Ref sig .tc := ⟨.vmem, 33, rfl⟩
abbrev cc0_scratch12 : Ref sig .tc := ⟨.vmem, 34, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem15_0 : DmaSem sig := 22

abbrev nD : Nat := 1
abbrev τ : Topo := Topo.v7x

variable {F : FTy → Type} [BitOps F]

abbrev grid0 : Pipeline.Grid := ⟨1, ![129], ![false]⟩

def k0_mult1 (i : grid0.Coords) : BitVec 32 :=
  let arg0 : BitVec 32 := BitVec.ofNat 32 (i 0).val
  let c1_i32 : BitVec 32 := 1#32
  let v26 : BitVec 32 := Scalar.subi arg0 c1_i32
  let c0_i32_7 : BitVec 32 := 0#32
  let v27 : BitVec 32 := Scalar.maxsi v26 c0_i32_7
  let c8_i32 : BitVec 32 := 8#32
  let v28 : BitVec 32 := Scalar.muli v27 c8_i32
  v28
def k0_off1 (i : grid0.Coords) : Fin 2 → Nat :=
  let arg0 : BitVec 32 := BitVec.ofNat 32 (i 0).val
  let c1_i32 : BitVec 32 := 1#32
  let v26 : BitVec 32 := Scalar.subi arg0 c1_i32
  let c0_i32_7 : BitVec 32 := 0#32
  let v27 : BitVec 32 := Scalar.maxsi v26 c0_i32_7
  let c8_i32 : BitVec 32 := 8#32
  let v28 : BitVec 32 := Scalar.muli v27 c8_i32
  let v29 : BitVec 32 := v28
  let v62 : Index := Scalar.indexCast v29
  let c0_25 : Index := 0#32
  ![v62.toNat, 0]
def k0_off2 (i : grid0.Coords) (c0_i32_225 : BitVec 32) : Fin 2 → Nat :=
  let arg0 : BitVec 32 := BitVec.ofNat 32 (i 0).val
  let c127_i32 : BitVec 32 := 127#32
  let v477 : BitVec 32 := Scalar.minsi arg0 c127_i32
  let c8_i32_215 : BitVec 32 := 8#32
  let v478 : BitVec 32 := Scalar.muli v477 c8_i32_215
  let v488 : BitVec 32 := Scalar.addi v478 c0_i32_225
  let v494 : Index := Scalar.indexCast v488
  let c0_227 : Index := 0#32
  ![v494.toNat, 0]
def k0_cond2 (i : grid0.Coords) : BitVec 1 :=
  let arg0 : BitVec 32 := BitVec.ofNat 32 (i 0).val
  let c128_i32 : BitVec 32 := 128#32
  let v1331 : BitVec 1 := Scalar.cmpi .eq arg0 c128_i32
  let v1332 : BitVec 32 := Scalar.extui v1331
  let c0_i32_594 : BitVec 32 := 0#32
  let v1333 : BitVec 1 := Scalar.cmpi .ne v1332 c0_i32_594
  v1333

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .fp8e5m2 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S256x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== KernelIdeal.lean ====
variable {F : FTy → Type} [FloatOps F] [Named F]
def κ : String → Option EReal := fun
  | "eps" => some ((1 / 100000000 : ℝ) : EReal)
  | "inv_ln2" => some (((Real.log 2)⁻¹ : ℝ) : EReal)
  | "log2_beta1" => some (((Real.log (9 / 10)) * (Real.log 2)⁻¹ : ℝ) : EReal)
  | "log2_beta2" => some (((Real.log (19 / 20)) * (Real.log 2)⁻¹ : ℝ) : EReal)
  | "log2_m_max" => some (((Real.log 448) * (Real.log 2)⁻¹ : ℝ) : EReal)
  | "log2_v_max" => some (((Real.log 57344) * (Real.log 2)⁻¹ : ℝ) : EReal)
  | "m_range" => some (((Real.log 229376) * (Real.log 2)⁻¹ : ℝ) : EReal)
  | "m_range_8" => some ((((Real.log 229376) * (Real.log 2)⁻¹) * (1 / 8) : ℝ) : EReal)
  | "tenth" => some ((1 / 10 : ℝ) : EReal)
  | "twentieth" => some ((1 / 20 : ℝ) : EReal)
  | "v_range" => some (((Real.log 3758096384) * (Real.log 2)⁻¹ : ℝ) : EReal)
  | "v_range_8" => some ((((Real.log 3758096384) * (Real.log 2)⁻¹) * (1 / 8) : ℝ) : EReal)
  | _ => none
-- ==== ReferenceIdeal.lean ====
abbrev S1x256x131072 : Shape := ⟨3, ![1, 256, 131072]⟩
abbrev S1x256x1024 : Shape := ⟨3, ![1, 256, 1024]⟩
abbrev S_ : Shape := ⟨0, ![]⟩
abbrev S1 : Shape := ⟨1, ![1]⟩
abbrev S256x131072 : Shape := ⟨2, ![256, 131072]⟩
abbrev S256x1024 : Shape := ⟨2, ![256, 1024]⟩
abbrev S256x1024x128 : Shape := ⟨3, ![256, 1024, 128]⟩
abbrev S256x1024x1 : Shape := ⟨3, ![256, 1024, 1]⟩

abbrev nBuf : Space → Nat
  | .hbm => 27
  | .vmem => 15
  | .smem => 1
  | _ => 0

abbrev bufTy : (tb : Table) → Fin (tcTables nBuf tb) → BufTy
  | .hbm, ⟨0, _⟩ => ⟨S1x256x131072, .f32⟩
  | .hbm, ⟨1, _⟩ => ⟨S1x256x131072, .bf16⟩
  | .hbm, ⟨2, _⟩ => ⟨S1x256x131072, .i8⟩
  | .hbm, ⟨3, _⟩ => ⟨S1x256x1024, .f32⟩
  | .hbm, ⟨4, _⟩ => ⟨S1x256x1024, .f32⟩
  | .hbm, ⟨5, _⟩ => ⟨S1x256x131072, .i8⟩
  | .hbm, ⟨6, _⟩ => ⟨S1x256x1024, .f32⟩
  | .hbm, ⟨7, _⟩ => ⟨S1x256x1024, .f32⟩
  | .hbm, ⟨8, _⟩ => ⟨S_, .i32⟩
  | .hbm, ⟨9, _⟩ => ⟨S1, .i32⟩
  | .hbm, ⟨10, _⟩ => ⟨S256x131072, .f32⟩
  | .hbm, ⟨11, _⟩ => ⟨S256x131072, .bf16⟩
  | .hbm, ⟨12, _⟩ => ⟨S1x256x131072, .fp8e4m3⟩
  | .hbm, ⟨13, _⟩ => ⟨S256x131072, .fp8e4m3⟩
  | .hbm, ⟨14, _⟩ => ⟨S256x1024, .f32⟩
  | .hbm, ⟨15, _⟩ => ⟨S256x1024, .f32⟩
  | .hbm, ⟨16, _⟩ => ⟨S1x256x131072, .fp8e5m2⟩
  | .hbm, ⟨17, _⟩ => ⟨S256x131072, .fp8e5m2⟩
  | .hbm, ⟨18, _⟩ => ⟨S256x1024, .f32⟩
  | .hbm, ⟨19, _⟩ => ⟨S256x1024, .f32⟩
  | .hbm, ⟨20, _⟩ => ⟨S256x131072, .f32⟩
  | .hbm, ⟨21, _⟩ => ⟨S256x131072, .fp8e4m3⟩
  | .hbm, ⟨22, _⟩ => ⟨S256x1024, .f32⟩
  | .hbm, ⟨23, _⟩ => ⟨S256x1024, .f32⟩
  | .hbm, ⟨24, _⟩ => ⟨S256x131072, .fp8e5m2⟩
  | .hbm, ⟨25, _⟩ => ⟨S256x1024, .f32⟩
  | .hbm, ⟨26, _⟩ => ⟨S256x1024, .f32⟩
  | .local _ .vmem, ⟨0, _⟩ => ⟨S256x131072, .f32⟩
  | .local _ .vmem, ⟨1, _⟩ => ⟨S256x131072, .bf16⟩
  | .local _ .vmem, ⟨2, _⟩ => ⟨S256x131072, .fp8e4m3⟩
  | .local _ .vmem, ⟨3, _⟩ => ⟨S256x1024, .f32⟩
  | .local _ .vmem, ⟨4, _⟩ => ⟨S256x1024, .f32⟩
  | .local _ .vmem, ⟨5, _⟩ => ⟨S256x131072, .fp8e5m2⟩
  | .local _ .vmem, ⟨6, _⟩ => ⟨S256x1024, .f32⟩
  | .local _ .vmem, ⟨7, _⟩ => ⟨S256x1024, .f32⟩
  | .local _ .vmem, ⟨8, _⟩ => ⟨S256x131072, .f32⟩
  | .local _ .vmem, ⟨9, _⟩ => ⟨S256x131072, .fp8e4m3⟩
  | .local _ .vmem, ⟨10, _⟩ => ⟨S256x1024, .f32⟩
  | .local _ .vmem, ⟨11, _⟩ => ⟨S256x1024, .f32⟩
  | .local _ .vmem, ⟨12, _⟩ => ⟨S256x131072, .fp8e5m2⟩
  | .local _ .vmem, ⟨13, _⟩ => ⟨S256x1024, .f32⟩
  | .local _ .vmem, ⟨14, _⟩ => ⟨S256x1024, .f32⟩
  | .local _ .smem, ⟨0, _⟩ => ⟨S1, .i32⟩
  | _, _ => ⟨S1x256x131072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev main_v11_3 : Ref sig .tc := ⟨.hbm, 23, rfl⟩
abbrev main_v11_4 : Ref sig .tc := ⟨.hbm, 24, rfl⟩
abbrev main_v11_5 : Ref sig .tc := ⟨.hbm, 25, rfl⟩
abbrev main_v11_6 : Ref sig .tc := ⟨.hbm, 26, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_stg13_0 : Ref sig .tc := ⟨.vmem, 12, rfl⟩
abbrev cc0_stg14_0 : Ref sig .tc := ⟨.vmem, 13, rfl⟩
abbrev cc0_stg15_0 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F] [Named F]

def κ : String → Option EReal := fun
  | "beta1" => some ((9 / 10 : ℝ) : EReal)
  | "beta2" => some ((19 / 20 : ℝ) : EReal)
  | "eps" => some ((1 / 100000000 : ℝ) : EReal)
  | "m_range" => some ((Real.log 229376 : ℝ) : EReal)
  | "m_range_8" => some (((Real.log 229376) * (1 / 8) : ℝ) : EReal)
  | "tenth" => some ((1 / 10 : ℝ) : EReal)
  | "twentieth" => some ((1 / 20 : ℝ) : EReal)
  | "v_range" => some ((Real.log 3758096384 : ℝ) : EReal)
  | "v_range_8" => some (((Real.log 3758096384) * (1 / 8) : ℝ) : EReal)
  | _ => none

abbrev grid0 : Pipeline.Grid := .none

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x131072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x131072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x131072 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x131072 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x131072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x131072 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S256x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S256x131072 .fp8e5m2 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S256x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S256x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== Proof.FrameK.Common.lean ====
module

public import proofs.«01_k».proof.Proof.Gen.Kernel.Frame
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

local notation "𝕄" => MT nD τ sig Unit (Elt F) ℕ (UR sig nD τ) ℕ

/-- The whole buffer behind a memref, at some contents nothing names. -/
def held (c : Dev nD) {s : Shape} {sp : Space} {e : EltTy} (M : Memref sig .tc sp s e) : sProp 𝕄 :=
  iprop(∃ d, owns (c : Thread nD τ) M fullShare d)

/-- A buffer held at any raw contents is held. -/
theorem held_of (c : Dev nD) {s : Shape} {sp : Space} {e : EltTy} (M : Memref sig .tc sp s e)
    (f : Buf (Elt F) (M.view.loc (c : Thread nD τ))) :
    (M.view.loc (c : Thread nD τ) ↦[M.view.set]{fullShare} f : sProp 𝕄)
      ⊢ iprop(∃ d f, ⌜View.read (Elt F) M.view f = d⌝ ∗ View.loc c.tc M.view ↦[M.view.set]{fullShare} f) := by
  iintro H
  iexists _, _
  isplitr; swap; · iexact H
  ipureintro; rfl

/-- A whole memref's buffer at its unread contents is owned at those contents. -/
theorem owns_unread (c : Dev nD) {s : Shape} {sp : Space} {e : EltTy} (M : Memref sig .tc sp s e) (hM : M.IsWhole)
    (x : s.Idx → Elt F e) :
    (M.view.loc (c : Thread nD τ) ↦[M.view.set]{fullShare} hM.unread x : sProp 𝕄)
      ⊢ iprop(∃ f, ⌜View.read (Elt F) M.view f = x⌝ ∗ View.loc c.tc M.view ↦[M.view.set]{fullShare} f) := by
  iintro H
  iexists _
  isplitr; swap; · iexact H
  ipureintro; exact hM.read_unread _

/-- The condition of the body's first branch: the first grid point. -/
abbrev cond0 (i : grid0.Coords) : Prop :=
  (Scalar.cmpi .ne (Scalar.extui (Scalar.cmpi .eq (BitVec.ofNat 32 (i 0).val) 0#32)) 0#32) = 1#1

theorem cond0_iff (t : Fin cfg0.N) : cond0 (grid0.coords t) ↔ t.val = 0 := by
  have ht : t.val < 129 := Nat.lt_of_lt_of_eq t.isLt N_0
  have e0 : (grid0.coords t 0).val = t.val / 1 % 129 := Pipeline.Grid.coords_val t 0 (by decide) rfl
  have h : cond0 (grid0.coords t) ↔ t.val % 129 = 0 := by
    simp only [cond0, e0]
    word_cmp
  rw [h]; omega

/-- The condition of the body's last branch: the last grid point. -/
abbrev cond1 (i : grid0.Coords) : Prop := k0_cond2 i = 1#1

theorem cond1_iff (t : Fin cfg0.N) : cond1 (grid0.coords t) ↔ t.val = 128 := by
  have ht : t.val < 129 := Nat.lt_of_lt_of_eq t.isLt N_0
  have e0 : (grid0.coords t 0).val = t.val / 1 % 129 := Pipeline.Grid.coords_val t 0 (by decide) rfl
  have h : cond1 (grid0.coords t) ↔ t.val % 129 = 128 := by
    simp only [cond1, k0_cond2, e0]
    word_cmp
  rw [h]; omega

/-- Where a step writes the new parameters of the step before: eight rows per step. -/
theorem off1_eq : ∀ i : grid0.Coords, k0_off1 i = ![8 * ((i 0).val - 1), 0] := by decide +kernel
instance closedOff_off1 (i : grid0.Coords) : ClosedOff (k0_off1 i) := ⟨![8 * ((i 0).val - 1), 0], off1_eq i⟩

/-- Window 0's current staging memref at a point, and that it is whole. -/
abbrev ms0 (t : Fin cfg0.N) : Memref sig .tc .smem S1 .i32 := win0_0.stage (cfg0.slots t 0)
abbrev hs0 (t : Fin cfg0.N) : (ms0 t).IsWhole := hstage0_0 ((cfg0.slots t 0).cast nbuf0_0)
/-- Window 1's current staging memref at a point, and that it is whole. -/
abbrev ms1 (t : Fin cfg0.N) : Memref sig .tc .vmem S256x1024 .f32 := win0_1.stage (cfg0.slots t 1)
abbrev hs1 (t : Fin cfg0.N) : (ms1 t).IsWhole := hstage0_1 ((cfg0.slots t 1).cast nbuf0_1)
/-- Window 2's current staging memref at a point, and that it is whole. -/
abbrev ms2 (t : Fin cfg0.N) : Memref sig .tc .vmem S256x1024 .bf16 := win0_2.stage (cfg0.slots t 2)
abbrev hs2 (t : Fin cfg0.N) : (ms2 t).IsWhole := hstage0_2 ((cfg0.slots t 2).cast nbuf0_2)
/-- Window 3's current staging memref at a point, and that it is whole. -/
abbrev ms3 (t : Fin cfg0.N) : Memref sig .tc .vmem S256x1024 .fp8e4m3 := win0_3.stage (cfg0.slots t 3)
abbrev hs3 (t : Fin cfg0.N) : (ms3 t).IsWhole := hstage0_3 ((cfg0.slots t 3).cast nbuf0_3)
/-- Window 4's current staging memref at a point, and that it is whole. -/
abbrev ms4 (t : Fin cfg0.N) : Memref sig .tc .vmem S256x1024 .fp8e5m2 := win0_4.stage (cfg0.slots t 4)
abbrev hs4 (t : Fin cfg0.N) : (ms4 t).IsWhole := hstage0_4 ((cfg0.slots t 4).cast nbuf0_4)
/-- Window 5's current staging memref at a point, and that it is whole. -/
abbrev ms5 (t : Fin cfg0.N) : Memref sig .tc .vmem S256x1024 .f32 := win0_5.stage (cfg0.slots t 5)
abbrev hs5 (t : Fin cfg0.N) : (ms5 t).IsWhole := hstage0_5 ((cfg0.slots t 5).cast nbuf0_5)
/-- Window 6's current staging memref at a point, and that it is whole. -/
abbrev ms6 (t : Fin cfg0.N) : Memref sig .tc .vmem S256x1024 .f32 := win0_6.stage (cfg0.slots t 6)
abbrev hs6 (t : Fin cfg0.N) : (ms6 t).IsWhole := hstage0_6 ((cfg0.slots t 6).cast nbuf0_6)
/-- Window 7's current staging memref at a point, and that it is whole. -/
abbrev ms7 (t : Fin cfg0.N) : Memref sig .tc .vmem S256x1024 .f32 := win0_7.stage (cfg0.slots t 7)
abbrev hs7 (t : Fin cfg0.N) : (ms7 t).IsWhole := hstage0_7 ((cfg0.slots t 7).cast nbuf0_7)
/-- Window 8's current staging memref at a point, and that it is whole. -/
abbrev ms8 (t : Fin cfg0.N) : Memref sig .tc .vmem S256x1024 .f32 := win0_8.stage (cfg0.slots t 8)
abbrev hs8 (t : Fin cfg0.N) : (ms8 t).IsWhole := hstage0_8 ((cfg0.slots t 8).cast nbuf0_8)
/-- Window 9's current staging memref at a point, and that it is whole. -/
abbrev ms9 (t : Fin cfg0.N) : Memref sig .tc .vmem S256x1024 .f32 := win0_9.stage (cfg0.slots t 9)
abbrev hs9 (t : Fin cfg0.N) : (ms9 t).IsWhole := hstage0_9 ((cfg0.slots t 9).cast nbuf0_9)
/-- Window 10's current staging memref at a point, and that it is whole. -/
abbrev ms10 (t : Fin cfg0.N) : Memref sig .tc .vmem S256x1024 .fp8e4m3 := win0_10.stage (cfg0.slots t 10)
abbrev hs10 (t : Fin cfg0.N) : (ms10 t).IsWhole := hstage0_10 ((cfg0.slots t 10).cast nbuf0_10)
/-- Window 11's current staging memref at a point, and that it is whole. -/
abbrev ms11 (t : Fin cfg0.N) : Memref sig .tc .vmem S256x1024 .f32 := win0_11.stage (cfg0.slots t 11)
abbrev hs11 (t : Fin cfg0.N) : (ms11 t).IsWhole := hstage0_11 ((cfg0.slots t 11).cast nbuf0_11)
/-- Window 12's current staging memref at a point, and that it is whole. -/
abbrev ms12 (t : Fin cfg0.N) : Memref sig .tc .vmem S256x1024 .f32 := win0_12.stage (cfg0.slots t 12)
abbrev hs12 (t : Fin cfg0.N) : (ms12 t).IsWhole := hstage0_12 ((cfg0.slots t 12).cast nbuf0_12)
/-- Window 13's current staging memref at a point, and that it is whole. -/
abbrev ms13 (t : Fin cfg0.N) : Memref sig .tc .vmem S256x1024 .fp8e5m2 := win0_13.stage (cfg0.slots t 13)
abbrev hs13 (t : Fin cfg0.N) : (ms13 t).IsWhole := hstage0_13 ((cfg0.slots t 13).cast nbuf0_13)
/-- Window 14's current staging memref at a point, and that it is whole. -/
abbrev ms14 (t : Fin cfg0.N) : Memref sig .tc .vmem S256x1024 .f32 := win0_14.stage (cfg0.slots t 14)
abbrev hs14 (t : Fin cfg0.N) : (ms14 t).IsWhole := hstage0_14 ((cfg0.slots t 14).cast nbuf0_14)
/-- Window 15's current staging memref at a point, and that it is whole. -/
abbrev ms15 (t : Fin cfg0.N) : Memref sig .tc .vmem S256x1024 .f32 := win0_15.stage (cfg0.slots t 15)
abbrev hs15 (t : Fin cfg0.N) : (ms15 t).IsWhole := hstage0_15 ((cfg0.slots t 15).cast nbuf0_15)
abbrev sc0 : Memref sig .tc .vmem S1024x256 .f32 := Memref.whole cc0_scratch0
abbrev sc1 : Memref sig .tc .vmem S1024x256 .f32 := Memref.whole cc0_scratch1
abbrev sc2 : Memref sig .tc .vmem S1024x256 .f32 := Memref.whole cc0_scratch2
abbrev sc3 : Memref sig .tc .vmem S1024x256 .f32 := Memref.whole cc0_scratch3
abbrev sc4 : Memref sig .tc .vmem S4x8x256 .f32 := Memref.whole cc0_scratch4
abbrev sc5 : Memref sig .tc .vmem S1024x256 .f32 := Memref.whole cc0_scratch5
abbrev sc6 : Memref sig .tc .vmem S1024x256 .f32 := Memref.whole cc0_scratch6
abbrev sc7 : Memref sig .tc .vmem S1024x256 .f32 := Memref.whole cc0_scratch7
abbrev sc8 : Memref sig .tc .vmem S1024x256 .f32 := Memref.whole cc0_scratch8
abbrev sc9 : Memref sig .tc .vmem S1024x256 .f32 := Memref.whole cc0_scratch9
abbrev sc10 : Memref sig .tc .vmem S1024x256 .f32 := Memref.whole cc0_scratch10
abbrev sc11 : Memref sig .tc .vmem S1024x256 .f32 := Memref.whole cc0_scratch11
abbrev sc12 : Memref sig .tc .vmem S1024x256 .f32 := Memref.whole cc0_scratch12

/-- The kit's invariant with the scratch buffers as held memrefs. -/
theorem PhiA_eq (c : Dev nD) :
    (Pipeline.ΦA spec0 c : sProp 𝕄)
      = iprop(iprop(held c sc0 ∗ held c sc1 ∗ held c sc2 ∗ held c sc3 ∗ held c sc4 ∗ held c sc5 ∗ held c sc6 ∗ held c sc7 ∗ held c sc8 ∗ held c sc9 ∗ held c sc10 ∗ held c sc11 ∗ held c sc12) ∗ (∃ r, prngReg c r)) := by
  unfold Pipeline.ΦA held; rw [scopedRest0_eq]
  simp only [sc0, sc1, sc2, sc3, sc4, sc5, sc6, sc7, sc8, sc9, sc10, sc11, sc12, owns_whole]; try rfl

theorem defs₀_row (t : Fin cfg0.N) :
    defs₀ (F := F) .tc cfg0.body (cfg0.bodyArgs t (cfg0.slots t)) = bodyAt0 t := by
  unfold defs₀; rw [Defs.onTc_tc]

end Cert.Kernel.Hand

end
-- ==== Proof.FrameK.RunA.lean ====
module

public import proofs.«01_k».proof.Proof.Gen.Kernel.Frame
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.FrameK.Common

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

local notation "𝕄" => MT nD τ sig Unit (Elt F) ℕ (UR sig nD τ) ℕ

set_option maxHeartbeats 4000000 in
/-- One step of the kernel body at the first grid point: the inputs' buffers are as they were, every other buffer is held. -/
theorem run_TF (c : Dev nD) (i : grid0.Coords)
  (arg1 : Memref sig .tc .smem S1 .i32) (harg1 : arg1.IsWhole)
  (arg2 : Memref sig .tc .vmem S256x1024 .f32) (harg2 : arg2.IsWhole)
  (arg3 : Memref sig .tc .vmem S256x1024 .bf16) (harg3 : arg3.IsWhole)
  (arg4 : Memref sig .tc .vmem S256x1024 .fp8e4m3) (harg4 : arg4.IsWhole)
  (arg5 : Memref sig .tc .vmem S256x1024 .fp8e5m2) (harg5 : arg5.IsWhole)
  (arg6 : Memref sig .tc .vmem S256x1024 .f32) (harg6 : arg6.IsWhole)
  (arg7 : Memref sig .tc .vmem S256x1024 .f32) (harg7 : arg7.IsWhole)
  (arg8 : Memref sig .tc .vmem S256x1024 .f32) (harg8 : arg8.IsWhole)
  (arg9 : Memref sig .tc .vmem S256x1024 .f32) (harg9 : arg9.IsWhole)
  (arg10 : Memref sig .tc .vmem S256x1024 .f32) (harg10 : arg10.IsWhole)
  (arg11 : Memref sig .tc .vmem S256x1024 .fp8e4m3) (harg11 : arg11.IsWhole)
  (arg12 : Memref sig .tc .vmem S256x1024 .f32) (harg12 : arg12.IsWhole)
  (arg13 : Memref sig .tc .vmem S256x1024 .f32) (harg13 : arg13.IsWhole)
  (arg14 : Memref sig .tc .vmem S256x1024 .fp8e5m2) (harg14 : arg14.IsWhole)
  (arg15 : Memref sig .tc .vmem S256x1024 .f32) (harg15 : arg15.IsWhole)
  (arg16 : Memref sig .tc .vmem S256x1024 .f32) (harg16 : arg16.IsWhole)
  (arg17 : Memref sig .tc .vmem S1024x256 .f32) (harg17 : arg17.IsWhole)
  (arg18 : Memref sig .tc .vmem S1024x256 .f32) (harg18 : arg18.IsWhole)
  (arg19 : Memref sig .tc .vmem S1024x256 .f32) (harg19 : arg19.IsWhole)
  (arg20 : Memref sig .tc .vmem S1024x256 .f32) (harg20 : arg20.IsWhole)
  (arg21 : Memref sig .tc .vmem S4x8x256 .f32) (harg21 : arg21.IsWhole)
  (arg22 : Memref sig .tc .vmem S1024x256 .f32) (harg22 : arg22.IsWhole)
  (arg23 : Memref sig .tc .vmem S1024x256 .f32) (harg23 : arg23.IsWhole)
  (arg24 : Memref sig .tc .vmem S1024x256 .f32) (harg24 : arg24.IsWhole)
  (arg25 : Memref sig .tc .vmem S1024x256 .f32) (harg25 : arg25.IsWhole)
  (arg26 : Memref sig .tc .vmem S1024x256 .f32) (harg26 : arg26.IsWhole)
  (arg27 : Memref sig .tc .vmem S1024x256 .f32) (harg27 : arg27.IsWhole)
  (arg28 : Memref sig .tc .vmem S1024x256 .f32) (harg28 : arg28.IsWhole)
  (arg29 : Memref sig .tc .vmem S1024x256 .f32) (harg29 : arg29.IsWhole)
  (hc0 : cond0 i) (hc1 : ¬cond1 i)
  (x0 : Vec F S1 .i32)
  (x1 : Vec F S256x1024 .f32)
  (x2 : Vec F S256x1024 .bf16)
  (x3 : Vec F S256x1024 .fp8e4m3)
  (x4 : Vec F S256x1024 .fp8e5m2)
  (x5 : Vec F S256x1024 .f32)
  (x6 : Vec F S256x1024 .f32)
  (x7 : Vec F S256x1024 .f32)
  (x8 : Vec F S256x1024 .f32)
  (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8 ∗ held c arg10 ∗ held c arg11 ∗ held c arg12
        ∗ held c arg13 ∗ held c arg14 ∗ held c arg15 ∗ held c arg16 ∗ held c arg17 ∗ held c arg18
        ∗ held c arg19 ∗ held c arg20 ∗ held c arg21 ∗ held c arg22 ∗ held c arg23 ∗ held c arg24
        ∗ held c arg25 ∗ held c arg26 ∗ held c arg27 ∗ held c arg28 ∗ held c arg29
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8 ∗ held c arg10 ∗ held c arg11 ∗ held c arg12
        ∗ held c arg13 ∗ held c arg14 ∗ held c arg15 ∗ held c arg16 ∗ held c arg17 ∗ held c arg18
        ∗ held c arg19 ∗ held c arg20 ∗ held c arg21 ∗ held c arg22 ∗ held c arg23 ∗ held c arg24
        ∗ held c arg25 ∗ held c arg26 ∗ held c arg27 ∗ held c arg28 ∗ held c arg29) -∗ K ⟨⟩))
      ⊢ wp frame (wpE (defs₀ (F := F)) Variants.none c none) E (cc0_adamw_dre i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  simp only [cc0_adamw_dre_eq_skeleton]; unfold cc0_adamw_dre_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
  unfold held owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  sl_exec (disch := first | sl_exact hc0 | sl_exact hc1)
  sl_step
  iapply Hk
  isplitl [H0]; · iapply (owns_unread c arg1 harg1 x0); iexact H0
  isplitl [H1]; · iapply (owns_unread c arg2 harg2 x1); iexact H1
  isplitl [H2]; · iapply (owns_unread c arg3 harg3 x2); iexact H2
  isplitl [H3]; · iapply (owns_unread c arg4 harg4 x3); iexact H3
  isplitl [H4]; · iapply (owns_unread c arg5 harg5 x4); iexact H4
  isplitl [H5]; · iapply (owns_unread c arg6 harg6 x5); iexact H5
  isplitl [H6]; · iapply (owns_unread c arg7 harg7 x6); iexact H6
  isplitl [H7]; · iapply (owns_unread c arg8 harg8 x7); iexact H7
  isplitl [H8]; · iapply (owns_unread c arg9 harg9 x8); iexact H8
  isplitl [H9]; · iapply (held_of c arg10 _); iexact H9
  isplitl [H10]; · iapply (held_of c arg11 _); iexact H10
  isplitl [H11]; · iapply (held_of c arg12 _); iexact H11
  isplitl [H12]; · iapply (held_of c arg13 _); iexact H12
  isplitl [H13]; · iapply (held_of c arg14 _); iexact H13
  isplitl [H14]; · iapply (held_of c arg15 _); iexact H14
  isplitl [H15]; · iapply (held_of c arg16 _); iexact H15
  isplitl [H16]; · iapply (held_of c arg17 _); iexact H16
  isplitl [H17]; · iapply (held_of c arg18 _); iexact H17
  isplitl [H18]; · iapply (held_of c arg19 _); iexact H18
  isplitl [H19]; · iapply (held_of c arg20 _); iexact H19
  isplitl [H20]; · iapply (held_of c arg21 _); iexact H20
  isplitl [H21]; · iapply (held_of c arg22 _); iexact H21
  isplitl [H22]; · iapply (held_of c arg23 _); iexact H22
  isplitl [H23]; · iapply (held_of c arg24 _); iexact H23
  isplitl [H24]; · iapply (held_of c arg25 _); iexact H24
  isplitl [H25]; · iapply (held_of c arg26 _); iexact H25
  isplitl [H26]; · iapply (held_of c arg27 _); iexact H26
  isplitl [H27]; · iapply (held_of c arg28 _); iexact H27
  iapply (held_of c arg29 _); iexact H28

end Cert.Kernel.Hand

end
-- ==== Proof.FrameK.RunB.lean ====
module

public import proofs.«01_k».proof.Proof.Gen.Kernel.Frame
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.FrameK.RunA

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

local notation "𝕄" => MT nD τ sig Unit (Elt F) ℕ (UR sig nD τ) ℕ

set_option maxHeartbeats 4000000 in
/-- One step of the kernel body between the first and the last grid point: the inputs' buffers are as they were, every other buffer is held. -/
theorem run_FF (c : Dev nD) (i : grid0.Coords)
  (arg1 : Memref sig .tc .smem S1 .i32) (harg1 : arg1.IsWhole)
  (arg2 : Memref sig .tc .vmem S256x1024 .f32) (harg2 : arg2.IsWhole)
  (arg3 : Memref sig .tc .vmem S256x1024 .bf16) (harg3 : arg3.IsWhole)
  (arg4 : Memref sig .tc .vmem S256x1024 .fp8e4m3) (harg4 : arg4.IsWhole)
  (arg5 : Memref sig .tc .vmem S256x1024 .fp8e5m2) (harg5 : arg5.IsWhole)
  (arg6 : Memref sig .tc .vmem S256x1024 .f32) (harg6 : arg6.IsWhole)
  (arg7 : Memref sig .tc .vmem S256x1024 .f32) (harg7 : arg7.IsWhole)
  (arg8 : Memref sig .tc .vmem S256x1024 .f32) (harg8 : arg8.IsWhole)
  (arg9 : Memref sig .tc .vmem S256x1024 .f32) (harg9 : arg9.IsWhole)
  (arg10 : Memref sig .tc .vmem S256x1024 .f32) (harg10 : arg10.IsWhole)
  (arg11 : Memref sig .tc .vmem S256x1024 .fp8e4m3) (harg11 : arg11.IsWhole)
  (arg12 : Memref sig .tc .vmem S256x1024 .f32) (harg12 : arg12.IsWhole)
  (arg13 : Memref sig .tc .vmem S256x1024 .f32) (harg13 : arg13.IsWhole)
  (arg14 : Memref sig .tc .vmem S256x1024 .fp8e5m2) (harg14 : arg14.IsWhole)
  (arg15 : Memref sig .tc .vmem S256x1024 .f32) (harg15 : arg15.IsWhole)
  (arg16 : Memref sig .tc .vmem S256x1024 .f32) (harg16 : arg16.IsWhole)
  (arg17 : Memref sig .tc .vmem S1024x256 .f32) (harg17 : arg17.IsWhole)
  (arg18 : Memref sig .tc .vmem S1024x256 .f32) (harg18 : arg18.IsWhole)
  (arg19 : Memref sig .tc .vmem S1024x256 .f32) (harg19 : arg19.IsWhole)
  (arg20 : Memref sig .tc .vmem S1024x256 .f32) (harg20 : arg20.IsWhole)
  (arg21 : Memref sig .tc .vmem S4x8x256 .f32) (harg21 : arg21.IsWhole)
  (arg22 : Memref sig .tc .vmem S1024x256 .f32) (harg22 : arg22.IsWhole)
  (arg23 : Memref sig .tc .vmem S1024x256 .f32) (harg23 : arg23.IsWhole)
  (arg24 : Memref sig .tc .vmem S1024x256 .f32) (harg24 : arg24.IsWhole)
  (arg25 : Memref sig .tc .vmem S1024x256 .f32) (harg25 : arg25.IsWhole)
  (arg26 : Memref sig .tc .vmem S1024x256 .f32) (harg26 : arg26.IsWhole)
  (arg27 : Memref sig .tc .vmem S1024x256 .f32) (harg27 : arg27.IsWhole)
  (arg28 : Memref sig .tc .vmem S1024x256 .f32) (harg28 : arg28.IsWhole)
  (arg29 : Memref sig .tc .vmem S1024x256 .f32) (harg29 : arg29.IsWhole)
  (hc0 : ¬cond0 i) (hc1 : ¬cond1 i)
  (x0 : Vec F S1 .i32)
  (x1 : Vec F S256x1024 .f32)
  (x2 : Vec F S256x1024 .bf16)
  (x3 : Vec F S256x1024 .fp8e4m3)
  (x4 : Vec F S256x1024 .fp8e5m2)
  (x5 : Vec F S256x1024 .f32)
  (x6 : Vec F S256x1024 .f32)
  (x7 : Vec F S256x1024 .f32)
  (x8 : Vec F S256x1024 .f32)
  (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8 ∗ held c arg10 ∗ held c arg11 ∗ held c arg12
        ∗ held c arg13 ∗ held c arg14 ∗ held c arg15 ∗ held c arg16 ∗ held c arg17 ∗ held c arg18
        ∗ held c arg19 ∗ held c arg20 ∗ held c arg21 ∗ held c arg22 ∗ held c arg23 ∗ held c arg24
        ∗ held c arg25 ∗ held c arg26 ∗ held c arg27 ∗ held c arg28 ∗ held c arg29
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8 ∗ held c arg10 ∗ held c arg11 ∗ held c arg12
        ∗ held c arg13 ∗ held c arg14 ∗ held c arg15 ∗ held c arg16 ∗ held c arg17 ∗ held c arg18
        ∗ held c arg19 ∗ held c arg20 ∗ held c arg21 ∗ held c arg22 ∗ held c arg23 ∗ held c arg24
        ∗ held c arg25 ∗ held c arg26 ∗ held c arg27 ∗ held c arg28 ∗ held c arg29) -∗ K ⟨⟩))
      ⊢ wp frame (wpE (defs₀ (F := F)) Variants.none c none) E (cc0_adamw_dre i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  simp only [cc0_adamw_dre_eq_skeleton]; unfold cc0_adamw_dre_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
  unfold held owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  sl_exec (disch := first | sl_exact hc0 | sl_exact hc1)
  sl_step
  iapply Hk
  isplitl [H0]; · iapply (owns_unread c arg1 harg1 x0); iexact H0
  isplitl [H1]; · iapply (owns_unread c arg2 harg2 x1); iexact H1
  isplitl [H2]; · iapply (owns_unread c arg3 harg3 x2); iexact H2
  isplitl [H3]; · iapply (owns_unread c arg4 harg4 x3); iexact H3
  isplitl [H4]; · iapply (owns_unread c arg5 harg5 x4); iexact H4
  isplitl [H5]; · iapply (owns_unread c arg6 harg6 x5); iexact H5
  isplitl [H6]; · iapply (owns_unread c arg7 harg7 x6); iexact H6
  isplitl [H7]; · iapply (owns_unread c arg8 harg8 x7); iexact H7
  isplitl [H8]; · iapply (owns_unread c arg9 harg9 x8); iexact H8
  isplitl [H9]; · iapply (held_of c arg10 _); iexact H9
  isplitl [H10]; · iapply (held_of c arg11 _); iexact H10
  isplitl [H11]; · iapply (held_of c arg12 _); iexact H11
  isplitl [H12]; · iapply (held_of c arg13 _); iexact H12
  isplitl [H13]; · iapply (held_of c arg14 _); iexact H13
  isplitl [H14]; · iapply (held_of c arg15 _); iexact H14
  isplitl [H15]; · iapply (held_of c arg16 _); iexact H15
  isplitl [H16]; · iapply (held_of c arg17 _); iexact H16
  isplitl [H17]; · iapply (held_of c arg18 _); iexact H17
  isplitl [H18]; · iapply (held_of c arg19 _); iexact H18
  isplitl [H19]; · iapply (held_of c arg20 _); iexact H19
  isplitl [H20]; · iapply (held_of c arg21 _); iexact H20
  isplitl [H21]; · iapply (held_of c arg22 _); iexact H21
  isplitl [H22]; · iapply (held_of c arg23 _); iexact H22
  isplitl [H23]; · iapply (held_of c arg24 _); iexact H23
  isplitl [H24]; · iapply (held_of c arg25 _); iexact H24
  isplitl [H25]; · iapply (held_of c arg26 _); iexact H25
  isplitl [H26]; · iapply (held_of c arg27 _); iexact H26
  isplitl [H27]; · iapply (held_of c arg28 _); iexact H27
  iapply (held_of c arg29 _); iexact H28

end Cert.Kernel.Hand

end
-- ==== Proof.FrameK.RunC.lean ====
module

public import proofs.«01_k».proof.Proof.Gen.Kernel.Frame
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.FrameK.RunB

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

local notation "𝕄" => MT nD τ sig Unit (Elt F) ℕ (UR sig nD τ) ℕ

set_option maxHeartbeats 4000000 in
/-- One step of the kernel body at the last grid point: the inputs' buffers are as they were, every other buffer is held. -/
theorem run_FT (c : Dev nD) (i : grid0.Coords)
  (arg1 : Memref sig .tc .smem S1 .i32) (harg1 : arg1.IsWhole)
  (arg2 : Memref sig .tc .vmem S256x1024 .f32) (harg2 : arg2.IsWhole)
  (arg3 : Memref sig .tc .vmem S256x1024 .bf16) (harg3 : arg3.IsWhole)
  (arg4 : Memref sig .tc .vmem S256x1024 .fp8e4m3) (harg4 : arg4.IsWhole)
  (arg5 : Memref sig .tc .vmem S256x1024 .fp8e5m2) (harg5 : arg5.IsWhole)
  (arg6 : Memref sig .tc .vmem S256x1024 .f32) (harg6 : arg6.IsWhole)
  (arg7 : Memref sig .tc .vmem S256x1024 .f32) (harg7 : arg7.IsWhole)
  (arg8 : Memref sig .tc .vmem S256x1024 .f32) (harg8 : arg8.IsWhole)
  (arg9 : Memref sig .tc .vmem S256x1024 .f32) (harg9 : arg9.IsWhole)
  (arg10 : Memref sig .tc .vmem S256x1024 .f32) (harg10 : arg10.IsWhole)
  (arg11 : Memref sig .tc .vmem S256x1024 .fp8e4m3) (harg11 : arg11.IsWhole)
  (arg12 : Memref sig .tc .vmem S256x1024 .f32) (harg12 : arg12.IsWhole)
  (arg13 : Memref sig .tc .vmem S256x1024 .f32) (harg13 : arg13.IsWhole)
  (arg14 : Memref sig .tc .vmem S256x1024 .fp8e5m2) (harg14 : arg14.IsWhole)
  (arg15 : Memref sig .tc .vmem S256x1024 .f32) (harg15 : arg15.IsWhole)
  (arg16 : Memref sig .tc .vmem S256x1024 .f32) (harg16 : arg16.IsWhole)
  (arg17 : Memref sig .tc .vmem S1024x256 .f32) (harg17 : arg17.IsWhole)
  (arg18 : Memref sig .tc .vmem S1024x256 .f32) (harg18 : arg18.IsWhole)
  (arg19 : Memref sig .tc .vmem S1024x256 .f32) (harg19 : arg19.IsWhole)
  (arg20 : Memref sig .tc .vmem S1024x256 .f32) (harg20 : arg20.IsWhole)
  (arg21 : Memref sig .tc .vmem S4x8x256 .f32) (harg21 : arg21.IsWhole)
  (arg22 : Memref sig .tc .vmem S1024x256 .f32) (harg22 : arg22.IsWhole)
  (arg23 : Memref sig .tc .vmem S1024x256 .f32) (harg23 : arg23.IsWhole)
  (arg24 : Memref sig .tc .vmem S1024x256 .f32) (harg24 : arg24.IsWhole)
  (arg25 : Memref sig .tc .vmem S1024x256 .f32) (harg25 : arg25.IsWhole)
  (arg26 : Memref sig .tc .vmem S1024x256 .f32) (harg26 : arg26.IsWhole)
  (arg27 : Memref sig .tc .vmem S1024x256 .f32) (harg27 : arg27.IsWhole)
  (arg28 : Memref sig .tc .vmem S1024x256 .f32) (harg28 : arg28.IsWhole)
  (arg29 : Memref sig .tc .vmem S1024x256 .f32) (harg29 : arg29.IsWhole)
  (hc0 : ¬cond0 i) (hc1 : cond1 i)
  (x0 : Vec F S1 .i32)
  (x1 : Vec F S256x1024 .f32)
  (x2 : Vec F S256x1024 .bf16)
  (x3 : Vec F S256x1024 .fp8e4m3)
  (x4 : Vec F S256x1024 .fp8e5m2)
  (x5 : Vec F S256x1024 .f32)
  (x6 : Vec F S256x1024 .f32)
  (x7 : Vec F S256x1024 .f32)
  (x8 : Vec F S256x1024 .f32)
  (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8 ∗ held c arg10 ∗ held c arg11 ∗ held c arg12
        ∗ held c arg13 ∗ held c arg14 ∗ held c arg15 ∗ held c arg16 ∗ held c arg17 ∗ held c arg18
        ∗ held c arg19 ∗ held c arg20 ∗ held c arg21 ∗ held c arg22 ∗ held c arg23 ∗ held c arg24
        ∗ held c arg25 ∗ held c arg26 ∗ held c arg27 ∗ held c arg28 ∗ held c arg29
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8 ∗ held c arg10 ∗ held c arg11 ∗ held c arg12
        ∗ held c arg13 ∗ held c arg14 ∗ held c arg15 ∗ held c arg16 ∗ held c arg17 ∗ held c arg18
        ∗ held c arg19 ∗ held c arg20 ∗ held c arg21 ∗ held c arg22 ∗ held c arg23 ∗ held c arg24
        ∗ held c arg25 ∗ held c arg26 ∗ held c arg27 ∗ held c arg28 ∗ held c arg29) -∗ K ⟨⟩))
      ⊢ wp frame (wpE (defs₀ (F := F)) Variants.none c none) E (cc0_adamw_dre i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  simp only [cc0_adamw_dre_eq_skeleton]; unfold cc0_adamw_dre_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
  unfold held owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  sl_exec (disch := first | sl_exact hc0 | sl_exact hc1)
  sl_step
  iapply Hk
  isplitl [H0]; · iapply (owns_unread c arg1 harg1 x0); iexact H0
  isplitl [H1]; · iapply (owns_unread c arg2 harg2 x1); iexact H1
  isplitl [H2]; · iapply (owns_unread c arg3 harg3 x2); iexact H2
  isplitl [H3]; · iapply (owns_unread c arg4 harg4 x3); iexact H3
  isplitl [H4]; · iapply (owns_unread c arg5 harg5 x4); iexact H4
  isplitl [H5]; · iapply (owns_unread c arg6 harg6 x5); iexact H5
  isplitl [H6]; · iapply (owns_unread c arg7 harg7 x6); iexact H6
  isplitl [H7]; · iapply (owns_unread c arg8 harg8 x7); iexact H7
  isplitl [H8]; · iapply (owns_unread c arg9 harg9 x8); iexact H8
  isplitl [H9]; · iapply (held_of c arg10 _); iexact H9
  isplitl [H10]; · iapply (held_of c arg11 _); iexact H10
  isplitl [H11]; · iapply (held_of c arg12 _); iexact H11
  isplitl [H12]; · iapply (held_of c arg13 _); iexact H12
  isplitl [H13]; · iapply (held_of c arg14 _); iexact H13
  isplitl [H14]; · iapply (held_of c arg15 _); iexact H14
  isplitl [H15]; · iapply (held_of c arg16 _); iexact H15
  isplitl [H16]; · iapply (held_of c arg17 _); iexact H16
  isplitl [H17]; · iapply (held_of c arg18 _); iexact H17
  isplitl [H18]; · iapply (held_of c arg19 _); iexact H18
  isplitl [H19]; · iapply (held_of c arg20 _); iexact H19
  isplitl [H20]; · iapply (held_of c arg21 _); iexact H20
  isplitl [H21]; · iapply (held_of c arg22 _); iexact H21
  isplitl [H22]; · iapply (held_of c arg23 _); iexact H22
  isplitl [H23]; · iapply (held_of c arg24 _); iexact H23
  isplitl [H24]; · iapply (held_of c arg25 _); iexact H24
  isplitl [H25]; · iapply (held_of c arg26 _); iexact H25
  isplitl [H26]; · iapply (held_of c arg27 _); iexact H26
  isplitl [H27]; · iapply (held_of c arg28 _); iexact H27
  iapply (held_of c arg29 _); iexact H28

end Cert.Kernel.Hand

end
-- ==== Proof.FrameK.Frame.lean ====
module

public import proofs.«01_k».proof.Proof.Gen.Kernel.Frame
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.FrameK.RunA
public import proofs.«01_k».proof.Proof.FrameK.RunB
public import proofs.«01_k».proof.Proof.FrameK.RunC

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

/-- One step of the kernel body at any grid point. -/
theorem run_any (c : Dev nD) (t : Fin cfg0.N)
  (arg1 : Memref sig .tc .smem S1 .i32) (harg1 : arg1.IsWhole)
  (arg2 : Memref sig .tc .vmem S256x1024 .f32) (harg2 : arg2.IsWhole)
  (arg3 : Memref sig .tc .vmem S256x1024 .bf16) (harg3 : arg3.IsWhole)
  (arg4 : Memref sig .tc .vmem S256x1024 .fp8e4m3) (harg4 : arg4.IsWhole)
  (arg5 : Memref sig .tc .vmem S256x1024 .fp8e5m2) (harg5 : arg5.IsWhole)
  (arg6 : Memref sig .tc .vmem S256x1024 .f32) (harg6 : arg6.IsWhole)
  (arg7 : Memref sig .tc .vmem S256x1024 .f32) (harg7 : arg7.IsWhole)
  (arg8 : Memref sig .tc .vmem S256x1024 .f32) (harg8 : arg8.IsWhole)
  (arg9 : Memref sig .tc .vmem S256x1024 .f32) (harg9 : arg9.IsWhole)
  (arg10 : Memref sig .tc .vmem S256x1024 .f32) (harg10 : arg10.IsWhole)
  (arg11 : Memref sig .tc .vmem S256x1024 .fp8e4m3) (harg11 : arg11.IsWhole)
  (arg12 : Memref sig .tc .vmem S256x1024 .f32) (harg12 : arg12.IsWhole)
  (arg13 : Memref sig .tc .vmem S256x1024 .f32) (harg13 : arg13.IsWhole)
  (arg14 : Memref sig .tc .vmem S256x1024 .fp8e5m2) (harg14 : arg14.IsWhole)
  (arg15 : Memref sig .tc .vmem S256x1024 .f32) (harg15 : arg15.IsWhole)
  (arg16 : Memref sig .tc .vmem S256x1024 .f32) (harg16 : arg16.IsWhole)
  (arg17 : Memref sig .tc .vmem S1024x256 .f32) (harg17 : arg17.IsWhole)
  (arg18 : Memref sig .tc .vmem S1024x256 .f32) (harg18 : arg18.IsWhole)
  (arg19 : Memref sig .tc .vmem S1024x256 .f32) (harg19 : arg19.IsWhole)
  (arg20 : Memref sig .tc .vmem S1024x256 .f32) (harg20 : arg20.IsWhole)
  (arg21 : Memref sig .tc .vmem S4x8x256 .f32) (harg21 : arg21.IsWhole)
  (arg22 : Memref sig .tc .vmem S1024x256 .f32) (harg22 : arg22.IsWhole)
  (arg23 : Memref sig .tc .vmem S1024x256 .f32) (harg23 : arg23.IsWhole)
  (arg24 : Memref sig .tc .vmem S1024x256 .f32) (harg24 : arg24.IsWhole)
  (arg25 : Memref sig .tc .vmem S1024x256 .f32) (harg25 : arg25.IsWhole)
  (arg26 : Memref sig .tc .vmem S1024x256 .f32) (harg26 : arg26.IsWhole)
  (arg27 : Memref sig .tc .vmem S1024x256 .f32) (harg27 : arg27.IsWhole)
  (arg28 : Memref sig .tc .vmem S1024x256 .f32) (harg28 : arg28.IsWhole)
  (arg29 : Memref sig .tc .vmem S1024x256 .f32) (harg29 : arg29.IsWhole)
  (x0 : Vec F S1 .i32)
  (x1 : Vec F S256x1024 .f32)
  (x2 : Vec F S256x1024 .bf16)
  (x3 : Vec F S256x1024 .fp8e4m3)
  (x4 : Vec F S256x1024 .fp8e5m2)
  (x5 : Vec F S256x1024 .f32)
  (x6 : Vec F S256x1024 .f32)
  (x7 : Vec F S256x1024 .f32)
  (x8 : Vec F S256x1024 .f32)
  (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8 ∗ held c arg10 ∗ held c arg11 ∗ held c arg12
        ∗ held c arg13 ∗ held c arg14 ∗ held c arg15 ∗ held c arg16 ∗ held c arg17 ∗ held c arg18
        ∗ held c arg19 ∗ held c arg20 ∗ held c arg21 ∗ held c arg22 ∗ held c arg23 ∗ held c arg24
        ∗ held c arg25 ∗ held c arg26 ∗ held c arg27 ∗ held c arg28 ∗ held c arg29
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8 ∗ held c arg10 ∗ held c arg11 ∗ held c arg12
        ∗ held c arg13 ∗ held c arg14 ∗ held c arg15 ∗ held c arg16 ∗ held c arg17 ∗ held c arg18
        ∗ held c arg19 ∗ held c arg20 ∗ held c arg21 ∗ held c arg22 ∗ held c arg23 ∗ held c arg24
        ∗ held c arg25 ∗ held c arg26 ∗ held c arg27 ∗ held c arg28 ∗ held c arg29) -∗ K ⟨⟩))
      ⊢ wp frame (wpE (defs₀ (F := F)) Variants.none c none) E (cc0_adamw_dre (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  by_cases h0 : t.val = 0
  · exact run_TF c _ _ _ _ _ _ _ _ _ _ _ _ _ _ _ _ _ _ _ _ _ _ _ _ _ _ _ _ _ _ _ _ _ _ _ _ _ _ _ _ _ _ _ _ _ _ _ _ _ _ _ _ _ _ _ _ _ _ _ ((cond0_iff t).mpr h0) (fun h => by have := (cond1_iff t).mp h; omega) _ _ _ _ _ _ _ _ _ E K
  by_cases h1 : t.val = 128
  · exact run_FT c _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((cond0_iff t).mp h)) ((cond1_iff t).mpr h1) _ _ _ _ _ _ _ _ _ E K
  · exact run_FF c _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((cond0_iff t).mp h)) (fun h => h1 ((cond1_iff t).mp h)) _ _ _ _ _ _ _ _ _ E K

/-- The output windows: nothing is said of what the kernel leaves there. -/
def forgets : Fin 16 → Bool := fun w => w.val == 9 || w.val == 10 || w.val == 11 || w.val == 12 || w.val == 13 || w.val == 14 || w.val == 15

/-- The proof data: the arrays as the region finds them, each input's buffer at its block, the outputs unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨_ + 16, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem before_0 (c : Dev nD) (t : Fin cfg0.N) (d) : (dats m 0 c).before 0 t d = iblk m c 0 t :=
  before0_0_of m (dats m 0 c) (A_eq m c 0) (fun t => by dsimp only [dats]) t d
theorem leaves_0 (c : Dev nD) (t : Fin cfg0.N) :
    (dats m 0 c).leavesExact 0 t = owns (c : Thread nD τ) (ms0 t) fullShare (iblk m c 0 t) := by
  unfold Dat.leavesExact; rw [show cfg0.idle 0 (grid0.coords t) = false from rfl]; dsimp only [dats]
theorem before_1 (c : Dev nD) (t : Fin cfg0.N) (d) : (dats m 0 c).before 1 t d = iblk m c 1 t :=
  before0_1_of m (dats m 0 c) (A_eq m c 1) (fun t => by dsimp only [dats]) t d
theorem leaves_1 (c : Dev nD) (t : Fin cfg0.N) :
    (dats m 0 c).leavesExact 1 t = owns (c : Thread nD τ) (ms1 t) fullShare (iblk m c 1 t) := by
  unfold Dat.leavesExact; rw [show cfg0.idle 1 (grid0.coords t) = false from rfl]; dsimp only [dats]
theorem before_2 (c : Dev nD) (t : Fin cfg0.N) (d) : (dats m 0 c).before 2 t d = iblk m c 2 t :=
  before0_2_of m (dats m 0 c) (A_eq m c 2) (fun t => by dsimp only [dats]) t d
theorem leaves_2 (c : Dev nD) (t : Fin cfg0.N) :
    (dats m 0 c).leavesExact 2 t = owns (c : Thread nD τ) (ms2 t) fullShare (iblk m c 2 t) := by
  unfold Dat.leavesExact; rw [show cfg0.idle 2 (grid0.coords t) = false from rfl]; dsimp only [dats]
theorem before_3 (c : Dev nD) (t : Fin cfg0.N) (d) : (dats m 0 c).before 3 t d = iblk m c 3 t :=
  before0_3_of m (dats m 0 c) (A_eq m c 3) (fun t => by dsimp only [dats]) t d
theorem leaves_3 (c : Dev nD) (t : Fin cfg0.N) :
    (dats m 0 c).leavesExact 3 t = owns (c : Thread nD τ) (ms3 t) fullShare (iblk m c 3 t) := by
  unfold Dat.leavesExact; rw [show cfg0.idle 3 (grid0.coords t) = false from rfl]; dsimp only [dats]
theorem before_4 (c : Dev nD) (t : Fin cfg0.N) (d) : (dats m 0 c).before 4 t d = iblk m c 4 t :=
  before0_4_of m (dats m 0 c) (A_eq m c 4) (fun t => by dsimp only [dats]) t d
theorem leaves_4 (c : Dev nD) (t : Fin cfg0.N) :
    (dats m 0 c).leavesExact 4 t = owns (c : Thread nD τ) (ms4 t) fullShare (iblk m c 4 t) := by
  unfold Dat.leavesExact; rw [show cfg0.idle 4 (grid0.coords t) = false from rfl]; dsimp only [dats]
theorem before_5 (c : Dev nD) (t : Fin cfg0.N) (d) : (dats m 0 c).before 5 t d = iblk m c 5 t :=
  before0_5_of m (dats m 0 c) (A_eq m c 5) (fun t => by dsimp only [dats]) t d
theorem leaves_5 (c : Dev nD) (t : Fin cfg0.N) :
    (dats m 0 c).leavesExact 5 t = owns (c : Thread nD τ) (ms5 t) fullShare (iblk m c 5 t) := by
  unfold Dat.leavesExact; rw [show cfg0.idle 5 (grid0.coords t) = false from rfl]; dsimp only [dats]
theorem before_6 (c : Dev nD) (t : Fin cfg0.N) (d) : (dats m 0 c).before 6 t d = iblk m c 6 t :=
  before0_6_of m (dats m 0 c) (A_eq m c 6) (fun t => by dsimp only [dats]) t d
theorem leaves_6 (c : Dev nD) (t : Fin cfg0.N) :
    (dats m 0 c).leavesExact 6 t = owns (c : Thread nD τ) (ms6 t) fullShare (iblk m c 6 t) := by
  unfold Dat.leavesExact; rw [show cfg0.idle 6 (grid0.coords t) = false from rfl]; dsimp only [dats]
theorem before_7 (c : Dev nD) (t : Fin cfg0.N) (d) : (dats m 0 c).before 7 t d = iblk m c 7 t :=
  before0_7_of m (dats m 0 c) (A_eq m c 7) (fun t => by dsimp only [dats]) t d
theorem leaves_7 (c : Dev nD) (t : Fin cfg0.N) :
    (dats m 0 c).leavesExact 7 t = owns (c : Thread nD τ) (ms7 t) fullShare (iblk m c 7 t) := by
  unfold Dat.leavesExact; rw [show cfg0.idle 7 (grid0.coords t) = false from rfl]; dsimp only [dats]
theorem before_8 (c : Dev nD) (t : Fin cfg0.N) (d) : (dats m 0 c).before 8 t d = iblk m c 8 t :=
  before0_8_of m (dats m 0 c) (A_eq m c 8) (fun t => by dsimp only [dats]) t d
theorem leaves_8 (c : Dev nD) (t : Fin cfg0.N) :
    (dats m 0 c).leavesExact 8 t = owns (c : Thread nD τ) (ms8 t) fullShare (iblk m c 8 t) := by
  unfold Dat.leavesExact; rw [show cfg0.idle 8 (grid0.coords t) = false from rfl]; dsimp only [dats]

/-- What the body is called with at a point, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ held c (ms9 t) ∗ held c (ms10 t) ∗ held c (ms11 t) ∗ held c (ms12 t) ∗ held c (ms13 t) ∗ held c (ms14 t) ∗ held c (ms15 t))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t
    ∗ held c (ms9 t) ∗ held c (ms10 t) ∗ held c (ms11 t) ∗ held c (ms12 t) ∗ held c (ms13 t) ∗ held c (ms14 t) ∗ held c (ms15 t))

set_option maxHeartbeats 4000000 in
/-- The body at any point, from `run_any`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, leaves_0, before_1, leaves_1, before_2, leaves_2, before_3, leaves_3, before_4, leaves_4, before_5, leaves_5, before_6, leaves_6, before_7, leaves_7, before_8, leaves_8]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA_eq]
  iintro ⟨⟨⟨S0, S1, S2, S3, S4, S5, S6, S7, S8, S9, S10, S11, S12⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11, H12, H13, H14, H15⟩
  iapply (run_any c t _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  iintro ⟨H0, H1, H2, H3, H4, H5, H6, H7, H8, H9, H10, H11, H12, H13, H14, H15, S0, S1, S2, S3, S4, S5, S6, S7, S8, S9, S10, S11, S12⟩
  isplitl [S0 S1 S2 S3 S4 S5 S6 S7 S8 S9 S10 S11 S12 Hg]
  · isplitl [S0 S1 S2 S3 S4 S5 S6 S7 S8 S9 S10 S11 S12]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      iexact S12
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The library's body obligation, at every point. -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- The launch: every input array and every other unscoped buffer ends unchanged, and every counter at zero. -/
theorem run_main : θ_run defs (onTc (τ := τ) (main (F := F))) (s₀ m ρ)
    (fun r => (Pipeline.RDat.FramePost (cfgs 0) (fun c => (dats m 0 c).toRForget forgets) (V m)) r ∧ r.2.sem = fun _ => 0) :=
  Pipeline.θ_run_frame_track_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- The frame: the argument arrays end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c)⟩, h.2⟩) (run_main m ρ)

end Cert.Kernel.Hand

end
-- ==== Proof.FrameKI.Common.lean ====
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The whole buffer behind a memref, at some contents nothing names. -/
def held (c : Dev nD) {s : Shape} {sp : Space} {e : EltTy} (M : Memref sig .tc sp s e) : sProp 𝕄 :=
  iprop(∃ d, owns (c : Thread nD τ) M fullShare d)

/-- A buffer held at any raw contents is held. -/
theorem held_of (c : Dev nD) {s : Shape} {sp : Space} {e : EltTy} (M : Memref sig .tc sp s e)
    (f : Buf (Elt F) (M.view.loc (c : Thread nD τ))) :
    (M.view.loc (c : Thread nD τ) ↦[M.view.set]{fullShare} f : sProp 𝕄)
      ⊢ iprop(∃ d f, ⌜View.read (Elt F) M.view f = d⌝ ∗ View.loc c.tc M.view ↦[M.view.set]{fullShare} f) := by
  iintro H
  iexists _, _
  isplitr; swap; · iexact H
  ipureintro; rfl

/-- A whole memref's buffer at its unread contents is owned at those contents. -/
theorem owns_unread (c : Dev nD) {s : Shape} {sp : Space} {e : EltTy} (M : Memref sig .tc sp s e) (hM : M.IsWhole)
    (x : s.Idx → Elt F e) :
    (M.view.loc (c : Thread nD τ) ↦[M.view.set]{fullShare} hM.unread x : sProp 𝕄)
      ⊢ iprop(∃ f, ⌜View.read (Elt F) M.view f = x⌝ ∗ View.loc c.tc M.view ↦[M.view.set]{fullShare} f) := by
  iintro H
  iexists _
  isplitr; swap; · iexact H
  ipureintro; exact hM.read_unread _

/-- The condition of the body's first branch: the first grid point. -/
abbrev cond0 (i : grid0.Coords) : Prop :=
  (Scalar.cmpi .ne (Scalar.extui (Scalar.cmpi .eq (BitVec.ofNat 32 (i 0).val) 0#32)) 0#32) = 1#1

theorem cond0_iff (t : Fin cfg0.N) : cond0 (grid0.coords t) ↔ t.val = 0 := by
  have ht : t.val < 129 := Nat.lt_of_lt_of_eq t.isLt N_0
  have e0 : (grid0.coords t 0).val = t.val / 1 % 129 := Pipeline.Grid.coords_val t 0 (by decide) rfl
  have h : cond0 (grid0.coords t) ↔ t.val % 129 = 0 := by
    simp only [cond0, e0]
    word_cmp
  rw [h]; omega

/-- The condition of the body's last branch: the last grid point. -/
abbrev cond1 (i : grid0.Coords) : Prop := k0_cond2 i = 1#1

theorem cond1_iff (t : Fin cfg0.N) : cond1 (grid0.coords t) ↔ t.val = 128 := by
  have ht : t.val < 129 := Nat.lt_of_lt_of_eq t.isLt N_0
  have e0 : (grid0.coords t 0).val = t.val / 1 % 129 := Pipeline.Grid.coords_val t 0 (by decide) rfl
  have h : cond1 (grid0.coords t) ↔ t.val % 129 = 128 := by
    simp only [cond1, k0_cond2, e0]
    word_cmp
  rw [h]; omega

/-- Where a step writes the new parameters of the step before: eight rows per step. -/
theorem off1_eq : ∀ i : grid0.Coords, k0_off1 i = ![8 * ((i 0).val - 1), 0] := by decide +kernel
instance closedOff_off1 (i : grid0.Coords) : ClosedOff (k0_off1 i) := ⟨![8 * ((i 0).val - 1), 0], off1_eq i⟩

/-- Window 0's current staging memref at a point, and that it is whole. -/
abbrev ms0 (t : Fin cfg0.N) : Memref sig .tc .smem S1 .i32 := win0_0.stage (cfg0.slots t 0)
abbrev hs0 (t : Fin cfg0.N) : (ms0 t).IsWhole := hstage0_0 ((cfg0.slots t 0).cast nbuf0_0)
/-- Window 1's current staging memref at a point, and that it is whole. -/
abbrev ms1 (t : Fin cfg0.N) : Memref sig .tc .vmem S256x1024 .f32 := win0_1.stage (cfg0.slots t 1)
abbrev hs1 (t : Fin cfg0.N) : (ms1 t).IsWhole := hstage0_1 ((cfg0.slots t 1).cast nbuf0_1)
/-- Window 2's current staging memref at a point, and that it is whole. -/
abbrev ms2 (t : Fin cfg0.N) : Memref sig .tc .vmem S256x1024 .bf16 := win0_2.stage (cfg0.slots t 2)
abbrev hs2 (t : Fin cfg0.N) : (ms2 t).IsWhole := hstage0_2 ((cfg0.slots t 2).cast nbuf0_2)
/-- Window 3's current staging memref at a point, and that it is whole. -/
abbrev ms3 (t : Fin cfg0.N) : Memref sig .tc .vmem S256x1024 .fp8e4m3 := win0_3.stage (cfg0.slots t 3)
abbrev hs3 (t : Fin cfg0.N) : (ms3 t).IsWhole := hstage0_3 ((cfg0.slots t 3).cast nbuf0_3)
/-- Window 4's current staging memref at a point, and that it is whole. -/
abbrev ms4 (t : Fin cfg0.N) : Memref sig .tc .vmem S256x1024 .fp8e5m2 := win0_4.stage (cfg0.slots t 4)
abbrev hs4 (t : Fin cfg0.N) : (ms4 t).IsWhole := hstage0_4 ((cfg0.slots t 4).cast nbuf0_4)
/-- Window 5's current staging memref at a point, and that it is whole. -/
abbrev ms5 (t : Fin cfg0.N) : Memref sig .tc .vmem S256x1024 .f32 := win0_5.stage (cfg0.slots t 5)
abbrev hs5 (t : Fin cfg0.N) : (ms5 t).IsWhole := hstage0_5 ((cfg0.slots t 5).cast nbuf0_5)
/-- Window 6's current staging memref at a point, and that it is whole. -/
abbrev ms6 (t : Fin cfg0.N) : Memref sig .tc .vmem S256x1024 .f32 := win0_6.stage (cfg0.slots t 6)
abbrev hs6 (t : Fin cfg0.N) : (ms6 t).IsWhole := hstage0_6 ((cfg0.slots t 6).cast nbuf0_6)
/-- Window 7's current staging memref at a point, and that it is whole. -/
abbrev ms7 (t : Fin cfg0.N) : Memref sig .tc .vmem S256x1024 .f32 := win0_7.stage (cfg0.slots t 7)
abbrev hs7 (t : Fin cfg0.N) : (ms7 t).IsWhole := hstage0_7 ((cfg0.slots t 7).cast nbuf0_7)
/-- Window 8's current staging memref at a point, and that it is whole. -/
abbrev ms8 (t : Fin cfg0.N) : Memref sig .tc .vmem S256x1024 .f32 := win0_8.stage (cfg0.slots t 8)
abbrev hs8 (t : Fin cfg0.N) : (ms8 t).IsWhole := hstage0_8 ((cfg0.slots t 8).cast nbuf0_8)
/-- Window 9's current staging memref at a point, and that it is whole. -/
abbrev ms9 (t : Fin cfg0.N) : Memref sig .tc .vmem S256x1024 .f32 := win0_9.stage (cfg0.slots t 9)
abbrev hs9 (t : Fin cfg0.N) : (ms9 t).IsWhole := hstage0_9 ((cfg0.slots t 9).cast nbuf0_9)
/-- Window 10's current staging memref at a point, and that it is whole. -/
abbrev ms10 (t : Fin cfg0.N) : Memref sig .tc .vmem S256x1024 .fp8e4m3 := win0_10.stage (cfg0.slots t 10)
abbrev hs10 (t : Fin cfg0.N) : (ms10 t).IsWhole := hstage0_10 ((cfg0.slots t 10).cast nbuf0_10)
/-- Window 11's current staging memref at a point, and that it is whole. -/
abbrev ms11 (t : Fin cfg0.N) : Memref sig .tc .vmem S256x1024 .f32 := win0_11.stage (cfg0.slots t 11)
abbrev hs11 (t : Fin cfg0.N) : (ms11 t).IsWhole := hstage0_11 ((cfg0.slots t 11).cast nbuf0_11)
/-- Window 12's current staging memref at a point, and that it is whole. -/
abbrev ms12 (t : Fin cfg0.N) : Memref sig .tc .vmem S256x1024 .f32 := win0_12.stage (cfg0.slots t 12)
abbrev hs12 (t : Fin cfg0.N) : (ms12 t).IsWhole := hstage0_12 ((cfg0.slots t 12).cast nbuf0_12)
/-- Window 13's current staging memref at a point, and that it is whole. -/
abbrev ms13 (t : Fin cfg0.N) : Memref sig .tc .vmem S256x1024 .fp8e5m2 := win0_13.stage (cfg0.slots t 13)
abbrev hs13 (t : Fin cfg0.N) : (ms13 t).IsWhole := hstage0_13 ((cfg0.slots t 13).cast nbuf0_13)
/-- Window 14's current staging memref at a point, and that it is whole. -/
abbrev ms14 (t : Fin cfg0.N) : Memref sig .tc .vmem S256x1024 .f32 := win0_14.stage (cfg0.slots t 14)
abbrev hs14 (t : Fin cfg0.N) : (ms14 t).IsWhole := hstage0_14 ((cfg0.slots t 14).cast nbuf0_14)
/-- Window 15's current staging memref at a point, and that it is whole. -/
abbrev ms15 (t : Fin cfg0.N) : Memref sig .tc .vmem S256x1024 .f32 := win0_15.stage (cfg0.slots t 15)
abbrev hs15 (t : Fin cfg0.N) : (ms15 t).IsWhole := hstage0_15 ((cfg0.slots t 15).cast nbuf0_15)
abbrev sc0 : Memref sig .tc .vmem S1024x256 .f32 := Memref.whole cc0_scratch0
abbrev sc1 : Memref sig .tc .vmem S1024x256 .f32 := Memref.whole cc0_scratch1
abbrev sc2 : Memref sig .tc .vmem S1024x256 .f32 := Memref.whole cc0_scratch2
abbrev sc3 : Memref sig .tc .vmem S1024x256 .f32 := Memref.whole cc0_scratch3
abbrev sc4 : Memref sig .tc .vmem S4x8x256 .f32 := Memref.whole cc0_scratch4
abbrev sc5 : Memref sig .tc .vmem S1024x256 .f32 := Memref.whole cc0_scratch5
abbrev sc6 : Memref sig .tc .vmem S1024x256 .f32 := Memref.whole cc0_scratch6
abbrev sc7 : Memref sig .tc .vmem S1024x256 .f32 := Memref.whole cc0_scratch7
abbrev sc8 : Memref sig .tc .vmem S1024x256 .f32 := Memref.whole cc0_scratch8
abbrev sc9 : Memref sig .tc .vmem S1024x256 .f32 := Memref.whole cc0_scratch9
abbrev sc10 : Memref sig .tc .vmem S1024x256 .f32 := Memref.whole cc0_scratch10
abbrev sc11 : Memref sig .tc .vmem S1024x256 .f32 := Memref.whole cc0_scratch11
abbrev sc12 : Memref sig .tc .vmem S1024x256 .f32 := Memref.whole cc0_scratch12

/-- The kit's invariant with the scratch buffers as held memrefs. -/
theorem PhiA_eq (c : Dev nD) :
    (Pipeline.ΦA spec0 c : sProp 𝕄)
      = iprop(iprop(held c sc0 ∗ held c sc1 ∗ held c sc2 ∗ held c sc3 ∗ held c sc4 ∗ held c sc5 ∗ held c sc6 ∗ held c sc7 ∗ held c sc8 ∗ held c sc9 ∗ held c sc10 ∗ held c sc11 ∗ held c sc12) ∗ (∃ r, prngReg c r)) := by
  unfold Pipeline.ΦA held; rw [scopedRest0_eq]
  simp only [sc0, sc1, sc2, sc3, sc4, sc5, sc6, sc7, sc8, sc9, sc10, sc11, sc12, owns_whole]; try rfl

theorem defs₀_row (t : Fin cfg0.N) :
    defs₀ (F := F) .tc cfg0.body (cfg0.bodyArgs t (cfg0.slots t)) = bodyAt0 t := by
  unfold defs₀; rw [Defs.onTc_tc]

end Cert.KernelIdeal.Hand

end
-- ==== Proof.FrameKI.RunA.lean ====
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.FrameKI.Common

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 4000000 in
/-- One step of the kernel body at the first grid point: the inputs' buffers are as they were, every other buffer is held. -/
theorem run_TF (c : Dev nD) (i : grid0.Coords)
  (arg1 : Memref sig .tc .smem S1 .i32) (harg1 : arg1.IsWhole)
  (arg2 : Memref sig .tc .vmem S256x1024 .f32) (harg2 : arg2.IsWhole)
  (arg3 : Memref sig .tc .vmem S256x1024 .bf16) (harg3 : arg3.IsWhole)
  (arg4 : Memref sig .tc .vmem S256x1024 .fp8e4m3) (harg4 : arg4.IsWhole)
  (arg5 : Memref sig .tc .vmem S256x1024 .fp8e5m2) (harg5 : arg5.IsWhole)
  (arg6 : Memref sig .tc .vmem S256x1024 .f32) (harg6 : arg6.IsWhole)
  (arg7 : Memref sig .tc .vmem S256x1024 .f32) (harg7 : arg7.IsWhole)
  (arg8 : Memref sig .tc .vmem S256x1024 .f32) (harg8 : arg8.IsWhole)
  (arg9 : Memref sig .tc .vmem S256x1024 .f32) (harg9 : arg9.IsWhole)
  (arg10 : Memref sig .tc .vmem S256x1024 .f32) (harg10 : arg10.IsWhole)
  (arg11 : Memref sig .tc .vmem S256x1024 .fp8e4m3) (harg11 : arg11.IsWhole)
  (arg12 : Memref sig .tc .vmem S256x1024 .f32) (harg12 : arg12.IsWhole)
  (arg13 : Memref sig .tc .vmem S256x1024 .f32) (harg13 : arg13.IsWhole)
  (arg14 : Memref sig .tc .vmem S256x1024 .fp8e5m2) (harg14 : arg14.IsWhole)
  (arg15 : Memref sig .tc .vmem S256x1024 .f32) (harg15 : arg15.IsWhole)
  (arg16 : Memref sig .tc .vmem S256x1024 .f32) (harg16 : arg16.IsWhole)
  (arg17 : Memref sig .tc .vmem S1024x256 .f32) (harg17 : arg17.IsWhole)
  (arg18 : Memref sig .tc .vmem S1024x256 .f32) (harg18 : arg18.IsWhole)
  (arg19 : Memref sig .tc .vmem S1024x256 .f32) (harg19 : arg19.IsWhole)
  (arg20 : Memref sig .tc .vmem S1024x256 .f32) (harg20 : arg20.IsWhole)
  (arg21 : Memref sig .tc .vmem S4x8x256 .f32) (harg21 : arg21.IsWhole)
  (arg22 : Memref sig .tc .vmem S1024x256 .f32) (harg22 : arg22.IsWhole)
  (arg23 : Memref sig .tc .vmem S1024x256 .f32) (harg23 : arg23.IsWhole)
  (arg24 : Memref sig .tc .vmem S1024x256 .f32) (harg24 : arg24.IsWhole)
  (arg25 : Memref sig .tc .vmem S1024x256 .f32) (harg25 : arg25.IsWhole)
  (arg26 : Memref sig .tc .vmem S1024x256 .f32) (harg26 : arg26.IsWhole)
  (arg27 : Memref sig .tc .vmem S1024x256 .f32) (harg27 : arg27.IsWhole)
  (arg28 : Memref sig .tc .vmem S1024x256 .f32) (harg28 : arg28.IsWhole)
  (arg29 : Memref sig .tc .vmem S1024x256 .f32) (harg29 : arg29.IsWhole)
  (hc0 : cond0 i) (hc1 : ¬cond1 i)
  (x0 : Vec F S1 .i32)
  (x1 : Vec F S256x1024 .f32)
  (x2 : Vec F S256x1024 .bf16)
  (x3 : Vec F S256x1024 .fp8e4m3)
  (x4 : Vec F S256x1024 .fp8e5m2)
  (x5 : Vec F S256x1024 .f32)
  (x6 : Vec F S256x1024 .f32)
  (x7 : Vec F S256x1024 .f32)
  (x8 : Vec F S256x1024 .f32)
  (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8 ∗ held c arg10 ∗ held c arg11 ∗ held c arg12
        ∗ held c arg13 ∗ held c arg14 ∗ held c arg15 ∗ held c arg16 ∗ held c arg17 ∗ held c arg18
        ∗ held c arg19 ∗ held c arg20 ∗ held c arg21 ∗ held c arg22 ∗ held c arg23 ∗ held c arg24
        ∗ held c arg25 ∗ held c arg26 ∗ held c arg27 ∗ held c arg28 ∗ held c arg29
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8 ∗ held c arg10 ∗ held c arg11 ∗ held c arg12
        ∗ held c arg13 ∗ held c arg14 ∗ held c arg15 ∗ held c arg16 ∗ held c arg17 ∗ held c arg18
        ∗ held c arg19 ∗ held c arg20 ∗ held c arg21 ∗ held c arg22 ∗ held c arg23 ∗ held c arg24
        ∗ held c arg25 ∗ held c arg26 ∗ held c arg27 ∗ held c arg28 ∗ held c arg29) -∗ K ⟨⟩))
      ⊢ wp frame (wpE (defs₀ (F := F)) Variants.none c none) E (cc0_adamw_dre i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  simp only [cc0_adamw_dre_eq_skeleton]; unfold cc0_adamw_dre_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
  unfold held owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  sl_exec (disch := first | sl_exact hc0 | sl_exact hc1)
  sl_step
  iapply Hk
  isplitl [H0]; · iapply (owns_unread c arg1 harg1 x0); iexact H0
  isplitl [H1]; · iapply (owns_unread c arg2 harg2 x1); iexact H1
  isplitl [H2]; · iapply (owns_unread c arg3 harg3 x2); iexact H2
  isplitl [H3]; · iapply (owns_unread c arg4 harg4 x3); iexact H3
  isplitl [H4]; · iapply (owns_unread c arg5 harg5 x4); iexact H4
  isplitl [H5]; · iapply (owns_unread c arg6 harg6 x5); iexact H5
  isplitl [H6]; · iapply (owns_unread c arg7 harg7 x6); iexact H6
  isplitl [H7]; · iapply (owns_unread c arg8 harg8 x7); iexact H7
  isplitl [H8]; · iapply (owns_unread c arg9 harg9 x8); iexact H8
  isplitl [H9]; · iapply (held_of c arg10 _); iexact H9
  isplitl [H10]; · iapply (held_of c arg11 _); iexact H10
  isplitl [H11]; · iapply (held_of c arg12 _); iexact H11
  isplitl [H12]; · iapply (held_of c arg13 _); iexact H12
  isplitl [H13]; · iapply (held_of c arg14 _); iexact H13
  isplitl [H14]; · iapply (held_of c arg15 _); iexact H14
  isplitl [H15]; · iapply (held_of c arg16 _); iexact H15
  isplitl [H16]; · iapply (held_of c arg17 _); iexact H16
  isplitl [H17]; · iapply (held_of c arg18 _); iexact H17
  isplitl [H18]; · iapply (held_of c arg19 _); iexact H18
  isplitl [H19]; · iapply (held_of c arg20 _); iexact H19
  isplitl [H20]; · iapply (held_of c arg21 _); iexact H20
  isplitl [H21]; · iapply (held_of c arg22 _); iexact H21
  isplitl [H22]; · iapply (held_of c arg23 _); iexact H22
  isplitl [H23]; · iapply (held_of c arg24 _); iexact H23
  isplitl [H24]; · iapply (held_of c arg25 _); iexact H24
  isplitl [H25]; · iapply (held_of c arg26 _); iexact H25
  isplitl [H26]; · iapply (held_of c arg27 _); iexact H26
  isplitl [H27]; · iapply (held_of c arg28 _); iexact H27
  iapply (held_of c arg29 _); iexact H28

end Cert.KernelIdeal.Hand

end
-- ==== Proof.FrameKI.RunB.lean ====
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.FrameKI.RunA

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 4000000 in
/-- One step of the kernel body between the first and the last grid point: the inputs' buffers are as they were, every other buffer is held. -/
theorem run_FF (c : Dev nD) (i : grid0.Coords)
  (arg1 : Memref sig .tc .smem S1 .i32) (harg1 : arg1.IsWhole)
  (arg2 : Memref sig .tc .vmem S256x1024 .f32) (harg2 : arg2.IsWhole)
  (arg3 : Memref sig .tc .vmem S256x1024 .bf16) (harg3 : arg3.IsWhole)
  (arg4 : Memref sig .tc .vmem S256x1024 .fp8e4m3) (harg4 : arg4.IsWhole)
  (arg5 : Memref sig .tc .vmem S256x1024 .fp8e5m2) (harg5 : arg5.IsWhole)
  (arg6 : Memref sig .tc .vmem S256x1024 .f32) (harg6 : arg6.IsWhole)
  (arg7 : Memref sig .tc .vmem S256x1024 .f32) (harg7 : arg7.IsWhole)
  (arg8 : Memref sig .tc .vmem S256x1024 .f32) (harg8 : arg8.IsWhole)
  (arg9 : Memref sig .tc .vmem S256x1024 .f32) (harg9 : arg9.IsWhole)
  (arg10 : Memref sig .tc .vmem S256x1024 .f32) (harg10 : arg10.IsWhole)
  (arg11 : Memref sig .tc .vmem S256x1024 .fp8e4m3) (harg11 : arg11.IsWhole)
  (arg12 : Memref sig .tc .vmem S256x1024 .f32) (harg12 : arg12.IsWhole)
  (arg13 : Memref sig .tc .vmem S256x1024 .f32) (harg13 : arg13.IsWhole)
  (arg14 : Memref sig .tc .vmem S256x1024 .fp8e5m2) (harg14 : arg14.IsWhole)
  (arg15 : Memref sig .tc .vmem S256x1024 .f32) (harg15 : arg15.IsWhole)
  (arg16 : Memref sig .tc .vmem S256x1024 .f32) (harg16 : arg16.IsWhole)
  (arg17 : Memref sig .tc .vmem S1024x256 .f32) (harg17 : arg17.IsWhole)
  (arg18 : Memref sig .tc .vmem S1024x256 .f32) (harg18 : arg18.IsWhole)
  (arg19 : Memref sig .tc .vmem S1024x256 .f32) (harg19 : arg19.IsWhole)
  (arg20 : Memref sig .tc .vmem S1024x256 .f32) (harg20 : arg20.IsWhole)
  (arg21 : Memref sig .tc .vmem S4x8x256 .f32) (harg21 : arg21.IsWhole)
  (arg22 : Memref sig .tc .vmem S1024x256 .f32) (harg22 : arg22.IsWhole)
  (arg23 : Memref sig .tc .vmem S1024x256 .f32) (harg23 : arg23.IsWhole)
  (arg24 : Memref sig .tc .vmem S1024x256 .f32) (harg24 : arg24.IsWhole)
  (arg25 : Memref sig .tc .vmem S1024x256 .f32) (harg25 : arg25.IsWhole)
  (arg26 : Memref sig .tc .vmem S1024x256 .f32) (harg26 : arg26.IsWhole)
  (arg27 : Memref sig .tc .vmem S1024x256 .f32) (harg27 : arg27.IsWhole)
  (arg28 : Memref sig .tc .vmem S1024x256 .f32) (harg28 : arg28.IsWhole)
  (arg29 : Memref sig .tc .vmem S1024x256 .f32) (harg29 : arg29.IsWhole)
  (hc0 : ¬cond0 i) (hc1 : ¬cond1 i)
  (x0 : Vec F S1 .i32)
  (x1 : Vec F S256x1024 .f32)
  (x2 : Vec F S256x1024 .bf16)
  (x3 : Vec F S256x1024 .fp8e4m3)
  (x4 : Vec F S256x1024 .fp8e5m2)
  (x5 : Vec F S256x1024 .f32)
  (x6 : Vec F S256x1024 .f32)
  (x7 : Vec F S256x1024 .f32)
  (x8 : Vec F S256x1024 .f32)
  (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8 ∗ held c arg10 ∗ held c arg11 ∗ held c arg12
        ∗ held c arg13 ∗ held c arg14 ∗ held c arg15 ∗ held c arg16 ∗ held c arg17 ∗ held c arg18
        ∗ held c arg19 ∗ held c arg20 ∗ held c arg21 ∗ held c arg22 ∗ held c arg23 ∗ held c arg24
        ∗ held c arg25 ∗ held c arg26 ∗ held c arg27 ∗ held c arg28 ∗ held c arg29
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8 ∗ held c arg10 ∗ held c arg11 ∗ held c arg12
        ∗ held c arg13 ∗ held c arg14 ∗ held c arg15 ∗ held c arg16 ∗ held c arg17 ∗ held c arg18
        ∗ held c arg19 ∗ held c arg20 ∗ held c arg21 ∗ held c arg22 ∗ held c arg23 ∗ held c arg24
        ∗ held c arg25 ∗ held c arg26 ∗ held c arg27 ∗ held c arg28 ∗ held c arg29) -∗ K ⟨⟩))
      ⊢ wp frame (wpE (defs₀ (F := F)) Variants.none c none) E (cc0_adamw_dre i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  simp only [cc0_adamw_dre_eq_skeleton]; unfold cc0_adamw_dre_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
  unfold held owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  sl_exec (disch := first | sl_exact hc0 | sl_exact hc1)
  sl_step
  iapply Hk
  isplitl [H0]; · iapply (owns_unread c arg1 harg1 x0); iexact H0
  isplitl [H1]; · iapply (owns_unread c arg2 harg2 x1); iexact H1
  isplitl [H2]; · iapply (owns_unread c arg3 harg3 x2); iexact H2
  isplitl [H3]; · iapply (owns_unread c arg4 harg4 x3); iexact H3
  isplitl [H4]; · iapply (owns_unread c arg5 harg5 x4); iexact H4
  isplitl [H5]; · iapply (owns_unread c arg6 harg6 x5); iexact H5
  isplitl [H6]; · iapply (owns_unread c arg7 harg7 x6); iexact H6
  isplitl [H7]; · iapply (owns_unread c arg8 harg8 x7); iexact H7
  isplitl [H8]; · iapply (owns_unread c arg9 harg9 x8); iexact H8
  isplitl [H9]; · iapply (held_of c arg10 _); iexact H9
  isplitl [H10]; · iapply (held_of c arg11 _); iexact H10
  isplitl [H11]; · iapply (held_of c arg12 _); iexact H11
  isplitl [H12]; · iapply (held_of c arg13 _); iexact H12
  isplitl [H13]; · iapply (held_of c arg14 _); iexact H13
  isplitl [H14]; · iapply (held_of c arg15 _); iexact H14
  isplitl [H15]; · iapply (held_of c arg16 _); iexact H15
  isplitl [H16]; · iapply (held_of c arg17 _); iexact H16
  isplitl [H17]; · iapply (held_of c arg18 _); iexact H17
  isplitl [H18]; · iapply (held_of c arg19 _); iexact H18
  isplitl [H19]; · iapply (held_of c arg20 _); iexact H19
  isplitl [H20]; · iapply (held_of c arg21 _); iexact H20
  isplitl [H21]; · iapply (held_of c arg22 _); iexact H21
  isplitl [H22]; · iapply (held_of c arg23 _); iexact H22
  isplitl [H23]; · iapply (held_of c arg24 _); iexact H23
  isplitl [H24]; · iapply (held_of c arg25 _); iexact H24
  isplitl [H25]; · iapply (held_of c arg26 _); iexact H25
  isplitl [H26]; · iapply (held_of c arg27 _); iexact H26
  isplitl [H27]; · iapply (held_of c arg28 _); iexact H27
  iapply (held_of c arg29 _); iexact H28

end Cert.KernelIdeal.Hand

end
-- ==== Proof.FrameKI.RunC.lean ====
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.FrameKI.RunB

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 4000000 in
/-- One step of the kernel body at the last grid point: the inputs' buffers are as they were, every other buffer is held. -/
theorem run_FT (c : Dev nD) (i : grid0.Coords)
  (arg1 : Memref sig .tc .smem S1 .i32) (harg1 : arg1.IsWhole)
  (arg2 : Memref sig .tc .vmem S256x1024 .f32) (harg2 : arg2.IsWhole)
  (arg3 : Memref sig .tc .vmem S256x1024 .bf16) (harg3 : arg3.IsWhole)
  (arg4 : Memref sig .tc .vmem S256x1024 .fp8e4m3) (harg4 : arg4.IsWhole)
  (arg5 : Memref sig .tc .vmem S256x1024 .fp8e5m2) (harg5 : arg5.IsWhole)
  (arg6 : Memref sig .tc .vmem S256x1024 .f32) (harg6 : arg6.IsWhole)
  (arg7 : Memref sig .tc .vmem S256x1024 .f32) (harg7 : arg7.IsWhole)
  (arg8 : Memref sig .tc .vmem S256x1024 .f32) (harg8 : arg8.IsWhole)
  (arg9 : Memref sig .tc .vmem S256x1024 .f32) (harg9 : arg9.IsWhole)
  (arg10 : Memref sig .tc .vmem S256x1024 .f32) (harg10 : arg10.IsWhole)
  (arg11 : Memref sig .tc .vmem S256x1024 .fp8e4m3) (harg11 : arg11.IsWhole)
  (arg12 : Memref sig .tc .vmem S256x1024 .f32) (harg12 : arg12.IsWhole)
  (arg13 : Memref sig .tc .vmem S256x1024 .f32) (harg13 : arg13.IsWhole)
  (arg14 : Memref sig .tc .vmem S256x1024 .fp8e5m2) (harg14 : arg14.IsWhole)
  (arg15 : Memref sig .tc .vmem S256x1024 .f32) (harg15 : arg15.IsWhole)
  (arg16 : Memref sig .tc .vmem S256x1024 .f32) (harg16 : arg16.IsWhole)
  (arg17 : Memref sig .tc .vmem S1024x256 .f32) (harg17 : arg17.IsWhole)
  (arg18 : Memref sig .tc .vmem S1024x256 .f32) (harg18 : arg18.IsWhole)
  (arg19 : Memref sig .tc .vmem S1024x256 .f32) (harg19 : arg19.IsWhole)
  (arg20 : Memref sig .tc .vmem S1024x256 .f32) (harg20 : arg20.IsWhole)
  (arg21 : Memref sig .tc .vmem S4x8x256 .f32) (harg21 : arg21.IsWhole)
  (arg22 : Memref sig .tc .vmem S1024x256 .f32) (harg22 : arg22.IsWhole)
  (arg23 : Memref sig .tc .vmem S1024x256 .f32) (harg23 : arg23.IsWhole)
  (arg24 : Memref sig .tc .vmem S1024x256 .f32) (harg24 : arg24.IsWhole)
  (arg25 : Memref sig .tc .vmem S1024x256 .f32) (harg25 : arg25.IsWhole)
  (arg26 : Memref sig .tc .vmem S1024x256 .f32) (harg26 : arg26.IsWhole)
  (arg27 : Memref sig .tc .vmem S1024x256 .f32) (harg27 : arg27.IsWhole)
  (arg28 : Memref sig .tc .vmem S1024x256 .f32) (harg28 : arg28.IsWhole)
  (arg29 : Memref sig .tc .vmem S1024x256 .f32) (harg29 : arg29.IsWhole)
  (hc0 : ¬cond0 i) (hc1 : cond1 i)
  (x0 : Vec F S1 .i32)
  (x1 : Vec F S256x1024 .f32)
  (x2 : Vec F S256x1024 .bf16)
  (x3 : Vec F S256x1024 .fp8e4m3)
  (x4 : Vec F S256x1024 .fp8e5m2)
  (x5 : Vec F S256x1024 .f32)
  (x6 : Vec F S256x1024 .f32)
  (x7 : Vec F S256x1024 .f32)
  (x8 : Vec F S256x1024 .f32)
  (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8 ∗ held c arg10 ∗ held c arg11 ∗ held c arg12
        ∗ held c arg13 ∗ held c arg14 ∗ held c arg15 ∗ held c arg16 ∗ held c arg17 ∗ held c arg18
        ∗ held c arg19 ∗ held c arg20 ∗ held c arg21 ∗ held c arg22 ∗ held c arg23 ∗ held c arg24
        ∗ held c arg25 ∗ held c arg26 ∗ held c arg27 ∗ held c arg28 ∗ held c arg29
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8 ∗ held c arg10 ∗ held c arg11 ∗ held c arg12
        ∗ held c arg13 ∗ held c arg14 ∗ held c arg15 ∗ held c arg16 ∗ held c arg17 ∗ held c arg18
        ∗ held c arg19 ∗ held c arg20 ∗ held c arg21 ∗ held c arg22 ∗ held c arg23 ∗ held c arg24
        ∗ held c arg25 ∗ held c arg26 ∗ held c arg27 ∗ held c arg28 ∗ held c arg29) -∗ K ⟨⟩))
      ⊢ wp frame (wpE (defs₀ (F := F)) Variants.none c none) E (cc0_adamw_dre i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  simp only [cc0_adamw_dre_eq_skeleton]; unfold cc0_adamw_dre_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
  unfold held owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  sl_exec (disch := first | sl_exact hc0 | sl_exact hc1)
  sl_step
  iapply Hk
  isplitl [H0]; · iapply (owns_unread c arg1 harg1 x0); iexact H0
  isplitl [H1]; · iapply (owns_unread c arg2 harg2 x1); iexact H1
  isplitl [H2]; · iapply (owns_unread c arg3 harg3 x2); iexact H2
  isplitl [H3]; · iapply (owns_unread c arg4 harg4 x3); iexact H3
  isplitl [H4]; · iapply (owns_unread c arg5 harg5 x4); iexact H4
  isplitl [H5]; · iapply (owns_unread c arg6 harg6 x5); iexact H5
  isplitl [H6]; · iapply (owns_unread c arg7 harg7 x6); iexact H6
  isplitl [H7]; · iapply (owns_unread c arg8 harg8 x7); iexact H7
  isplitl [H8]; · iapply (owns_unread c arg9 harg9 x8); iexact H8
  isplitl [H9]; · iapply (held_of c arg10 _); iexact H9
  isplitl [H10]; · iapply (held_of c arg11 _); iexact H10
  isplitl [H11]; · iapply (held_of c arg12 _); iexact H11
  isplitl [H12]; · iapply (held_of c arg13 _); iexact H12
  isplitl [H13]; · iapply (held_of c arg14 _); iexact H13
  isplitl [H14]; · iapply (held_of c arg15 _); iexact H14
  isplitl [H15]; · iapply (held_of c arg16 _); iexact H15
  isplitl [H16]; · iapply (held_of c arg17 _); iexact H16
  isplitl [H17]; · iapply (held_of c arg18 _); iexact H17
  isplitl [H18]; · iapply (held_of c arg19 _); iexact H18
  isplitl [H19]; · iapply (held_of c arg20 _); iexact H19
  isplitl [H20]; · iapply (held_of c arg21 _); iexact H20
  isplitl [H21]; · iapply (held_of c arg22 _); iexact H21
  isplitl [H22]; · iapply (held_of c arg23 _); iexact H22
  isplitl [H23]; · iapply (held_of c arg24 _); iexact H23
  isplitl [H24]; · iapply (held_of c arg25 _); iexact H24
  isplitl [H25]; · iapply (held_of c arg26 _); iexact H25
  isplitl [H26]; · iapply (held_of c arg27 _); iexact H26
  isplitl [H27]; · iapply (held_of c arg28 _); iexact H27
  iapply (held_of c arg29 _); iexact H28

end Cert.KernelIdeal.Hand

end
-- ==== Proof.FrameKI.Frame.lean ====
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.FrameKI.RunA
public import proofs.«01_k».proof.Proof.FrameKI.RunB
public import proofs.«01_k».proof.Proof.FrameKI.RunC

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- One step of the kernel body at any grid point. -/
theorem run_any (c : Dev nD) (t : Fin cfg0.N)
  (arg1 : Memref sig .tc .smem S1 .i32) (harg1 : arg1.IsWhole)
  (arg2 : Memref sig .tc .vmem S256x1024 .f32) (harg2 : arg2.IsWhole)
  (arg3 : Memref sig .tc .vmem S256x1024 .bf16) (harg3 : arg3.IsWhole)
  (arg4 : Memref sig .tc .vmem S256x1024 .fp8e4m3) (harg4 : arg4.IsWhole)
  (arg5 : Memref sig .tc .vmem S256x1024 .fp8e5m2) (harg5 : arg5.IsWhole)
  (arg6 : Memref sig .tc .vmem S256x1024 .f32) (harg6 : arg6.IsWhole)
  (arg7 : Memref sig .tc .vmem S256x1024 .f32) (harg7 : arg7.IsWhole)
  (arg8 : Memref sig .tc .vmem S256x1024 .f32) (harg8 : arg8.IsWhole)
  (arg9 : Memref sig .tc .vmem S256x1024 .f32) (harg9 : arg9.IsWhole)
  (arg10 : Memref sig .tc .vmem S256x1024 .f32) (harg10 : arg10.IsWhole)
  (arg11 : Memref sig .tc .vmem S256x1024 .fp8e4m3) (harg11 : arg11.IsWhole)
  (arg12 : Memref sig .tc .vmem S256x1024 .f32) (harg12 : arg12.IsWhole)
  (arg13 : Memref sig .tc .vmem S256x1024 .f32) (harg13 : arg13.IsWhole)
  (arg14 : Memref sig .tc .vmem S256x1024 .fp8e5m2) (harg14 : arg14.IsWhole)
  (arg15 : Memref sig .tc .vmem S256x1024 .f32) (harg15 : arg15.IsWhole)
  (arg16 : Memref sig .tc .vmem S256x1024 .f32) (harg16 : arg16.IsWhole)
  (arg17 : Memref sig .tc .vmem S1024x256 .f32) (harg17 : arg17.IsWhole)
  (arg18 : Memref sig .tc .vmem S1024x256 .f32) (harg18 : arg18.IsWhole)
  (arg19 : Memref sig .tc .vmem S1024x256 .f32) (harg19 : arg19.IsWhole)
  (arg20 : Memref sig .tc .vmem S1024x256 .f32) (harg20 : arg20.IsWhole)
  (arg21 : Memref sig .tc .vmem S4x8x256 .f32) (harg21 : arg21.IsWhole)
  (arg22 : Memref sig .tc .vmem S1024x256 .f32) (harg22 : arg22.IsWhole)
  (arg23 : Memref sig .tc .vmem S1024x256 .f32) (harg23 : arg23.IsWhole)
  (arg24 : Memref sig .tc .vmem S1024x256 .f32) (harg24 : arg24.IsWhole)
  (arg25 : Memref sig .tc .vmem S1024x256 .f32) (harg25 : arg25.IsWhole)
  (arg26 : Memref sig .tc .vmem S1024x256 .f32) (harg26 : arg26.IsWhole)
  (arg27 : Memref sig .tc .vmem S1024x256 .f32) (harg27 : arg27.IsWhole)
  (arg28 : Memref sig .tc .vmem S1024x256 .f32) (harg28 : arg28.IsWhole)
  (arg29 : Memref sig .tc .vmem S1024x256 .f32) (harg29 : arg29.IsWhole)
  (x0 : Vec F S1 .i32)
  (x1 : Vec F S256x1024 .f32)
  (x2 : Vec F S256x1024 .bf16)
  (x3 : Vec F S256x1024 .fp8e4m3)
  (x4 : Vec F S256x1024 .fp8e5m2)
  (x5 : Vec F S256x1024 .f32)
  (x6 : Vec F S256x1024 .f32)
  (x7 : Vec F S256x1024 .f32)
  (x8 : Vec F S256x1024 .f32)
  (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8 ∗ held c arg10 ∗ held c arg11 ∗ held c arg12
        ∗ held c arg13 ∗ held c arg14 ∗ held c arg15 ∗ held c arg16 ∗ held c arg17 ∗ held c arg18
        ∗ held c arg19 ∗ held c arg20 ∗ held c arg21 ∗ held c arg22 ∗ held c arg23 ∗ held c arg24
        ∗ held c arg25 ∗ held c arg26 ∗ held c arg27 ∗ held c arg28 ∗ held c arg29
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8 ∗ held c arg10 ∗ held c arg11 ∗ held c arg12
        ∗ held c arg13 ∗ held c arg14 ∗ held c arg15 ∗ held c arg16 ∗ held c arg17 ∗ held c arg18
        ∗ held c arg19 ∗ held c arg20 ∗ held c arg21 ∗ held c arg22 ∗ held c arg23 ∗ held c arg24
        ∗ held c arg25 ∗ held c arg26 ∗ held c arg27 ∗ held c arg28 ∗ held c arg29) -∗ K ⟨⟩))
      ⊢ wp frame (wpE (defs₀ (F := F)) Variants.none c none) E (cc0_adamw_dre (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  by_cases h0 : t.val = 0
  · exact run_TF c _ _ _ _ _ _ _ _ _ _ _ _ _ _ _ _ _ _ _ _ _ _ _ _ _ _ _ _ _ _ _ _ _ _ _ _ _ _ _ _ _ _ _ _ _ _ _ _ _ _ _ _ _ _ _ _ _ _ _ ((cond0_iff t).mpr h0) (fun h => by have := (cond1_iff t).mp h; omega) _ _ _ _ _ _ _ _ _ E K
  by_cases h1 : t.val = 128
  · exact run_FT c _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((cond0_iff t).mp h)) ((cond1_iff t).mpr h1) _ _ _ _ _ _ _ _ _ E K
  · exact run_FF c _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((cond0_iff t).mp h)) (fun h => h1 ((cond1_iff t).mp h)) _ _ _ _ _ _ _ _ _ E K

/-- The output windows: nothing is said of what the kernel leaves there. -/
def forgets : Fin 16 → Bool := fun w => w.val == 9 || w.val == 10 || w.val == 11 || w.val == 12 || w.val == 13 || w.val == 14 || w.val == 15

/-- The proof data: the arrays as the region finds them, each input's buffer at its block, the outputs unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨_ + 16, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem before_0 (c : Dev nD) (t : Fin cfg0.N) (d) : (dats m 0 c).before 0 t d = iblk m c 0 t :=
  before0_0_of m (dats m 0 c) (A_eq m c 0) (fun t => by dsimp only [dats]) t d
theorem leaves_0 (c : Dev nD) (t : Fin cfg0.N) :
    (dats m 0 c).leavesExact 0 t = owns (c : Thread nD τ) (ms0 t) fullShare (iblk m c 0 t) := by
  unfold Dat.leavesExact; rw [show cfg0.idle 0 (grid0.coords t) = false from rfl]; dsimp only [dats]
theorem before_1 (c : Dev nD) (t : Fin cfg0.N) (d) : (dats m 0 c).before 1 t d = iblk m c 1 t :=
  before0_1_of m (dats m 0 c) (A_eq m c 1) (fun t => by dsimp only [dats]) t d
theorem leaves_1 (c : Dev nD) (t : Fin cfg0.N) :
    (dats m 0 c).leavesExact 1 t = owns (c : Thread nD τ) (ms1 t) fullShare (iblk m c 1 t) := by
  unfold Dat.leavesExact; rw [show cfg0.idle 1 (grid0.coords t) = false from rfl]; dsimp only [dats]
theorem before_2 (c : Dev nD) (t : Fin cfg0.N) (d) : (dats m 0 c).before 2 t d = iblk m c 2 t :=
  before0_2_of m (dats m 0 c) (A_eq m c 2) (fun t => by dsimp only [dats]) t d
theorem leaves_2 (c : Dev nD) (t : Fin cfg0.N) :
    (dats m 0 c).leavesExact 2 t = owns (c : Thread nD τ) (ms2 t) fullShare (iblk m c 2 t) := by
  unfold Dat.leavesExact; rw [show cfg0.idle 2 (grid0.coords t) = false from rfl]; dsimp only [dats]
theorem before_3 (c : Dev nD) (t : Fin cfg0.N) (d) : (dats m 0 c).before 3 t d = iblk m c 3 t :=
  before0_3_of m (dats m 0 c) (A_eq m c 3) (fun t => by dsimp only [dats]) t d
theorem leaves_3 (c : Dev nD) (t : Fin cfg0.N) :
    (dats m 0 c).leavesExact 3 t = owns (c : Thread nD τ) (ms3 t) fullShare (iblk m c 3 t) := by
  unfold Dat.leavesExact; rw [show cfg0.idle 3 (grid0.coords t) = false from rfl]; dsimp only [dats]
theorem before_4 (c : Dev nD) (t : Fin cfg0.N) (d) : (dats m 0 c).before 4 t d = iblk m c 4 t :=
  before0_4_of m (dats m 0 c) (A_eq m c 4) (fun t => by dsimp only [dats]) t d
theorem leaves_4 (c : Dev nD) (t : Fin cfg0.N) :
    (dats m 0 c).leavesExact 4 t = owns (c : Thread nD τ) (ms4 t) fullShare (iblk m c 4 t) := by
  unfold Dat.leavesExact; rw [show cfg0.idle 4 (grid0.coords t) = false from rfl]; dsimp only [dats]
theorem before_5 (c : Dev nD) (t : Fin cfg0.N) (d) : (dats m 0 c).before 5 t d = iblk m c 5 t :=
  before0_5_of m (dats m 0 c) (A_eq m c 5) (fun t => by dsimp only [dats]) t d
theorem leaves_5 (c : Dev nD) (t : Fin cfg0.N) :
    (dats m 0 c).leavesExact 5 t = owns (c : Thread nD τ) (ms5 t) fullShare (iblk m c 5 t) := by
  unfold Dat.leavesExact; rw [show cfg0.idle 5 (grid0.coords t) = false from rfl]; dsimp only [dats]
theorem before_6 (c : Dev nD) (t : Fin cfg0.N) (d) : (dats m 0 c).before 6 t d = iblk m c 6 t :=
  before0_6_of m (dats m 0 c) (A_eq m c 6) (fun t => by dsimp only [dats]) t d
theorem leaves_6 (c : Dev nD) (t : Fin cfg0.N) :
    (dats m 0 c).leavesExact 6 t = owns (c : Thread nD τ) (ms6 t) fullShare (iblk m c 6 t) := by
  unfold Dat.leavesExact; rw [show cfg0.idle 6 (grid0.coords t) = false from rfl]; dsimp only [dats]
theorem before_7 (c : Dev nD) (t : Fin cfg0.N) (d) : (dats m 0 c).before 7 t d = iblk m c 7 t :=
  before0_7_of m (dats m 0 c) (A_eq m c 7) (fun t => by dsimp only [dats]) t d
theorem leaves_7 (c : Dev nD) (t : Fin cfg0.N) :
    (dats m 0 c).leavesExact 7 t = owns (c : Thread nD τ) (ms7 t) fullShare (iblk m c 7 t) := by
  unfold Dat.leavesExact; rw [show cfg0.idle 7 (grid0.coords t) = false from rfl]; dsimp only [dats]
theorem before_8 (c : Dev nD) (t : Fin cfg0.N) (d) : (dats m 0 c).before 8 t d = iblk m c 8 t :=
  before0_8_of m (dats m 0 c) (A_eq m c 8) (fun t => by dsimp only [dats]) t d
theorem leaves_8 (c : Dev nD) (t : Fin cfg0.N) :
    (dats m 0 c).leavesExact 8 t = owns (c : Thread nD τ) (ms8 t) fullShare (iblk m c 8 t) := by
  unfold Dat.leavesExact; rw [show cfg0.idle 8 (grid0.coords t) = false from rfl]; dsimp only [dats]

/-- What the body is called with at a point, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ held c (ms9 t) ∗ held c (ms10 t) ∗ held c (ms11 t) ∗ held c (ms12 t) ∗ held c (ms13 t) ∗ held c (ms14 t) ∗ held c (ms15 t))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t
    ∗ held c (ms9 t) ∗ held c (ms10 t) ∗ held c (ms11 t) ∗ held c (ms12 t) ∗ held c (ms13 t) ∗ held c (ms14 t) ∗ held c (ms15 t))

set_option maxHeartbeats 4000000 in
/-- The body at any point, from `run_any`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, leaves_0, before_1, leaves_1, before_2, leaves_2, before_3, leaves_3, before_4, leaves_4, before_5, leaves_5, before_6, leaves_6, before_7, leaves_7, before_8, leaves_8]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA_eq]
  iintro ⟨⟨⟨S0, S1, S2, S3, S4, S5, S6, S7, S8, S9, S10, S11, S12⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11, H12, H13, H14, H15⟩
  iapply (run_any c t _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  iintro ⟨H0, H1, H2, H3, H4, H5, H6, H7, H8, H9, H10, H11, H12, H13, H14, H15, S0, S1, S2, S3, S4, S5, S6, S7, S8, S9, S10, S11, S12⟩
  isplitl [S0 S1 S2 S3 S4 S5 S6 S7 S8 S9 S10 S11 S12 Hg]
  · isplitl [S0 S1 S2 S3 S4 S5 S6 S7 S8 S9 S10 S11 S12]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      iexact S12
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The library's body obligation, at every point. -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- The launch: every input array and every other unscoped buffer ends unchanged, and every counter at zero. -/
theorem run_main : θ_run defs (onTc (τ := τ) (main (F := F))) (s₀ m ρ)
    (fun r => (Pipeline.RDat.FramePost (cfgs 0) (fun c => (dats m 0 c).toRForget forgets) (V m)) r ∧ r.2.sem = fun _ => 0) :=
  Pipeline.θ_run_frame_track_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- The frame: the argument arrays end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c)⟩, h.2⟩) (run_main m ρ)

end Cert.KernelIdeal.Hand

end
-- ==== Proof.Preserves.lean ====
/-
  The entries of the rewrite ledger: each named constant of the idealized kernel stands for the real number it was computed
  from, and the sign-bit test reads as a comparison with zero.
-/
module

public import proofs.«01_k».proof.Defs
public import Idealize.ShloMosaic.PureOps.IdealRules

@[expose] public section

noncomputable section

namespace Cert.Proof

open Idealize.ShloMosaic

/-- Every rewrite that was applied to the kernel is an instance of its rule. -/
theorem preserves : Cert.preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl,
    IdealRules.sign_bit.maskStatement _ _⟩

end Cert.Proof

end
-- ==== Proof.KI.Step.lean ====
/- What one step of the kernel computes from the blocks and the scratch buffers it reads. -/
module

public import proofs.«01_k».proof.Proof.FrameKI.Common
public import Idealize.ShloMosaic.Lib.WritesUnit
public import Idealize.ShloMosaic.Lib.VecWindow
public import Idealize.ShloMosaic.Lib.ValueIdx
public import Idealize.ShloMosaic.Lib.ValueLayout

@[expose] public section

noncomputable section

namespace Cert.KernelIdeal.Hand

open Idealize.ShloMosaic Idealize.ShloMosaic.ValueIdx
open Cert.KernelIdeal.Gen

variable {F : FTy → Type} [FloatOps F] [Named F]

/-- Group `j` of a chunk, as rows of a transposed buffer. -/
abbrev rRow (j : Fin 8) : Rect S1024x256 := Rect.unit (s := S1024x256) ![128 * j.val, 0] S128x256.size (by revert j; decide)
/-- Group `j` of a chunk, as columns of a block. -/
abbrev rCol (j : Fin 8) : Rect S256x1024 := Rect.unit (s := S256x1024) ![0, 128 * j.val] S256x128.size (by revert j; decide)
/-- Groups `2 p` and `2 p + 1` of a chunk, as columns of a block. -/
abbrev rPair (p : Fin 4) : Rect S256x1024 := Rect.unit (s := S256x1024) ![0, 256 * p.val] S256x256.size (by revert p; decide)
/-- The row of group `j` of the current chunk in an array of parameters. -/
abbrev rPar (i : grid0.Coords) (j : Fin 8) : Rect S1024x256 :=
  Rect.unit (s := S1024x256) (k0_off2 i (BitVec.ofNat 32 j.val)) S1x256.size (k0_off2_inb i j)
/-- Statistic `n` of the eight groups of a chunk. -/
abbrev rSt (n : Fin 4) : Rect S4x8x256 := Rect.unit (s := S4x8x256) ![n.val, 0, 0] S1x8x256.size (by revert n; decide)

def rowsOf {e : EltTy} (s : Vec F S1024x256 e) (j : Fin 8) : Vec F S128x256 e := fun y => s ((rRow j).toLoadRect.idx y)
def colsOf {e : EltTy} (x : Vec F S256x1024 e) (j : Fin 8) : Vec F S256x128 e := fun y => x ((rCol j).toLoadRect.idx y)
def pairOf {e : EltTy} (x : Vec F S256x1024 e) (p : Fin 4) : Vec F S256x256 e := fun y => x ((rPair p).toLoadRect.idx y)
def parOf {e : EltTy} (s : Vec F S1024x256 e) (i : grid0.Coords) (j : Fin 8) : Vec F S1x256 e :=
  fun y => s ((rPar i j).toLoadRect.idx y)
def stOf {e : EltTy} (s : Vec F S4x8x256 e) (n : Fin 4) : Vec F S1x8x256 e := fun y => s ((rSt n).toLoadRect.idx y)

/-- The pair of a group, and which half of the pair it is. -/
def pairIx (j : Fin 8) : Fin 4 := ⟨j.val / 2, by have := j.isLt; omega⟩
theorem slices_half (j : Fin 8) : S256x256.Slices ![128 * (j.val % 2), 0] S128x256 := by revert j; decide
theorem slices_row (j : Fin 8) : S8x256.Slices ![j.val, 0] S1x256 := by revert j; decide
def halfOf (q : FVec F S256x256 .f32) (j : Fin 8) : FVec F S128x256 .f32 :=
  extractStridedSlice S128x256 ![128 * (j.val % 2), 0] q (slices_half j)
def rowOf (k : FVec F S8x256 .f32) (j : Fin 8) : FVec F S1x256 .f32 := extractStridedSlice S1x256 ![j.val, 0] k (slices_row j)

def eye : FVec F S256x256 .bf16 := k0_pay76 k0_pay73 k0_pay74 k0_pay75
/-- The transposed codes and gradients of a pair of groups. -/
def mCodes (x3 : Vec F S256x1024 .fp8e4m3) (p : Fin 4) : FVec F S256x256 .f32 :=
  matmul dot_S256x256_S256x256_S256x256_1_1_0_0_n_n none eye (shapeCast S256x256 (pairOf x3 p) shapeCasts_S256x256_S256x256) (constant S256x256 .f32 0x00000000#32)
def vCodes (x4 : Vec F S256x1024 .fp8e5m2) (p : Fin 4) : FVec F S256x256 .f32 :=
  matmul dot_S256x256_S256x256_S256x256_1_1_0_0_n_n none eye (shapeCast S256x256 (pairOf x4 p) shapeCasts_S256x256_S256x256) (constant S256x256 .f32 0x00000000#32)
def gCols (x2 : Vec F S256x1024 .bf16) (p : Fin 4) : FVec F S256x256 .f32 :=
  matmul dot_S256x256_S256x256_S256x256_1_1_0_0_n_n none eye (shapeCast S256x256 (pairOf x2 p) shapeCasts_S256x256_S256x256) (constant S256x256 .f32 0x00000000#32)

def zeros : FVec F S128x256 .f32 := broadcast S128x256 (Scalar.ofBits .f32 0x00000000#32)
/-- The base 2 logarithm of a group. -/
def lg (x : FVec F S128x256 .f32) : FVec F S128x256 .f32 :=
  mulf (log x) (broadcast S128x256 (Named.named κ "inv_ln2" 0x3FB8AA3B#32))
/-- A magnitude with the sign of `x`. -/
def signed (x y : FVec F S128x256 .f32) : FVec F S128x256 .f32 :=
  select (cmpf .olt x (constant S128x256 .f32 0x00000000#32)) (subf zeros y) y
def flip (x : FVec F S128x256 .f32) : FVec F S128x256 .f32 :=
  select (cmpf .ogt x zeros) (subf zeros x) (broadcast S128x256 (Scalar.ofBits .f32 0xFF800000#32))
def amp (l : FVec F S128x256 .f32) (k o : FVec F S1x256 .f32) : FVec F S128x256 .f32 :=
  exp2 (addf (mulf l (broadcastTo S128x256 k broadcasts_S1x256_S128x256)) (broadcastTo S128x256 o broadcasts_S1x256_S128x256))

/-- The new first moment of a group, ten times as large, -/
def m1G (i : grid0.Coords) (x2 : Vec F S256x1024 .bf16) (x3 : Vec F S256x1024 .fp8e4m3) (s5 s6 : Vec F S1024x256 .f32) (j : Fin 8) :
    FVec F S128x256 .f32 :=
  addf (signed (halfOf (mCodes x3 (pairIx j)) j) (amp (lg (absf (halfOf (mCodes x3 (pairIx j)) j))) (parOf s5 i j) (parOf s6 i j)))
    (halfOf (gCols x2 (pairIx j)) j)
/-- and the new second moment, twenty times as large. -/
def v1G (i : grid0.Coords) (x2 : Vec F S256x1024 .bf16) (x4 : Vec F S256x1024 .fp8e5m2) (s7 s8 : Vec F S1024x256 .f32) (j : Fin 8) :
    FVec F S128x256 .f32 :=
  addf (amp (lg (halfOf (vCodes x4 (pairIx j)) j)) (parOf s7 i j) (parOf s8 i j))
    (mulf (halfOf (gCols x2 (pairIx j)) j) (halfOf (gCols x2 (pairIx j)) j))
/-- The update of a group before its last factor. -/
def uG (n : Elt F .i32) (m v : FVec F S128x256 .f32) : FVec F S128x256 .f32 :=
  mulf m (divf (broadcast S128x256 (Scalar.ofBits .f32 0x3F800000#32))
    (addf (exp2 (mulf (broadcast S128x256 (Scalar.ofBits .f32 0x3F000000#32)) (lg v))) (broadcastTo S128x256 (k0_pay21 n) broadcasts_S1x1_S128x256)))

def keep (x : FVec F S128x256 .f32) : FVec F S128x256 .f32 := shapeCast S128x256 x shapeCasts_S128x256_S128x256
def maxOf (x : FVec F S128x256 .f32) : FVec F S1x1x256 .f32 :=
  shapeCast S1x1x256 (shapeCast S1x256 (multiReduction .maximumf [0] S256 x 0xFF800000#32 reduces_S128x256_S256 (.inl rfl) rfl) shapeCasts_S256_S1x256)
    shapeCasts_S1x256_S1x1x256
/-- The four statistics of a group. -/
def stG (m v : FVec F S128x256 .f32) : Fin 4 → FVec F S1x1x256 .f32
  | 0 => maxOf (absf m)
  | 1 => maxOf (flip (absf m))
  | 2 => maxOf v
  | 3 => maxOf (flip v)

/-- A buffer of rows from its eight groups. -/
def ofRows {e : EltTy} (P : Fin 8 → Vec F S128x256 e) : Vec F S1024x256 e := fun y =>
  P ⟨(y 0).val / 128, Nat.div_lt_of_lt_mul (y 0).isLt⟩ (ix2 ⟨(y 0).val % 128, Nat.mod_lt _ (by decide)⟩ (y 1))
/-- A block from the columns of its eight groups. -/
def ofCols {e : EltTy} (P : Fin 8 → Vec F S256x128 e) : Vec F S256x1024 e := fun y =>
  P ⟨(y 1).val / 128, Nat.div_lt_of_lt_mul (y 1).isLt⟩ (ix2 (y 0) ⟨(y 1).val % 128, Nat.mod_lt _ (by decide)⟩)
/-- The statistics of eight groups. -/
def ofStats (P : Fin 8 → Fin 4 → Vec F S1x1x256 .f32) : Vec F S4x8x256 .f32 := fun y => P (y 1) (y 0) (ix3 0 0 (y 2))

section news
variable (i : grid0.Coords) (n : Elt F .i32) (x2 : Vec F S256x1024 .bf16) (x3 : Vec F S256x1024 .fp8e4m3) (x4 : Vec F S256x1024 .fp8e5m2)
  (s5 s6 s7 s8 : Vec F S1024x256 .f32)
def newM : Vec F S1024x256 .f32 := ofRows fun j => keep (m1G i x2 x3 s5 s6 j)
def newLm : Vec F S1024x256 .f32 := ofRows fun j => keep (lg (absf (m1G i x2 x3 s5 s6 j)))
def newLv : Vec F S1024x256 .f32 := ofRows fun j => keep (lg (v1G i x2 x4 s7 s8 j))
def newU : Vec F S1024x256 .f32 := ofRows fun j => keep (uG n (m1G i x2 x3 s5 s6 j) (v1G i x2 x4 s7 s8 j))
def newSt : Vec F S4x8x256 .f32 := ofStats fun j => stG (m1G i x2 x3 s5 s6 j) (v1G i x2 x4 s7 s8 j)
end news

section outs
variable (n : Elt F .i32) (x1 : Vec F S256x1024 .f32) (s0 s1 s2 s3 : Vec F S1024x256 .f32) (s4 : Vec F S4x8x256 .f32)
/-- The new parameters of the eight groups: scales and exponents, and the offsets the codes are made with. -/
def mScale : FVec F S8x256 .f32 := k0_pay30 (k0_pay22 (stOf s4 0)) k0_pay24
def mK : FVec F S8x256 .f32 := k0_pay28 (k0_pay22 (stOf s4 0)) (k0_pay23 (stOf s4 1)) k0_pay24
def mOff : FVec F S8x256 .f32 := k0_pay29 (k0_pay22 (stOf s4 0)) (k0_pay23 (stOf s4 1)) k0_pay24
def mKc : FVec F S8x256 .f32 := k0_pay31 (k0_pay22 (stOf s4 0)) (k0_pay23 (stOf s4 1)) k0_pay24
def vScale : FVec F S8x256 .f32 := k0_pay39 (k0_pay32 (stOf s4 2))
def vK : FVec F S8x256 .f32 := k0_pay37 (k0_pay32 (stOf s4 2)) (k0_pay33 (stOf s4 3))
def vOff : FVec F S8x256 .f32 := k0_pay38 (k0_pay32 (stOf s4 2)) (k0_pay33 (stOf s4 3))
def vKc : FVec F S8x256 .f32 := k0_pay40 (k0_pay32 (stOf s4 2)) (k0_pay33 (stOf s4 3))
/-- The update of a group, -/
def uOutG (j : Fin 8) : FVec F S256x128 .f32 :=
  addf (mulf (transpose S256x128 [1, 0] (rowsOf s3 j) transposes_S128x256_p1_0_S256x128) (broadcastTo S256x128 (k0_pay20 n) broadcasts_S1x1_S256x128))
    (mulf (broadcast S256x128 (Named.named κ "tenth" 0x3DCCCCCD#32)) (shapeCast S256x128 (colsOf x1 j) shapeCasts_S256x128_S256x128))
/-- its first moment's codes -/
def mOutG (j : Fin 8) : FVec F S256x128 .fp8e4m3 :=
  truncf .fp8e4m3 (transpose S256x128 [1, 0] (signed (rowsOf s0 j) (minimumf (amp (rowsOf s1 j) (rowOf (mK s4) j) (rowOf (mOff s4) j))
    (broadcast S128x256 (Scalar.ofBits .f32 0x43E00000#32)))) transposes_S128x256_p1_0_S256x128) bitsLt_fp8e4m3_f32
/-- and its second moment's. -/
def vOutG (j : Fin 8) : FVec F S256x128 .fp8e5m2 :=
  truncf .fp8e5m2 (transpose S256x128 [1, 0] (minimumf (amp (rowsOf s2 j) (rowOf (vK s4) j) (rowOf (vOff s4) j))
    (broadcast S128x256 (Scalar.ofBits .f32 0x47600000#32))) transposes_S128x256_p1_0_S256x128) bitsLt_fp8e5m2_f32
def outU : Vec F S256x1024 .f32 := ofCols (uOutG n x1 s3)
def outM : Vec F S256x1024 .fp8e4m3 := ofCols (mOutG s0 s1 s4)
def outV : Vec F S256x1024 .fp8e5m2 := ofCols (vOutG s2 s4)
end outs

/-- An array of parameters with the eight rows of the step before put in. -/
def putRows (i : grid0.Coords) (w : FVec F S8x256 .f32) (s : Vec F S1024x256 .f32) : Vec F S1024x256 .f32 := fun y =>
  if h : 8 * ((i 0).val - 1) ≤ (y 0).val ∧ (y 0).val < 8 * ((i 0).val - 1) + 8 then
    w (ix2 ⟨(y 0).val - 8 * ((i 0).val - 1), by omega⟩ (y 1))
  else s y

/-- The step count, as the kernel reads it. -/
def word (x0 : Vec F S1 .i32) : Elt F .i32 :=
  x0 ((Rect.unit (s := S1) ![0] S1.size (by decide)).toLoadRect.idx (Shape.Idx.first (by decide)))
/-- An array of parameters laid out as the results are. -/
def flat (s : Vec F S1024x256 .f32) : FVec F S256x1024 .f32 := k0_pay2 s

/-! ## What a buffer holds after its pieces are stored -/

section pieces
theorem read_rows {κ' : Kind} {sp : Space} {e : EltTy} (v : View sig κ' sp S1024x256 e) (f : v.ty.Contents (Elt F)) (P : Fin 8 → Vec F S128x256 e) :
    v.read (Elt F) (v.writes (Elt F) f (View.tilePieces S128x256.size (fun j : Fin 8 => ![128 * j.val, 0])
      (fun j => by revert j; decide) P 8 le_rfl)) = ofRows P := by
  funext y
  have h0 : (y 0).val < 1024 := (y 0).isLt
  refine View.read_tilePieces v f _ _ _ P 8 le_rfl y ⟨(y 0).val / 128, Nat.div_lt_of_lt_mul (y 0).isLt⟩ ?_ _ ?_ 0 ?_
  · show (y 0).val / 128 < 8; omega
  · intro a
    fin_cases a
    · show (y 0).val = 128 * ((y 0).val / 128) + (y 0).val % 128; omega
    · show (y 1).val = 0 + (y 1).val; omega
  · intro j hj
    have hj' : j.val ≠ (y 0).val / 128 := fun h => hj (Fin.ext h)
    show (y 0).val < 128 * j.val ∨ 128 * j.val + 128 ≤ (y 0).val
    omega

theorem read_cols {κ' : Kind} {sp : Space} {e : EltTy} (v : View sig κ' sp S256x1024 e) (f : v.ty.Contents (Elt F)) (P : Fin 8 → Vec F S256x128 e) :
    v.read (Elt F) (v.writes (Elt F) f (View.tilePieces S256x128.size (fun j : Fin 8 => ![0, 128 * j.val])
      (fun j => by revert j; decide) P 8 le_rfl)) = ofCols P := by
  funext y
  have h1 : (y 1).val < 1024 := (y 1).isLt
  refine View.read_tilePieces v f _ _ _ P 8 le_rfl y ⟨(y 1).val / 128, Nat.div_lt_of_lt_mul (y 1).isLt⟩ ?_ _ ?_ 1 ?_
  · show (y 1).val / 128 < 8; omega
  · intro a
    fin_cases a
    · show (y 0).val = 0 + (y 0).val; omega
    · show (y 1).val = 128 * ((y 1).val / 128) + (y 1).val % 128; omega
  · intro j hj
    have hj' : j.val ≠ (y 1).val / 128 := fun h => hj (Fin.ext h)
    show (y 1).val < 128 * j.val ∨ 128 * j.val + 128 ≤ (y 1).val
    omega

theorem read_rows_list {κ' : Kind} {sp : Space} {e : EltTy} (v : View sig κ' sp S1024x256 e) (f : v.ty.Contents (Elt F)) (P : Fin 8 → Vec F S128x256 e)
    (L : List (View.Piece (Elt F) S1024x256 e)) (p0 p1 p2 p3 p4 p5 p6 p7 : Vec F S128x256 e)
    (i0 : ∀ a, (![0, 0] : Fin 2 → ℕ) a + S128x256.size a ≤ S1024x256.size a)
    (i1 : ∀ a, (![128, 0] : Fin 2 → ℕ) a + S128x256.size a ≤ S1024x256.size a)
    (i2 : ∀ a, (![256, 0] : Fin 2 → ℕ) a + S128x256.size a ≤ S1024x256.size a)
    (i3 : ∀ a, (![384, 0] : Fin 2 → ℕ) a + S128x256.size a ≤ S1024x256.size a)
    (i4 : ∀ a, (![512, 0] : Fin 2 → ℕ) a + S128x256.size a ≤ S1024x256.size a)
    (i5 : ∀ a, (![640, 0] : Fin 2 → ℕ) a + S128x256.size a ≤ S1024x256.size a)
    (i6 : ∀ a, (![768, 0] : Fin 2 → ℕ) a + S128x256.size a ≤ S1024x256.size a)
    (i7 : ∀ a, (![896, 0] : Fin 2 → ℕ) a + S128x256.size a ≤ S1024x256.size a)
    (h0 : p0 = P 0) (h1 : p1 = P 1) (h2 : p2 = P 2) (h3 : p3 = P 3) (h4 : p4 = P 4) (h5 : p5 = P 5) (h6 : p6 = P 6) (h7 : p7 = P 7) :
    v.read (Elt F) (v.writes (Elt F) f (⟨Rect.unit (s := S1024x256) ![896, 0] S128x256.size i7, p7⟩ :: ⟨Rect.unit (s := S1024x256) ![768, 0] S128x256.size i6, p6⟩ :: ⟨Rect.unit (s := S1024x256) ![640, 0] S128x256.size i5, p5⟩ :: ⟨Rect.unit (s := S1024x256) ![512, 0] S128x256.size i4, p4⟩ :: ⟨Rect.unit (s := S1024x256) ![384, 0] S128x256.size i3, p3⟩ :: ⟨Rect.unit (s := S1024x256) ![256, 0] S128x256.size i2, p2⟩ :: ⟨Rect.unit (s := S1024x256) ![128, 0] S128x256.size i1, p1⟩ :: ⟨Rect.unit (s := S1024x256) ![0, 0] S128x256.size i0, p0⟩ :: L)) = ofRows P := by
  subst h0; subst h1; subst h2; subst h3; subst h4; subst h5; subst h6; subst h7
  exact read_rows v (v.writes (Elt F) f L) P

theorem read_cols_list {κ' : Kind} {sp : Space} {e : EltTy} (v : View sig κ' sp S256x1024 e) (f : v.ty.Contents (Elt F)) (P : Fin 8 → Vec F S256x128 e)
    (L : List (View.Piece (Elt F) S256x1024 e)) (p0 p1 p2 p3 p4 p5 p6 p7 : Vec F S256x128 e)
    (i0 : ∀ a, (![0, 0] : Fin 2 → ℕ) a + S256x128.size a ≤ S256x1024.size a)
    (i1 : ∀ a, (![0, 128] : Fin 2 → ℕ) a + S256x128.size a ≤ S256x1024.size a)
    (i2 : ∀ a, (![0, 256] : Fin 2 → ℕ) a + S256x128.size a ≤ S256x1024.size a)
    (i3 : ∀ a, (![0, 384] : Fin 2 → ℕ) a + S256x128.size a ≤ S256x1024.size a)
    (i4 : ∀ a, (![0, 512] : Fin 2 → ℕ) a + S256x128.size a ≤ S256x1024.size a)
    (i5 : ∀ a, (![0, 640] : Fin 2 → ℕ) a + S256x128.size a ≤ S256x1024.size a)
    (i6 : ∀ a, (![0, 768] : Fin 2 → ℕ) a + S256x128.size a ≤ S256x1024.size a)
    (i7 : ∀ a, (![0, 896] : Fin 2 → ℕ) a + S256x128.size a ≤ S256x1024.size a)
    (h0 : p0 = P 0) (h1 : p1 = P 1) (h2 : p2 = P 2) (h3 : p3 = P 3) (h4 : p4 = P 4) (h5 : p5 = P 5) (h6 : p6 = P 6) (h7 : p7 = P 7) :
    v.read (Elt F) (v.writes (Elt F) f (⟨Rect.unit (s := S256x1024) ![0, 896] S256x128.size i7, p7⟩ :: ⟨Rect.unit (s := S256x1024) ![0, 768] S256x128.size i6, p6⟩ :: ⟨Rect.unit (s := S256x1024) ![0, 640] S256x128.size i5, p5⟩ :: ⟨Rect.unit (s := S256x1024) ![0, 512] S256x128.size i4, p4⟩ :: ⟨Rect.unit (s := S256x1024) ![0, 384] S256x128.size i3, p3⟩ :: ⟨Rect.unit (s := S256x1024) ![0, 256] S256x128.size i2, p2⟩ :: ⟨Rect.unit (s := S256x1024) ![0, 128] S256x128.size i1, p1⟩ :: ⟨Rect.unit (s := S256x1024) ![0, 0] S256x128.size i0, p0⟩ :: L)) = ofCols P := by
  subst h0; subst h1; subst h2; subst h3; subst h4; subst h5; subst h6; subst h7
  exact read_cols v (v.writes (Elt F) f L) P

/-- The offsets of the thirty-two statistics, in the order in which they are stored. -/
def stOff (r : Fin 32) : Fin 3 → ℕ := ![r.val % 4, r.val / 4, 0]

theorem mem_tilePieces {s : Shape} {Val : EltTy → Type} {e : EltTy} {NT : ℕ} (tsz : Fin s.rank → ℕ) (off : Fin NT → Fin s.rank → ℕ)
    (inb : ∀ i a, off i a + tsz a ≤ s.size a) (P : Fin NT → (⟨s.rank, tsz⟩ : Shape).Idx → Val e) (r : Fin NT) :
    ∀ (j : ℕ) (hj : j ≤ NT), r.val < j →
      (⟨Rect.unit (off r) tsz (inb r), P r⟩ : View.Piece Val s e) ∈ View.tilePieces tsz off inb P j hj
  | 0, _, h => absurd h (Nat.not_lt_zero _)
  | j + 1, hj, h => by
    rw [View.tilePieces_succ]
    by_cases hr : r.val = j
    · have : r = ⟨j, hj⟩ := Fin.ext hr
      subst this; exact List.mem_cons_self
    · exact List.mem_cons_of_mem _ (mem_tilePieces tsz off inb P r j _ (by omega))

theorem of_mem_tilePieces {s : Shape} {Val : EltTy → Type} {e : EltTy} {NT : ℕ} (tsz : Fin s.rank → ℕ) (off : Fin NT → Fin s.rank → ℕ)
    (inb : ∀ i a, off i a + tsz a ≤ s.size a) (P : Fin NT → (⟨s.rank, tsz⟩ : Shape).Idx → Val e) (p : View.Piece Val s e) :
    ∀ (j : ℕ) (hj : j ≤ NT), p ∈ View.tilePieces tsz off inb P j hj → ∃ r : Fin NT, p = ⟨Rect.unit (off r) tsz (inb r), P r⟩
  | 0, _, h => absurd h List.not_mem_nil
  | j + 1, hj, h => by
    rw [View.tilePieces_succ] at h
    rcases List.mem_cons.mp h with h | h
    · exact ⟨_, h⟩
    · exact of_mem_tilePieces tsz off inb P p j _ h

theorem read_stats {κ' : Kind} {sp : Space} (v : View sig κ' sp S4x8x256 .f32) (f : v.ty.Contents (Elt F)) (P : Fin 8 → Fin 4 → Vec F S1x1x256 .f32) :
    v.read (Elt F) (v.writes (Elt F) f (View.tilePieces (s := S4x8x256) S1x1x256.size stOff
      (fun j => by revert j; decide) (fun r : Fin 32 => P ⟨r.val / 4, by have := r.isLt; omega⟩ ⟨r.val % 4, Nat.mod_lt _ (by decide)⟩) 32 le_rfl)) = ofStats P := by
  funext y
  have h0 : (y 0).val < 4 := (y 0).isLt
  have h1 : (y 1).val < 8 := (y 1).isLt
  have hin : ∀ (r : Fin 32) a, stOff r a + S1x1x256.size a ≤ S4x8x256.size a := by decide
  refine View.read_writes_apply_of_pieces v f (ofStats P) _ ?_ y ?_
  · intro p hp x
    obtain ⟨r, rfl⟩ := of_mem_tilePieces _ _ _ _ _ _ _ hp
    have hr := r.isLt
    have x0 : (x 0).val < 1 := (x 0).isLt
    have x1 : (x 1).val < 1 := (x 1).isLt
    have e1 : ((Rect.unit (s := S4x8x256) (stOff r) S1x1x256.size (hin r)).emb x 1) = (⟨r.val / 4, by omega⟩ : Fin 8) := by
      apply Fin.ext; show r.val / 4 + 1 * (x 1).val = r.val / 4; omega
    have e0 : ((Rect.unit (s := S4x8x256) (stOff r) S1x1x256.size (hin r)).emb x 0) = (⟨r.val % 4, Nat.mod_lt _ (by decide)⟩ : Fin 4) := by
      apply Fin.ext; show r.val % 4 + 1 * (x 0).val = r.val % 4; omega
    unfold ofStats
    rw [e1, e0]
    refine congrArg _ ?_
    funext a
    apply Fin.ext
    fin_cases a
    · show (x 0).val = 0; omega
    · show (x 1).val = 0; omega
    · show (x 2).val = 0 + 1 * (x 2).val; omega
  · refine ⟨_, mem_tilePieces _ _ _ _ ⟨4 * (y 1).val + (y 0).val, by omega⟩ 32 le_rfl (by show 4 * (y 1).val + (y 0).val < 32; omega), ?_⟩
    have e1 : (4 * (y 1).val + (y 0).val) / 4 = (y 1).val := by omega
    have e0 : (4 * (y 1).val + (y 0).val) % 4 = (y 0).val := by omega
    rw [Rect.mem_set_unit]
    intro a
    fin_cases a
    · show (4 * (y 1).val + (y 0).val) % 4 ≤ (y 0).val ∧ (y 0).val < (4 * (y 1).val + (y 0).val) % 4 + 1; omega
    · show (4 * (y 1).val + (y 0).val) / 4 ≤ (y 1).val ∧ (y 1).val < (4 * (y 1).val + (y 0).val) / 4 + 1; omega
    · show 0 ≤ (y 2).val ∧ (y 2).val < 0 + 256; exact ⟨Nat.zero_le _, by have := (y 2).isLt; exact (Nat.zero_add 256).symm ▸ this⟩

theorem read_stats_list {κ' : Kind} {sp : Space} (v : View sig κ' sp S4x8x256 .f32) (f : v.ty.Contents (Elt F)) (P : Fin 8 → Fin 4 → Vec F S1x1x256 .f32)
    (L : List (View.Piece (Elt F) S4x8x256 .f32)) (p0 p1 p2 p3 p4 p5 p6 p7 p8 p9 p10 p11 p12 p13 p14 p15 p16 p17 p18 p19 p20 p21 p22 p23 p24 p25 p26 p27 p28 p29 p30 p31 : Vec F S1x1x256 .f32)
    (i0 : ∀ a, (![0, 0, 0] : Fin 3 → ℕ) a + S1x1x256.size a ≤ S4x8x256.size a)
    (i1 : ∀ a, (![1, 0, 0] : Fin 3 → ℕ) a + S1x1x256.size a ≤ S4x8x256.size a)
    (i2 : ∀ a, (![2, 0, 0] : Fin 3 → ℕ) a + S1x1x256.size a ≤ S4x8x256.size a)
    (i3 : ∀ a, (![3, 0, 0] : Fin 3 → ℕ) a + S1x1x256.size a ≤ S4x8x256.size a)
    (i4 : ∀ a, (![0, 1, 0] : Fin 3 → ℕ) a + S1x1x256.size a ≤ S4x8x256.size a)
    (i5 : ∀ a, (![1, 1, 0] : Fin 3 → ℕ) a + S1x1x256.size a ≤ S4x8x256.size a)
    (i6 : ∀ a, (![2, 1, 0] : Fin 3 → ℕ) a + S1x1x256.size a ≤ S4x8x256.size a)
    (i7 : ∀ a, (![3, 1, 0] : Fin 3 → ℕ) a + S1x1x256.size a ≤ S4x8x256.size a)
    (i8 : ∀ a, (![0, 2, 0] : Fin 3 → ℕ) a + S1x1x256.size a ≤ S4x8x256.size a)
    (i9 : ∀ a, (![1, 2, 0] : Fin 3 → ℕ) a + S1x1x256.size a ≤ S4x8x256.size a)
    (i10 : ∀ a, (![2, 2, 0] : Fin 3 → ℕ) a + S1x1x256.size a ≤ S4x8x256.size a)
    (i11 : ∀ a, (![3, 2, 0] : Fin 3 → ℕ) a + S1x1x256.size a ≤ S4x8x256.size a)
    (i12 : ∀ a, (![0, 3, 0] : Fin 3 → ℕ) a + S1x1x256.size a ≤ S4x8x256.size a)
    (i13 : ∀ a, (![1, 3, 0] : Fin 3 → ℕ) a + S1x1x256.size a ≤ S4x8x256.size a)
    (i14 : ∀ a, (![2, 3, 0] : Fin 3 → ℕ) a + S1x1x256.size a ≤ S4x8x256.size a)
    (i15 : ∀ a, (![3, 3, 0] : Fin 3 → ℕ) a + S1x1x256.size a ≤ S4x8x256.size a)
    (i16 : ∀ a, (![0, 4, 0] : Fin 3 → ℕ) a + S1x1x256.size a ≤ S4x8x256.size a)
    (i17 : ∀ a, (![1, 4, 0] : Fin 3 → ℕ) a + S1x1x256.size a ≤ S4x8x256.size a)
    (i18 : ∀ a, (![2, 4, 0] : Fin 3 → ℕ) a + S1x1x256.size a ≤ S4x8x256.size a)
    (i19 : ∀ a, (![3, 4, 0] : Fin 3 → ℕ) a + S1x1x256.size a ≤ S4x8x256.size a)
    (i20 : ∀ a, (![0, 5, 0] : Fin 3 → ℕ) a + S1x1x256.size a ≤ S4x8x256.size a)
    (i21 : ∀ a, (![1, 5, 0] : Fin 3 → ℕ) a + S1x1x256.size a ≤ S4x8x256.size a)
    (i22 : ∀ a, (![2, 5, 0] : Fin 3 → ℕ) a + S1x1x256.size a ≤ S4x8x256.size a)
    (i23 : ∀ a, (![3, 5, 0] : Fin 3 → ℕ) a + S1x1x256.size a ≤ S4x8x256.size a)
    (i24 : ∀ a, (![0, 6, 0] : Fin 3 → ℕ) a + S1x1x256.size a ≤ S4x8x256.size a)
    (i25 : ∀ a, (![1, 6, 0] : Fin 3 → ℕ) a + S1x1x256.size a ≤ S4x8x256.size a)
    (i26 : ∀ a, (![2, 6, 0] : Fin 3 → ℕ) a + S1x1x256.size a ≤ S4x8x256.size a)
    (i27 : ∀ a, (![3, 6, 0] : Fin 3 → ℕ) a + S1x1x256.size a ≤ S4x8x256.size a)
    (i28 : ∀ a, (![0, 7, 0] : Fin 3 → ℕ) a + S1x1x256.size a ≤ S4x8x256.size a)
    (i29 : ∀ a, (![1, 7, 0] : Fin 3 → ℕ) a + S1x1x256.size a ≤ S4x8x256.size a)
    (i30 : ∀ a, (![2, 7, 0] : Fin 3 → ℕ) a + S1x1x256.size a ≤ S4x8x256.size a)
    (i31 : ∀ a, (![3, 7, 0] : Fin 3 → ℕ) a + S1x1x256.size a ≤ S4x8x256.size a)
    (h0 : p0 = P 0 0) (h1 : p1 = P 0 1) (h2 : p2 = P 0 2) (h3 : p3 = P 0 3) (h4 : p4 = P 1 0) (h5 : p5 = P 1 1) (h6 : p6 = P 1 2) (h7 : p7 = P 1 3) (h8 : p8 = P 2 0) (h9 : p9 = P 2 1) (h10 : p10 = P 2 2) (h11 : p11 = P 2 3) (h12 : p12 = P 3 0) (h13 : p13 = P 3 1) (h14 : p14 = P 3 2) (h15 : p15 = P 3 3) (h16 : p16 = P 4 0) (h17 : p17 = P 4 1) (h18 : p18 = P 4 2) (h19 : p19 = P 4 3) (h20 : p20 = P 5 0) (h21 : p21 = P 5 1) (h22 : p22 = P 5 2) (h23 : p23 = P 5 3) (h24 : p24 = P 6 0) (h25 : p25 = P 6 1) (h26 : p26 = P 6 2) (h27 : p27 = P 6 3) (h28 : p28 = P 7 0) (h29 : p29 = P 7 1) (h30 : p30 = P 7 2) (h31 : p31 = P 7 3) :
    v.read (Elt F) (v.writes (Elt F) f (⟨Rect.unit (s := S4x8x256) ![3, 7, 0] S1x1x256.size i31, p31⟩ :: ⟨Rect.unit (s := S4x8x256) ![2, 7, 0] S1x1x256.size i30, p30⟩ :: ⟨Rect.unit (s := S4x8x256) ![1, 7, 0] S1x1x256.size i29, p29⟩ :: ⟨Rect.unit (s := S4x8x256) ![0, 7, 0] S1x1x256.size i28, p28⟩ :: ⟨Rect.unit (s := S4x8x256) ![3, 6, 0] S1x1x256.size i27, p27⟩ :: ⟨Rect.unit (s := S4x8x256) ![2, 6, 0] S1x1x256.size i26, p26⟩ :: ⟨Rect.unit (s := S4x8x256) ![1, 6, 0] S1x1x256.size i25, p25⟩ :: ⟨Rect.unit (s := S4x8x256) ![0, 6, 0] S1x1x256.size i24, p24⟩ :: ⟨Rect.unit (s := S4x8x256) ![3, 5, 0] S1x1x256.size i23, p23⟩ :: ⟨Rect.unit (s := S4x8x256) ![2, 5, 0] S1x1x256.size i22, p22⟩ :: ⟨Rect.unit (s := S4x8x256) ![1, 5, 0] S1x1x256.size i21, p21⟩ :: ⟨Rect.unit (s := S4x8x256) ![0, 5, 0] S1x1x256.size i20, p20⟩ :: ⟨Rect.unit (s := S4x8x256) ![3, 4, 0] S1x1x256.size i19, p19⟩ :: ⟨Rect.unit (s := S4x8x256) ![2, 4, 0] S1x1x256.size i18, p18⟩ :: ⟨Rect.unit (s := S4x8x256) ![1, 4, 0] S1x1x256.size i17, p17⟩ :: ⟨Rect.unit (s := S4x8x256) ![0, 4, 0] S1x1x256.size i16, p16⟩ :: ⟨Rect.unit (s := S4x8x256) ![3, 3, 0] S1x1x256.size i15, p15⟩ :: ⟨Rect.unit (s := S4x8x256) ![2, 3, 0] S1x1x256.size i14, p14⟩ :: ⟨Rect.unit (s := S4x8x256) ![1, 3, 0] S1x1x256.size i13, p13⟩ :: ⟨Rect.unit (s := S4x8x256) ![0, 3, 0] S1x1x256.size i12, p12⟩ :: ⟨Rect.unit (s := S4x8x256) ![3, 2, 0] S1x1x256.size i11, p11⟩ :: ⟨Rect.unit (s := S4x8x256) ![2, 2, 0] S1x1x256.size i10, p10⟩ :: ⟨Rect.unit (s := S4x8x256) ![1, 2, 0] S1x1x256.size i9, p9⟩ :: ⟨Rect.unit (s := S4x8x256) ![0, 2, 0] S1x1x256.size i8, p8⟩ :: ⟨Rect.unit (s := S4x8x256) ![3, 1, 0] S1x1x256.size i7, p7⟩ :: ⟨Rect.unit (s := S4x8x256) ![2, 1, 0] S1x1x256.size i6, p6⟩ :: ⟨Rect.unit (s := S4x8x256) ![1, 1, 0] S1x1x256.size i5, p5⟩ :: ⟨Rect.unit (s := S4x8x256) ![0, 1, 0] S1x1x256.size i4, p4⟩ :: ⟨Rect.unit (s := S4x8x256) ![3, 0, 0] S1x1x256.size i3, p3⟩ :: ⟨Rect.unit (s := S4x8x256) ![2, 0, 0] S1x1x256.size i2, p2⟩ :: ⟨Rect.unit (s := S4x8x256) ![1, 0, 0] S1x1x256.size i1, p1⟩ :: ⟨Rect.unit (s := S4x8x256) ![0, 0, 0] S1x1x256.size i0, p0⟩ :: L)) = ofStats P := by
  subst h0; subst h1; subst h2; subst h3; subst h4; subst h5; subst h6; subst h7; subst h8; subst h9; subst h10; subst h11; subst h12; subst h13; subst h14; subst h15; subst h16; subst h17; subst h18; subst h19; subst h20; subst h21; subst h22; subst h23; subst h24; subst h25; subst h26; subst h27; subst h28; subst h29; subst h30; subst h31
  exact read_stats v (v.writes (Elt F) f L) P

theorem read_put {κ' : Kind} {sp : Space} (v : View sig κ' sp S1024x256 .f32) (f : v.ty.Contents (Elt F)) (i : grid0.Coords) (w : FVec F S8x256 .f32) :
    v.read (Elt F) (v.writes (Elt F) f [⟨Rect.unit (s := S1024x256) (k0_off1 i) S8x256.size (k0_off1_inb i), w⟩])
      = putRows i w (v.read (Elt F) f) := by
  funext y
  rw [View.read_writes_cons_rows (o := 8 * ((i 0).val - 1)) (W := 8) v f (k0_off1_inb i) w [] y (off1_eq i) rfl rfl]
  unfold putRows
  split
  · refine congrArg w ?_
    funext a
    apply Fin.ext
    fin_cases a
    · rfl
    · show (y 1).val - 0 = (y 1).val; omega
  · rfl
end pieces

/-! ## The parameters that the first step lays out by column -/

def whole (x : Vec F S256x1024 .f32) : Vec F S256x1024 .f32 :=
  fun y => x ((Rect.unit (s := S256x1024) ![0, 0] S256x1024.size (by decide)).toLoadRect.idx y)
def initIk (x6 : Vec F S256x1024 .f32) : FVec F S1024x256 .f32 := k0_pay12 (whole x6)
def initOf (x5 x6 : Vec F S256x1024 .f32) : FVec F S1024x256 .f32 := k0_pay14 (k0_pay11 (whole x6)) (k0_pay13 (whole x5))
def initVIk (x8 : Vec F S256x1024 .f32) : FVec F S1024x256 .f32 := k0_pay16 (whole x8)
def initVOf (x7 x8 : Vec F S256x1024 .f32) : FVec F S1024x256 .f32 := k0_pay17 (whole x8) (whole x7)

abbrev rAll : Rect S1024x256 := Rect.unit (s := S1024x256) ![0, 0] S1024x256.size (by decide)
section inits
variable {κ' : Kind} {sp : Space} (v : View sig κ' sp S1024x256 .f32) (f : v.ty.Contents (Elt F)) (x5 x6 : Vec F S256x1024 .f32)
theorem read_initIk : v.read (Elt F) (v.writes (Elt F) f [⟨rAll, initIk x6⟩]) = initIk x6 := View.read_writes_full _ _ _ _ _
theorem read_initOf : v.read (Elt F) (v.writes (Elt F) f [⟨rAll, initOf x5 x6⟩]) = initOf x5 x6 := View.read_writes_full _ _ _ _ _
theorem read_initVIk : v.read (Elt F) (v.writes (Elt F) f [⟨rAll, initVIk x6⟩]) = initVIk x6 := View.read_writes_full _ _ _ _ _
theorem read_initVOf : v.read (Elt F) (v.writes (Elt F) f [⟨rAll, initVOf x5 x6⟩]) = initVOf x5 x6 := View.read_writes_full _ _ _ _ _
end inits

local notation "𝕄" => MT nD τ sig Unit (Elt F) ℕ (UR sig nD τ) ℕ
open Idealize.SL Idealize.SL.RA Idealize.SL.BI Idealize.SL.BI.BIBase Idealize.SL.BI.Laws Idealize.SL.ProofMode Idealize.SL.Sem
open Idealize.ShloMosaic.TcCoe
open scoped Idealize.SL.BI

/-- A buffer is owned at what it reads. -/
theorem owns_read (c : Dev nD) {s : Shape} {sp : Space} {e : EltTy} (M : Memref sig .tc sp s e)
    (f : Buf (Elt F) (M.view.loc (c : Thread nD τ))) :
    (M.view.loc (c : Thread nD τ) ↦[M.view.set]{fullShare} f : sProp 𝕄)
      ⊢ iprop(∃ f', ⌜View.read (Elt F) M.view f' = View.read (Elt F) M.view f⌝ ∗ View.loc c.tc M.view ↦[M.view.set]{fullShare} f') := by
  iintro H
  iexists _
  isplitr; swap; · iexact H
  ipureintro; rfl

end Cert.KernelIdeal.Hand

end
-- ==== Proof.KI.StepB.lean ====
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.KI.Step

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 40000000 in
/-- One step of the kernel body between the first and the last grid point: what every buffer holds after it. -/
theorem stepB (c : Dev nD) (i : grid0.Coords)
  (arg1 : Memref sig .tc .smem S1 .i32) (harg1 : arg1.IsWhole)
  (arg2 : Memref sig .tc .vmem S256x1024 .f32) (harg2 : arg2.IsWhole)
  (arg3 : Memref sig .tc .vmem S256x1024 .bf16) (harg3 : arg3.IsWhole)
  (arg4 : Memref sig .tc .vmem S256x1024 .fp8e4m3) (harg4 : arg4.IsWhole)
  (arg5 : Memref sig .tc .vmem S256x1024 .fp8e5m2) (harg5 : arg5.IsWhole)
  (arg6 : Memref sig .tc .vmem S256x1024 .f32) (harg6 : arg6.IsWhole)
  (arg7 : Memref sig .tc .vmem S256x1024 .f32) (harg7 : arg7.IsWhole)
  (arg8 : Memref sig .tc .vmem S256x1024 .f32) (harg8 : arg8.IsWhole)
  (arg9 : Memref sig .tc .vmem S256x1024 .f32) (harg9 : arg9.IsWhole)
  (arg10 : Memref sig .tc .vmem S256x1024 .f32) (harg10 : arg10.IsWhole)
  (arg11 : Memref sig .tc .vmem S256x1024 .fp8e4m3) (harg11 : arg11.IsWhole)
  (arg12 : Memref sig .tc .vmem S256x1024 .f32) (harg12 : arg12.IsWhole)
  (arg13 : Memref sig .tc .vmem S256x1024 .f32) (harg13 : arg13.IsWhole)
  (arg14 : Memref sig .tc .vmem S256x1024 .fp8e5m2) (harg14 : arg14.IsWhole)
  (arg15 : Memref sig .tc .vmem S256x1024 .f32) (harg15 : arg15.IsWhole)
  (arg16 : Memref sig .tc .vmem S256x1024 .f32) (harg16 : arg16.IsWhole)
  (arg17 : Memref sig .tc .vmem S1024x256 .f32) (harg17 : arg17.IsWhole)
  (arg18 : Memref sig .tc .vmem S1024x256 .f32) (harg18 : arg18.IsWhole)
  (arg19 : Memref sig .tc .vmem S1024x256 .f32) (harg19 : arg19.IsWhole)
  (arg20 : Memref sig .tc .vmem S1024x256 .f32) (harg20 : arg20.IsWhole)
  (arg21 : Memref sig .tc .vmem S4x8x256 .f32) (harg21 : arg21.IsWhole)
  (arg22 : Memref sig .tc .vmem S1024x256 .f32) (harg22 : arg22.IsWhole)
  (arg23 : Memref sig .tc .vmem S1024x256 .f32) (harg23 : arg23.IsWhole)
  (arg24 : Memref sig .tc .vmem S1024x256 .f32) (harg24 : arg24.IsWhole)
  (arg25 : Memref sig .tc .vmem S1024x256 .f32) (harg25 : arg25.IsWhole)
  (arg26 : Memref sig .tc .vmem S1024x256 .f32) (harg26 : arg26.IsWhole)
  (arg27 : Memref sig .tc .vmem S1024x256 .f32) (harg27 : arg27.IsWhole)
  (arg28 : Memref sig .tc .vmem S1024x256 .f32) (harg28 : arg28.IsWhole)
  (arg29 : Memref sig .tc .vmem S1024x256 .f32) (harg29 : arg29.IsWhole)
  (hc0 : ¬cond0 i) (hc1 : ¬cond1 i)
  (x0 : Vec F S1 .i32)
  (x1 : Vec F S256x1024 .f32)
  (x2 : Vec F S256x1024 .bf16)
  (x3 : Vec F S256x1024 .fp8e4m3)
  (x4 : Vec F S256x1024 .fp8e5m2)
  (x5 : Vec F S256x1024 .f32)
  (x6 : Vec F S256x1024 .f32)
  (x7 : Vec F S256x1024 .f32)
  (x8 : Vec F S256x1024 .f32)
  (s0 : Vec F S1024x256 .f32)
  (s1 : Vec F S1024x256 .f32)
  (s2 : Vec F S1024x256 .f32)
  (s3 : Vec F S1024x256 .f32)
  (s4 : Vec F S4x8x256 .f32)
  (s5 : Vec F S1024x256 .f32)
  (s6 : Vec F S1024x256 .f32)
  (s7 : Vec F S1024x256 .f32)
  (s8 : Vec F S1024x256 .f32)
  (s9 : Vec F S1024x256 .f32)
  (s10 : Vec F S1024x256 .f32)
  (s11 : Vec F S1024x256 .f32)
  (s12 : Vec F S1024x256 .f32)
  (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8 ∗ held c arg10 ∗ held c arg11 ∗ held c arg12
        ∗ held c arg13 ∗ held c arg14 ∗ held c arg15 ∗ held c arg16 ∗ owns (c : Thread nD τ) arg17 fullShare s0 ∗ owns (c : Thread nD τ) arg18 fullShare s1
        ∗ owns (c : Thread nD τ) arg19 fullShare s2 ∗ owns (c : Thread nD τ) arg20 fullShare s3 ∗ owns (c : Thread nD τ) arg21 fullShare s4 ∗ owns (c : Thread nD τ) arg22 fullShare s5 ∗ owns (c : Thread nD τ) arg23 fullShare s6 ∗ owns (c : Thread nD τ) arg24 fullShare s7
        ∗ owns (c : Thread nD τ) arg25 fullShare s8 ∗ owns (c : Thread nD τ) arg26 fullShare s9 ∗ owns (c : Thread nD τ) arg27 fullShare s10 ∗ owns (c : Thread nD τ) arg28 fullShare s11 ∗ owns (c : Thread nD τ) arg29 fullShare s12
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8 ∗ owns (c : Thread nD τ) arg10 fullShare (outU (word x0) x1 s3) ∗ owns (c : Thread nD τ) arg11 fullShare (outM s0 s1 s4) ∗ held c arg12
        ∗ held c arg13 ∗ owns (c : Thread nD τ) arg14 fullShare (outV s2 s4) ∗ held c arg15 ∗ held c arg16 ∗ owns (c : Thread nD τ) arg17 fullShare (newM i x2 x3 s5 s6) ∗ owns (c : Thread nD τ) arg18 fullShare (newLm i x2 x3 s5 s6)
        ∗ owns (c : Thread nD τ) arg19 fullShare (newLv i x2 x4 s7 s8) ∗ owns (c : Thread nD τ) arg20 fullShare (newU i (word x0) x2 x3 x4 s5 s6 s7 s8) ∗ owns (c : Thread nD τ) arg21 fullShare (newSt i x2 x3 x4 s5 s6 s7 s8) ∗ owns (c : Thread nD τ) arg22 fullShare s5 ∗ owns (c : Thread nD τ) arg23 fullShare s6 ∗ owns (c : Thread nD τ) arg24 fullShare s7
        ∗ owns (c : Thread nD τ) arg25 fullShare s8 ∗ owns (c : Thread nD τ) arg26 fullShare (putRows i (mScale s4) s9) ∗ owns (c : Thread nD τ) arg27 fullShare (putRows i (mKc s4) s10) ∗ owns (c : Thread nD τ) arg28 fullShare (putRows i (vScale s4) s11) ∗ owns (c : Thread nD τ) arg29 fullShare (putRows i (vKc s4) s12)) -∗ K ⟨⟩))
      ⊢ wp frame (wpE (defs₀ (F := F)) Variants.none c none) E (cc0_adamw_dre i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  simp only [cc0_adamw_dre_eq_skeleton]; unfold cc0_adamw_dre_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
  unfold held owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, Hk⟩
  subst hf0; subst hf1; subst hf2; subst hf3; subst hf4; subst hf5; subst hf6; subst hf7; subst hf8; subst hf16; subst hf17; subst hf18; subst hf19; subst hf20; subst hf21; subst hf22; subst hf23; subst hf24; subst hf25; subst hf26; subst hf27; subst hf28
  sl_exec (disch := first | sl_exact hc0 | sl_exact hc1)
  sl_step
  iapply Hk
  isplitl [H0]; · iapply (owns_read c arg1 _); iexact H0
  isplitl [H1]; · iapply (owns_read c arg2 _); iexact H1
  isplitl [H2]; · iapply (owns_read c arg3 _); iexact H2
  isplitl [H3]; · iapply (owns_read c arg4 _); iexact H3
  isplitl [H4]; · iapply (owns_read c arg5 _); iexact H4
  isplitl [H5]; · iapply (owns_read c arg6 _); iexact H5
  isplitl [H6]; · iapply (owns_read c arg7 _); iexact H6
  isplitl [H7]; · iapply (owns_read c arg8 _); iexact H7
  isplitl [H8]; · iapply (owns_read c arg9 _); iexact H8
  isplitl [H9]
  · iexists _; isplitr; swap; · iexact H9
    ipureintro
    unfold outU
    refine read_cols_list arg10.view f9 _ _ _ _ _ _ _ _ _ _ _ _ _ _ _ _ _ _ ?_ ?_ ?_ ?_ ?_ ?_ ?_ ?_ <;> rfl
  isplitl [H10]
  · iexists _; isplitr; swap; · iexact H10
    ipureintro
    unfold outM
    refine read_cols_list arg11.view f10 _ _ _ _ _ _ _ _ _ _ _ _ _ _ _ _ _ _ ?_ ?_ ?_ ?_ ?_ ?_ ?_ ?_ <;> rfl
  isplitl [H11]; · iapply (held_of c arg12 _); iexact H11
  isplitl [H12]; · iapply (held_of c arg13 _); iexact H12
  isplitl [H13]
  · iexists _; isplitr; swap; · iexact H13
    ipureintro
    unfold outV
    refine read_cols_list arg14.view f13 _ _ _ _ _ _ _ _ _ _ _ _ _ _ _ _ _ _ ?_ ?_ ?_ ?_ ?_ ?_ ?_ ?_ <;> rfl
  isplitl [H14]; · iapply (held_of c arg15 _); iexact H14
  isplitl [H15]; · iapply (held_of c arg16 _); iexact H15
  isplitl [H16]
  · iexists _; isplitr; swap; · iexact H16
    ipureintro
    unfold newM
    refine read_rows_list arg17.view f16 _ _ _ _ _ _ _ _ _ _ _ _ _ _ _ _ _ _ ?_ ?_ ?_ ?_ ?_ ?_ ?_ ?_ <;> rfl
  isplitl [H17]
  · iexists _; isplitr; swap; · iexact H17
    ipureintro
    unfold newLm
    refine read_rows_list arg18.view f17 _ _ _ _ _ _ _ _ _ _ _ _ _ _ _ _ _ _ ?_ ?_ ?_ ?_ ?_ ?_ ?_ ?_ <;> rfl
  isplitl [H18]
  · iexists _; isplitr; swap; · iexact H18
    ipureintro
    unfold newLv
    refine read_rows_list arg19.view f18 _ _ _ _ _ _ _ _ _ _ _ _ _ _ _ _ _ _ ?_ ?_ ?_ ?_ ?_ ?_ ?_ ?_ <;> rfl
  isplitl [H19]
  · iexists _; isplitr; swap; · iexact H19
    ipureintro
    unfold newU
    refine read_rows_list arg20.view f19 _ _ _ _ _ _ _ _ _ _ _ _ _ _ _ _ _ _ ?_ ?_ ?_ ?_ ?_ ?_ ?_ ?_ <;> rfl
  isplitl [H20]
  · iexists _; isplitr; swap; · iexact H20
    ipureintro
    unfold newSt
    refine read_stats_list arg21.view f20 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ <;> rfl
  isplitl [H21]; · iapply (owns_read c arg22 _); iexact H21
  isplitl [H22]; · iapply (owns_read c arg23 _); iexact H22
  isplitl [H23]; · iapply (owns_read c arg24 _); iexact H23
  isplitl [H24]; · iapply (owns_read c arg25 _); iexact H24
  isplitl [H25]
  · iexists _; isplitr; swap; · iexact H25
    ipureintro
    exact read_put arg26.view f25 i _
  isplitl [H26]
  · iexists _; isplitr; swap; · iexact H26
    ipureintro
    exact read_put arg27.view f26 i _
  isplitl [H27]
  · iexists _; isplitr; swap; · iexact H27
    ipureintro
    exact read_put arg28.view f27 i _
  iexists _; isplitr; swap; · iexact H28
  ipureintro
  exact read_put arg29.view f28 i _

end Cert.KernelIdeal.Hand

end
-- ==== Proof.KI.StepC.lean ====
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.KI.StepB

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 40000000 in
/-- One step of the kernel body at the last grid point: what every buffer holds after it. -/
theorem stepC (c : Dev nD) (i : grid0.Coords)
  (arg1 : Memref sig .tc .smem S1 .i32) (harg1 : arg1.IsWhole)
  (arg2 : Memref sig .tc .vmem S256x1024 .f32) (harg2 : arg2.IsWhole)
  (arg3 : Memref sig .tc .vmem S256x1024 .bf16) (harg3 : arg3.IsWhole)
  (arg4 : Memref sig .tc .vmem S256x1024 .fp8e4m3) (harg4 : arg4.IsWhole)
  (arg5 : Memref sig .tc .vmem S256x1024 .fp8e5m2) (harg5 : arg5.IsWhole)
  (arg6 : Memref sig .tc .vmem S256x1024 .f32) (harg6 : arg6.IsWhole)
  (arg7 : Memref sig .tc .vmem S256x1024 .f32) (harg7 : arg7.IsWhole)
  (arg8 : Memref sig .tc .vmem S256x1024 .f32) (harg8 : arg8.IsWhole)
  (arg9 : Memref sig .tc .vmem S256x1024 .f32) (harg9 : arg9.IsWhole)
  (arg10 : Memref sig .tc .vmem S256x1024 .f32) (harg10 : arg10.IsWhole)
  (arg11 : Memref sig .tc .vmem S256x1024 .fp8e4m3) (harg11 : arg11.IsWhole)
  (arg12 : Memref sig .tc .vmem S256x1024 .f32) (harg12 : arg12.IsWhole)
  (arg13 : Memref sig .tc .vmem S256x1024 .f32) (harg13 : arg13.IsWhole)
  (arg14 : Memref sig .tc .vmem S256x1024 .fp8e5m2) (harg14 : arg14.IsWhole)
  (arg15 : Memref sig .tc .vmem S256x1024 .f32) (harg15 : arg15.IsWhole)
  (arg16 : Memref sig .tc .vmem S256x1024 .f32) (harg16 : arg16.IsWhole)
  (arg17 : Memref sig .tc .vmem S1024x256 .f32) (harg17 : arg17.IsWhole)
  (arg18 : Memref sig .tc .vmem S1024x256 .f32) (harg18 : arg18.IsWhole)
  (arg19 : Memref sig .tc .vmem S1024x256 .f32) (harg19 : arg19.IsWhole)
  (arg20 : Memref sig .tc .vmem S1024x256 .f32) (harg20 : arg20.IsWhole)
  (arg21 : Memref sig .tc .vmem S4x8x256 .f32) (harg21 : arg21.IsWhole)
  (arg22 : Memref sig .tc .vmem S1024x256 .f32) (harg22 : arg22.IsWhole)
  (arg23 : Memref sig .tc .vmem S1024x256 .f32) (harg23 : arg23.IsWhole)
  (arg24 : Memref sig .tc .vmem S1024x256 .f32) (harg24 : arg24.IsWhole)
  (arg25 : Memref sig .tc .vmem S1024x256 .f32) (harg25 : arg25.IsWhole)
  (arg26 : Memref sig .tc .vmem S1024x256 .f32) (harg26 : arg26.IsWhole)
  (arg27 : Memref sig .tc .vmem S1024x256 .f32) (harg27 : arg27.IsWhole)
  (arg28 : Memref sig .tc .vmem S1024x256 .f32) (harg28 : arg28.IsWhole)
  (arg29 : Memref sig .tc .vmem S1024x256 .f32) (harg29 : arg29.IsWhole)
  (hc0 : ¬cond0 i) (hc1 : cond1 i)
  (x0 : Vec F S1 .i32)
  (x1 : Vec F S256x1024 .f32)
  (x2 : Vec F S256x1024 .bf16)
  (x3 : Vec F S256x1024 .fp8e4m3)
  (x4 : Vec F S256x1024 .fp8e5m2)
  (x5 : Vec F S256x1024 .f32)
  (x6 : Vec F S256x1024 .f32)
  (x7 : Vec F S256x1024 .f32)
  (x8 : Vec F S256x1024 .f32)
  (s0 : Vec F S1024x256 .f32)
  (s1 : Vec F S1024x256 .f32)
  (s2 : Vec F S1024x256 .f32)
  (s3 : Vec F S1024x256 .f32)
  (s4 : Vec F S4x8x256 .f32)
  (s5 : Vec F S1024x256 .f32)
  (s6 : Vec F S1024x256 .f32)
  (s7 : Vec F S1024x256 .f32)
  (s8 : Vec F S1024x256 .f32)
  (s9 : Vec F S1024x256 .f32)
  (s10 : Vec F S1024x256 .f32)
  (s11 : Vec F S1024x256 .f32)
  (s12 : Vec F S1024x256 .f32)
  (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8 ∗ held c arg10 ∗ held c arg11 ∗ held c arg12
        ∗ held c arg13 ∗ held c arg14 ∗ held c arg15 ∗ held c arg16 ∗ owns (c : Thread nD τ) arg17 fullShare s0 ∗ owns (c : Thread nD τ) arg18 fullShare s1
        ∗ owns (c : Thread nD τ) arg19 fullShare s2 ∗ owns (c : Thread nD τ) arg20 fullShare s3 ∗ owns (c : Thread nD τ) arg21 fullShare s4 ∗ owns (c : Thread nD τ) arg22 fullShare s5 ∗ owns (c : Thread nD τ) arg23 fullShare s6 ∗ owns (c : Thread nD τ) arg24 fullShare s7
        ∗ owns (c : Thread nD τ) arg25 fullShare s8 ∗ owns (c : Thread nD τ) arg26 fullShare s9 ∗ owns (c : Thread nD τ) arg27 fullShare s10 ∗ owns (c : Thread nD τ) arg28 fullShare s11 ∗ owns (c : Thread nD τ) arg29 fullShare s12
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8 ∗ owns (c : Thread nD τ) arg10 fullShare (outU (word x0) x1 s3) ∗ owns (c : Thread nD τ) arg11 fullShare (outM s0 s1 s4) ∗ owns (c : Thread nD τ) arg12 fullShare (flat (putRows i (mScale s4) s9))
        ∗ owns (c : Thread nD τ) arg13 fullShare (flat (putRows i (mKc s4) s10)) ∗ owns (c : Thread nD τ) arg14 fullShare (outV s2 s4) ∗ owns (c : Thread nD τ) arg15 fullShare (flat (putRows i (vScale s4) s11)) ∗ owns (c : Thread nD τ) arg16 fullShare (flat (putRows i (vKc s4) s12)) ∗ owns (c : Thread nD τ) arg17 fullShare (newM i x2 x3 s5 s6) ∗ owns (c : Thread nD τ) arg18 fullShare (newLm i x2 x3 s5 s6)
        ∗ owns (c : Thread nD τ) arg19 fullShare (newLv i x2 x4 s7 s8) ∗ owns (c : Thread nD τ) arg20 fullShare (newU i (word x0) x2 x3 x4 s5 s6 s7 s8) ∗ owns (c : Thread nD τ) arg21 fullShare (newSt i x2 x3 x4 s5 s6 s7 s8) ∗ owns (c : Thread nD τ) arg22 fullShare s5 ∗ owns (c : Thread nD τ) arg23 fullShare s6 ∗ owns (c : Thread nD τ) arg24 fullShare s7
        ∗ owns (c : Thread nD τ) arg25 fullShare s8 ∗ owns (c : Thread nD τ) arg26 fullShare (putRows i (mScale s4) s9) ∗ owns (c : Thread nD τ) arg27 fullShare (putRows i (mKc s4) s10) ∗ owns (c : Thread nD τ) arg28 fullShare (putRows i (vScale s4) s11) ∗ owns (c : Thread nD τ) arg29 fullShare (putRows i (vKc s4) s12)) -∗ K ⟨⟩))
      ⊢ wp frame (wpE (defs₀ (F := F)) Variants.none c none) E (cc0_adamw_dre i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  simp only [cc0_adamw_dre_eq_skeleton]; unfold cc0_adamw_dre_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
  unfold held owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, Hk⟩
  subst hf0; subst hf1; subst hf2; subst hf3; subst hf4; subst hf5; subst hf6; subst hf7; subst hf8; subst hf16; subst hf17; subst hf18; subst hf19; subst hf20; subst hf21; subst hf22; subst hf23; subst hf24; subst hf25; subst hf26; subst hf27; subst hf28
  sl_exec (disch := first | sl_exact hc0 | sl_exact hc1)
  sl_step
  iapply Hk
  isplitl [H0]; · iapply (owns_read c arg1 _); iexact H0
  isplitl [H1]; · iapply (owns_read c arg2 _); iexact H1
  isplitl [H2]; · iapply (owns_read c arg3 _); iexact H2
  isplitl [H3]; · iapply (owns_read c arg4 _); iexact H3
  isplitl [H4]; · iapply (owns_read c arg5 _); iexact H4
  isplitl [H5]; · iapply (owns_read c arg6 _); iexact H5
  isplitl [H6]; · iapply (owns_read c arg7 _); iexact H6
  isplitl [H7]; · iapply (owns_read c arg8 _); iexact H7
  isplitl [H8]; · iapply (owns_read c arg9 _); iexact H8
  isplitl [H9]
  · iexists _; isplitr; swap; · iexact H9
    ipureintro
    unfold outU
    refine read_cols_list arg10.view f9 _ _ _ _ _ _ _ _ _ _ _ _ _ _ _ _ _ _ ?_ ?_ ?_ ?_ ?_ ?_ ?_ ?_ <;> rfl
  isplitl [H10]
  · iexists _; isplitr; swap; · iexact H10
    ipureintro
    unfold outM
    refine read_cols_list arg11.view f10 _ _ _ _ _ _ _ _ _ _ _ _ _ _ _ _ _ _ ?_ ?_ ?_ ?_ ?_ ?_ ?_ ?_ <;> rfl
  isplitl [H11]
  · iexists _; isplitr; swap; · iexact H11
    ipureintro
    refine (View.read_writes_full _ _ _ _ _).trans ?_
    exact congrArg flat ((View.readAt_full _ _ _).trans (read_put arg26.view f25 i _))
  isplitl [H12]
  · iexists _; isplitr; swap; · iexact H12
    ipureintro
    refine (View.read_writes_full _ _ _ _ _).trans ?_
    exact congrArg flat ((View.readAt_full _ _ _).trans (read_put arg27.view f26 i _))
  isplitl [H13]
  · iexists _; isplitr; swap; · iexact H13
    ipureintro
    unfold outV
    refine read_cols_list arg14.view f13 _ _ _ _ _ _ _ _ _ _ _ _ _ _ _ _ _ _ ?_ ?_ ?_ ?_ ?_ ?_ ?_ ?_ <;> rfl
  isplitl [H14]
  · iexists _; isplitr; swap; · iexact H14
    ipureintro
    refine (View.read_writes_full _ _ _ _ _).trans ?_
    exact congrArg flat ((View.readAt_full _ _ _).trans (read_put arg28.view f27 i _))
  isplitl [H15]
  · iexists _; isplitr; swap; · iexact H15
    ipureintro
    refine (View.read_writes_full _ _ _ _ _).trans ?_
    exact congrArg flat ((View.readAt_full _ _ _).trans (read_put arg29.view f28 i _))
  isplitl [H16]
  · iexists _; isplitr; swap; · iexact H16
    ipureintro
    unfold newM
    refine read_rows_list arg17.view f16 _ _ _ _ _ _ _ _ _ _ _ _ _ _ _ _ _ _ ?_ ?_ ?_ ?_ ?_ ?_ ?_ ?_ <;> rfl
  isplitl [H17]
  · iexists _; isplitr; swap; · iexact H17
    ipureintro
    unfold newLm
    refine read_rows_list arg18.view f17 _ _ _ _ _ _ _ _ _ _ _ _ _ _ _ _ _ _ ?_ ?_ ?_ ?_ ?_ ?_ ?_ ?_ <;> rfl
  isplitl [H18]
  · iexists _; isplitr; swap; · iexact H18
    ipureintro
    unfold newLv
    refine read_rows_list arg19.view f18 _ _ _ _ _ _ _ _ _ _ _ _ _ _ _ _ _ _ ?_ ?_ ?_ ?_ ?_ ?_ ?_ ?_ <;> rfl
  isplitl [H19]
  · iexists _; isplitr; swap; · iexact H19
    ipureintro
    unfold newU
    refine read_rows_list arg20.view f19 _ _ _ _ _ _ _ _ _ _ _ _ _ _ _ _ _ _ ?_ ?_ ?_ ?_ ?_ ?_ ?_ ?_ <;> rfl
  isplitl [H20]
  · iexists _; isplitr; swap; · iexact H20
    ipureintro
    unfold newSt
    refine read_stats_list arg21.view f20 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ <;> rfl
  isplitl [H21]; · iapply (owns_read c arg22 _); iexact H21
  isplitl [H22]; · iapply (owns_read c arg23 _); iexact H22
  isplitl [H23]; · iapply (owns_read c arg24 _); iexact H23
  isplitl [H24]; · iapply (owns_read c arg25 _); iexact H24
  isplitl [H25]
  · iexists _; isplitr; swap; · iexact H25
    ipureintro
    exact read_put arg26.view f25 i _
  isplitl [H26]
  · iexists _; isplitr; swap; · iexact H26
    ipureintro
    exact read_put arg27.view f26 i _
  isplitl [H27]
  · iexists _; isplitr; swap; · iexact H27
    ipureintro
    exact read_put arg28.view f27 i _
  iexists _; isplitr; swap; · iexact H28
  ipureintro
  exact read_put arg29.view f28 i _

end Cert.KernelIdeal.Hand

end
-- ==== Proof.KI.StepA.lean ====
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.KI.StepC

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 40000000 in
/-- One step of the kernel body at the first grid point: what every buffer holds after it. -/
theorem stepA (c : Dev nD) (i : grid0.Coords)
  (arg1 : Memref sig .tc .smem S1 .i32) (harg1 : arg1.IsWhole)
  (arg2 : Memref sig .tc .vmem S256x1024 .f32) (harg2 : arg2.IsWhole)
  (arg3 : Memref sig .tc .vmem S256x1024 .bf16) (harg3 : arg3.IsWhole)
  (arg4 : Memref sig .tc .vmem S256x1024 .fp8e4m3) (harg4 : arg4.IsWhole)
  (arg5 : Memref sig .tc .vmem S256x1024 .fp8e5m2) (harg5 : arg5.IsWhole)
  (arg6 : Memref sig .tc .vmem S256x1024 .f32) (harg6 : arg6.IsWhole)
  (arg7 : Memref sig .tc .vmem S256x1024 .f32) (harg7 : arg7.IsWhole)
  (arg8 : Memref sig .tc .vmem S256x1024 .f32) (harg8 : arg8.IsWhole)
  (arg9 : Memref sig .tc .vmem S256x1024 .f32) (harg9 : arg9.IsWhole)
  (arg10 : Memref sig .tc .vmem S256x1024 .f32) (harg10 : arg10.IsWhole)
  (arg11 : Memref sig .tc .vmem S256x1024 .fp8e4m3) (harg11 : arg11.IsWhole)
  (arg12 : Memref sig .tc .vmem S256x1024 .f32) (harg12 : arg12.IsWhole)
  (arg13 : Memref sig .tc .vmem S256x1024 .f32) (harg13 : arg13.IsWhole)
  (arg14 : Memref sig .tc .vmem S256x1024 .fp8e5m2) (harg14 : arg14.IsWhole)
  (arg15 : Memref sig .tc .vmem S256x1024 .f32) (harg15 : arg15.IsWhole)
  (arg16 : Memref sig .tc .vmem S256x1024 .f32) (harg16 : arg16.IsWhole)
  (arg17 : Memref sig .tc .vmem S1024x256 .f32) (harg17 : arg17.IsWhole)
  (arg18 : Memref sig .tc .vmem S1024x256 .f32) (harg18 : arg18.IsWhole)
  (arg19 : Memref sig .tc .vmem S1024x256 .f32) (harg19 : arg19.IsWhole)
  (arg20 : Memref sig .tc .vmem S1024x256 .f32) (harg20 : arg20.IsWhole)
  (arg21 : Memref sig .tc .vmem S4x8x256 .f32) (harg21 : arg21.IsWhole)
  (arg22 : Memref sig .tc .vmem S1024x256 .f32) (harg22 : arg22.IsWhole)
  (arg23 : Memref sig .tc .vmem S1024x256 .f32) (harg23 : arg23.IsWhole)
  (arg24 : Memref sig .tc .vmem S1024x256 .f32) (harg24 : arg24.IsWhole)
  (arg25 : Memref sig .tc .vmem S1024x256 .f32) (harg25 : arg25.IsWhole)
  (arg26 : Memref sig .tc .vmem S1024x256 .f32) (harg26 : arg26.IsWhole)
  (arg27 : Memref sig .tc .vmem S1024x256 .f32) (harg27 : arg27.IsWhole)
  (arg28 : Memref sig .tc .vmem S1024x256 .f32) (harg28 : arg28.IsWhole)
  (arg29 : Memref sig .tc .vmem S1024x256 .f32) (harg29 : arg29.IsWhole)
  (hc0 : cond0 i) (hc1 : ¬cond1 i)
  (x0 : Vec F S1 .i32)
  (x1 : Vec F S256x1024 .f32)
  (x2 : Vec F S256x1024 .bf16)
  (x3 : Vec F S256x1024 .fp8e4m3)
  (x4 : Vec F S256x1024 .fp8e5m2)
  (x5 : Vec F S256x1024 .f32)
  (x6 : Vec F S256x1024 .f32)
  (x7 : Vec F S256x1024 .f32)
  (x8 : Vec F S256x1024 .f32)
  (s0 : Vec F S1024x256 .f32)
  (s1 : Vec F S1024x256 .f32)
  (s2 : Vec F S1024x256 .f32)
  (s3 : Vec F S1024x256 .f32)
  (s4 : Vec F S4x8x256 .f32)
  (s5 : Vec F S1024x256 .f32)
  (s6 : Vec F S1024x256 .f32)
  (s7 : Vec F S1024x256 .f32)
  (s8 : Vec F S1024x256 .f32)
  (s9 : Vec F S1024x256 .f32)
  (s10 : Vec F S1024x256 .f32)
  (s11 : Vec F S1024x256 .f32)
  (s12 : Vec F S1024x256 .f32)
  (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8 ∗ held c arg10 ∗ held c arg11 ∗ held c arg12
        ∗ held c arg13 ∗ held c arg14 ∗ held c arg15 ∗ held c arg16 ∗ owns (c : Thread nD τ) arg17 fullShare s0 ∗ owns (c : Thread nD τ) arg18 fullShare s1
        ∗ owns (c : Thread nD τ) arg19 fullShare s2 ∗ owns (c : Thread nD τ) arg20 fullShare s3 ∗ owns (c : Thread nD τ) arg21 fullShare s4 ∗ owns (c : Thread nD τ) arg22 fullShare s5 ∗ owns (c : Thread nD τ) arg23 fullShare s6 ∗ owns (c : Thread nD τ) arg24 fullShare s7
        ∗ owns (c : Thread nD τ) arg25 fullShare s8 ∗ owns (c : Thread nD τ) arg26 fullShare s9 ∗ owns (c : Thread nD τ) arg27 fullShare s10 ∗ owns (c : Thread nD τ) arg28 fullShare s11 ∗ owns (c : Thread nD τ) arg29 fullShare s12
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8 ∗ held c arg10 ∗ held c arg11 ∗ held c arg12
        ∗ held c arg13 ∗ held c arg14 ∗ held c arg15 ∗ held c arg16 ∗ owns (c : Thread nD τ) arg17 fullShare (newM i x2 x3 (initIk x6) (initOf x5 x6)) ∗ owns (c : Thread nD τ) arg18 fullShare (newLm i x2 x3 (initIk x6) (initOf x5 x6))
        ∗ owns (c : Thread nD τ) arg19 fullShare (newLv i x2 x4 (initVIk x8) (initVOf x7 x8)) ∗ owns (c : Thread nD τ) arg20 fullShare (newU i (word x0) x2 x3 x4 (initIk x6) (initOf x5 x6) (initVIk x8) (initVOf x7 x8)) ∗ owns (c : Thread nD τ) arg21 fullShare (newSt i x2 x3 x4 (initIk x6) (initOf x5 x6) (initVIk x8) (initVOf x7 x8)) ∗ owns (c : Thread nD τ) arg22 fullShare (initIk x6) ∗ owns (c : Thread nD τ) arg23 fullShare (initOf x5 x6) ∗ owns (c : Thread nD τ) arg24 fullShare (initVIk x8)
        ∗ owns (c : Thread nD τ) arg25 fullShare (initVOf x7 x8) ∗ held c arg26 ∗ held c arg27 ∗ held c arg28 ∗ held c arg29) -∗ K ⟨⟩))
      ⊢ wp frame (wpE (defs₀ (F := F)) Variants.none c none) E (cc0_adamw_dre i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  simp only [cc0_adamw_dre_eq_skeleton]; unfold cc0_adamw_dre_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
  unfold held owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, Hk⟩
  subst hf0; subst hf1; subst hf2; subst hf3; subst hf4; subst hf5; subst hf6; subst hf7; subst hf8; subst hf16; subst hf17; subst hf18; subst hf19; subst hf20; subst hf21; subst hf22; subst hf23; subst hf24; subst hf25; subst hf26; subst hf27; subst hf28
  sl_exec (disch := first | sl_exact hc0 | sl_exact hc1)
  sl_step
  iapply Hk
  isplitl [H0]; · iapply (owns_read c arg1 _); iexact H0
  isplitl [H1]; · iapply (owns_read c arg2 _); iexact H1
  isplitl [H2]; · iapply (owns_read c arg3 _); iexact H2
  isplitl [H3]; · iapply (owns_read c arg4 _); iexact H3
  isplitl [H4]; · iapply (owns_read c arg5 _); iexact H4
  isplitl [H5]; · iapply (owns_read c arg6 _); iexact H5
  isplitl [H6]; · iapply (owns_read c arg7 _); iexact H6
  isplitl [H7]; · iapply (owns_read c arg8 _); iexact H7
  isplitl [H8]; · iapply (owns_read c arg9 _); iexact H8
  isplitl [H9]; · iapply (held_of c arg10 _); iexact H9
  isplitl [H10]; · iapply (held_of c arg11 _); iexact H10
  isplitl [H11]; · iapply (held_of c arg12 _); iexact H11
  isplitl [H12]; · iapply (held_of c arg13 _); iexact H12
  isplitl [H13]; · iapply (held_of c arg14 _); iexact H13
  isplitl [H14]; · iapply (held_of c arg15 _); iexact H14
  isplitl [H15]; · iapply (held_of c arg16 _); iexact H15
  isplitl [H16]
  · iexists _; isplitr; swap; · iexact H16
    ipureintro
    unfold newM
    try rw [← read_initIk arg22.view arg22.view.junk]
    try rw [← read_initOf arg23.view arg23.view.junk]
    try rw [← read_initVIk arg24.view arg24.view.junk]
    try rw [← read_initVOf arg25.view arg25.view.junk]
    refine read_rows_list arg17.view f16 _ _ _ _ _ _ _ _ _ _ _ _ _ _ _ _ _ _ ?_ ?_ ?_ ?_ ?_ ?_ ?_ ?_ <;> rfl
  isplitl [H17]
  · iexists _; isplitr; swap; · iexact H17
    ipureintro
    unfold newLm
    try rw [← read_initIk arg22.view arg22.view.junk]
    try rw [← read_initOf arg23.view arg23.view.junk]
    try rw [← read_initVIk arg24.view arg24.view.junk]
    try rw [← read_initVOf arg25.view arg25.view.junk]
    refine read_rows_list arg18.view f17 _ _ _ _ _ _ _ _ _ _ _ _ _ _ _ _ _ _ ?_ ?_ ?_ ?_ ?_ ?_ ?_ ?_ <;> rfl
  isplitl [H18]
  · iexists _; isplitr; swap; · iexact H18
    ipureintro
    unfold newLv
    try rw [← read_initIk arg22.view arg22.view.junk]
    try rw [← read_initOf arg23.view arg23.view.junk]
    try rw [← read_initVIk arg24.view arg24.view.junk]
    try rw [← read_initVOf arg25.view arg25.view.junk]
    refine read_rows_list arg19.view f18 _ _ _ _ _ _ _ _ _ _ _ _ _ _ _ _ _ _ ?_ ?_ ?_ ?_ ?_ ?_ ?_ ?_ <;> rfl
  isplitl [H19]
  · iexists _; isplitr; swap; · iexact H19
    ipureintro
    unfold newU
    try rw [← read_initIk arg22.view arg22.view.junk]
    try rw [← read_initOf arg23.view arg23.view.junk]
    try rw [← read_initVIk arg24.view arg24.view.junk]
    try rw [← read_initVOf arg25.view arg25.view.junk]
    refine read_rows_list arg20.view f19 _ _ _ _ _ _ _ _ _ _ _ _ _ _ _ _ _ _ ?_ ?_ ?_ ?_ ?_ ?_ ?_ ?_ <;> rfl
  isplitl [H20]
  · iexists _; isplitr; swap; · iexact H20
    ipureintro
    unfold newSt
    try rw [← read_initIk arg22.view arg22.view.junk]
    try rw [← read_initOf arg23.view arg23.view.junk]
    try rw [← read_initVIk arg24.view arg24.view.junk]
    try rw [← read_initVOf arg25.view arg25.view.junk]
    refine read_stats_list arg21.view f20 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ <;> rfl
  isplitl [H21]
  · iexists _; isplitr; swap; · iexact H21
    ipureintro
    exact View.read_writes_full _ _ _ _ _
  isplitl [H22]
  · iexists _; isplitr; swap; · iexact H22
    ipureintro
    exact View.read_writes_full _ _ _ _ _
  isplitl [H23]
  · iexists _; isplitr; swap; · iexact H23
    ipureintro
    exact View.read_writes_full _ _ _ _ _
  isplitl [H24]
  · iexists _; isplitr; swap; · iexact H24
    ipureintro
    exact View.read_writes_full _ _ _ _ _
  isplitl [H25]; · iapply (held_of c arg26 _); iexact H25
  isplitl [H26]; · iapply (held_of c arg27 _); iexact H26
  isplitl [H27]; · iapply (held_of c arg28 _); iexact H27
  iapply (held_of c arg29 _); iexact H28

end Cert.KernelIdeal.Hand

end
-- ==== Proof.KI.Track.lean ====
/- The kernel's scratch buffers and results, step by step. -/
module

public import proofs.«01_k».proof.Proof.KI.StepA
public import Idealize.ShloMosaic.Lib.Pipeline.DatRel

@[expose] public section

set_option maxRecDepth 16384

noncomputable section

namespace Cert.KernelIdeal.Hand

open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Grid point `n`. -/
def pt (n : ℕ) : Fin cfg0.N := ⟨min n 128, Nat.lt_of_lt_of_eq (by omega : min n 128 < 129) N_0.symm⟩
theorem pt_val (t : Fin cfg0.N) : pt t.val = t := by
  have ht : t.val < 129 := Nat.lt_of_lt_of_eq t.isLt N_0
  apply Fin.ext; show min t.val 128 = t.val; omega
theorem coord_val (t : Fin cfg0.N) : (grid0.coords t 0).val = t.val := by
  have ht : t.val < 129 := Nat.lt_of_lt_of_eq t.isLt N_0
  have e0 : (grid0.coords t 0).val = t.val / 1 % 129 := Pipeline.Grid.coords_val t 0 (by decide) rfl
  omega

/-- The parameters laid out by column, -/
def IK (c : Dev nD) : Vec F S1024x256 .f32 := initIk (iblk m c 6 (pt 0))
def OF (c : Dev nD) : Vec F S1024x256 .f32 := initOf (iblk m c 5 (pt 0)) (iblk m c 6 (pt 0))
def VIK (c : Dev nD) : Vec F S1024x256 .f32 := initVIk (iblk m c 8 (pt 0))
def VOF (c : Dev nD) : Vec F S1024x256 .f32 := initVOf (iblk m c 7 (pt 0)) (iblk m c 8 (pt 0))
/-- and what a step leaves in the scratch buffers. -/
def Ms (c : Dev nD) (n : ℕ) : Vec F S1024x256 .f32 := newM (grid0.coords (pt n)) (iblk m c 2 (pt n)) (iblk m c 3 (pt n)) (IK m c) (OF m c)
def Lms (c : Dev nD) (n : ℕ) : Vec F S1024x256 .f32 := newLm (grid0.coords (pt n)) (iblk m c 2 (pt n)) (iblk m c 3 (pt n)) (IK m c) (OF m c)
def Lvs (c : Dev nD) (n : ℕ) : Vec F S1024x256 .f32 := newLv (grid0.coords (pt n)) (iblk m c 2 (pt n)) (iblk m c 4 (pt n)) (VIK m c) (VOF m c)
def Us (c : Dev nD) (n : ℕ) : Vec F S1024x256 .f32 :=
  newU (grid0.coords (pt n)) (word (iblk m c 0 (pt n))) (iblk m c 2 (pt n)) (iblk m c 3 (pt n)) (iblk m c 4 (pt n)) (IK m c) (OF m c) (VIK m c) (VOF m c)
def Ss (c : Dev nD) (n : ℕ) : Vec F S4x8x256 .f32 :=
  newSt (grid0.coords (pt n)) (iblk m c 2 (pt n)) (iblk m c 3 (pt n)) (iblk m c 4 (pt n)) (IK m c) (OF m c) (VIK m c) (VOF m c)

/-- An array of parameters whose rows are those of the steps, eight each. -/
def Par (w : ℕ → FVec F S8x256 .f32) : Vec F S1024x256 .f32 :=
  fun y => w ((y 0).val / 8) (ix2 ⟨(y 0).val % 8, Nat.mod_lt _ (by decide)⟩ (y 1))

theorem putRows_par (w : ℕ → FVec F S8x256 .f32) (t : Fin cfg0.N) (h1 : 1 ≤ t.val) (s : Vec F S1024x256 .f32)
    (hs : ∀ y, (y 0).val < 8 * (t.val - 1) → s y = Par w y) (y : S1024x256.Idx) (hy : (y 0).val < 8 * t.val) :
    putRows (grid0.coords t) (w (t.val - 1)) s y = Par w y := by
  unfold putRows
  have e := coord_val t
  by_cases h : 8 * ((grid0.coords t 0).val - 1) ≤ (y 0).val ∧ (y 0).val < 8 * ((grid0.coords t 0).val - 1) + 8
  · rw [dif_pos h]
    unfold Par
    rw [e] at h
    have e1 : (y 0).val / 8 = t.val - 1 := by omega
    have e2 : (y 0).val - 8 * ((grid0.coords t 0).val - 1) = (y 0).val % 8 := by rw [e]; omega
    simp only [e1, e2]
  · rw [dif_neg h]
    rw [e] at h
    exact hs y (by omega)

/-- The contents of the scratch buffers. -/
structure Scr (F : FTy → Type) where
  s0 : Vec F S1024x256 .f32
  s1 : Vec F S1024x256 .f32
  s2 : Vec F S1024x256 .f32
  s3 : Vec F S1024x256 .f32
  s4 : Vec F S4x8x256 .f32
  s5 : Vec F S1024x256 .f32
  s6 : Vec F S1024x256 .f32
  s7 : Vec F S1024x256 .f32
  s8 : Vec F S1024x256 .f32
  s9 : Vec F S1024x256 .f32
  s10 : Vec F S1024x256 .f32
  s11 : Vec F S1024x256 .f32
  s12 : Vec F S1024x256 .f32

/-- What the scratch buffers hold before step `n`, once a step has been taken. -/
def Inv (c : Dev nD) (n : ℕ) (s : Scr F) : Prop :=
  1 ≤ n → s.s0 = Ms m c (n - 1) ∧ s.s1 = Lms m c (n - 1) ∧ s.s2 = Lvs m c (n - 1) ∧ s.s3 = Us m c (n - 1) ∧ s.s4 = Ss m c (n - 1)
    ∧ s.s5 = IK m c ∧ s.s6 = OF m c ∧ s.s7 = VIK m c ∧ s.s8 = VOF m c
    ∧ (∀ y, (y 0).val < 8 * (n - 1) → s.s9 y = Par (fun b => mScale (Ss m c b)) y)
    ∧ (∀ y, (y 0).val < 8 * (n - 1) → s.s10 y = Par (fun b => mKc (Ss m c b)) y)
    ∧ (∀ y, (y 0).val < 8 * (n - 1) → s.s11 y = Par (fun b => vScale (Ss m c b)) y)
    ∧ (∀ y, (y 0).val < 8 * (n - 1) → s.s12 y = Par (fun b => vKc (Ss m c b)) y)

/-- What a step leaves in the results' buffers. -/
def Rl (c : Dev nD) : (w : Fin cfg0.W) → Fin cfg0.N → ((cfg0.win w).block.Idx → Elt F (cfg0.win w).elt) → Prop
  | ⟨9, _⟩ => fun t X => 1 ≤ t.val → X = outU (word (iblk m c 0 t)) (iblk m c 1 t) (Us m c (t.val - 1))
  | ⟨10, _⟩ => fun t X => 1 ≤ t.val → X = outM (Ms m c (t.val - 1)) (Lms m c (t.val - 1)) (Ss m c (t.val - 1))
  | ⟨11, _⟩ => fun t X => t.val = 128 → X = flat (Par fun b => mScale (Ss m c b))
  | ⟨12, _⟩ => fun t X => t.val = 128 → X = flat (Par fun b => mKc (Ss m c b))
  | ⟨13, _⟩ => fun t X => 1 ≤ t.val → X = outV (Lvs m c (t.val - 1)) (Ss m c (t.val - 1))
  | ⟨14, _⟩ => fun t X => t.val = 128 → X = flat (Par fun b => vScale (Ss m c b))
  | ⟨15, _⟩ => fun t X => t.val = 128 → X = flat (Par fun b => vKc (Ss m c b))
  | _ => fun _ _ => True

/-- The output windows, of which a step says what it leaves. -/
def told : Fin 16 → Bool := fun w => w.val == 9 || w.val == 10 || w.val == 11 || w.val == 12 || w.val == 13 || w.val == 14 || w.val == 15

/-- The scratch buffers and the generator between the steps. -/
def Phi (c : Dev nD) (n : ℕ) : sProp 𝕄 :=
  iprop((∃ s : Scr F, ⌜Inv m c n s⌝
      ∗ owns (c : Thread nD τ) sc0 fullShare s.s0
      ∗ owns (c : Thread nD τ) sc1 fullShare s.s1
      ∗ owns (c : Thread nD τ) sc2 fullShare s.s2
      ∗ owns (c : Thread nD τ) sc3 fullShare s.s3
      ∗ owns (c : Thread nD τ) sc4 fullShare s.s4
      ∗ owns (c : Thread nD τ) sc5 fullShare s.s5
      ∗ owns (c : Thread nD τ) sc6 fullShare s.s6
      ∗ owns (c : Thread nD τ) sc7 fullShare s.s7
      ∗ owns (c : Thread nD τ) sc8 fullShare s.s8
      ∗ owns (c : Thread nD τ) sc9 fullShare s.s9
      ∗ owns (c : Thread nD τ) sc10 fullShare s.s10
      ∗ owns (c : Thread nD τ) sc11 fullShare s.s11
      ∗ owns (c : Thread nD τ) sc12 fullShare s.s12)
    ∗ (∃ r, prngReg c r))

/-- The proof data: the arrays as the region finds them, each input's buffer at its block. -/
def vdat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨_ + 16, h⟩ => absurd h (Nat.not_lt.2 (Nat.le_add_left _ _))
  Φ t := Phi m c t.val
  q _ := fullShare
  owed _ := 0

theorem vA_eq (c : Dev nD) (w : Fin cfg0.W) : (vdat m c).A w = V m c (Pipeline.arrRef spec0 w) := by
  dsimp only [vdat]

theorem vbefore_0 (c : Dev nD) (t : Fin cfg0.N) (d) : (vdat m c).before 0 t d = iblk m c 0 t :=
  before0_0_of m (vdat m c) (vA_eq m c 0) (fun t => by dsimp only [vdat]) t d
theorem vleaves_0 (c : Dev nD) (t : Fin cfg0.N) :
    (vdat m c).leavesExact 0 t = owns (c : Thread nD τ) (ms0 t) fullShare (iblk m c 0 t) := by
  unfold Dat.leavesExact; rw [show cfg0.idle 0 (grid0.coords t) = false from rfl]; dsimp only [vdat]
theorem vbefore_1 (c : Dev nD) (t : Fin cfg0.N) (d) : (vdat m c).before 1 t d = iblk m c 1 t :=
  before0_1_of m (vdat m c) (vA_eq m c 1) (fun t => by dsimp only [vdat]) t d
theorem vleaves_1 (c : Dev nD) (t : Fin cfg0.N) :
    (vdat m c).leavesExact 1 t = owns (c : Thread nD τ) (ms1 t) fullShare (iblk m c 1 t) := by
  unfold Dat.leavesExact; rw [show cfg0.idle 1 (grid0.coords t) = false from rfl]; dsimp only [vdat]
theorem vbefore_2 (c : Dev nD) (t : Fin cfg0.N) (d) : (vdat m c).before 2 t d = iblk m c 2 t :=
  before0_2_of m (vdat m c) (vA_eq m c 2) (fun t => by dsimp only [vdat]) t d
theorem vleaves_2 (c : Dev nD) (t : Fin cfg0.N) :
    (vdat m c).leavesExact 2 t = owns (c : Thread nD τ) (ms2 t) fullShare (iblk m c 2 t) := by
  unfold Dat.leavesExact; rw [show cfg0.idle 2 (grid0.coords t) = false from rfl]; dsimp only [vdat]
theorem vbefore_3 (c : Dev nD) (t : Fin cfg0.N) (d) : (vdat m c).before 3 t d = iblk m c 3 t :=
  before0_3_of m (vdat m c) (vA_eq m c 3) (fun t => by dsimp only [vdat]) t d
theorem vleaves_3 (c : Dev nD) (t : Fin cfg0.N) :
    (vdat m c).leavesExact 3 t = owns (c : Thread nD τ) (ms3 t) fullShare (iblk m c 3 t) := by
  unfold Dat.leavesExact; rw [show cfg0.idle 3 (grid0.coords t) = false from rfl]; dsimp only [vdat]
theorem vbefore_4 (c : Dev nD) (t : Fin cfg0.N) (d) : (vdat m c).before 4 t d = iblk m c 4 t :=
  before0_4_of m (vdat m c) (vA_eq m c 4) (fun t => by dsimp only [vdat]) t d
theorem vleaves_4 (c : Dev nD) (t : Fin cfg0.N) :
    (vdat m c).leavesExact 4 t = owns (c : Thread nD τ) (ms4 t) fullShare (iblk m c 4 t) := by
  unfold Dat.leavesExact; rw [show cfg0.idle 4 (grid0.coords t) = false from rfl]; dsimp only [vdat]
theorem vbefore_5 (c : Dev nD) (t : Fin cfg0.N) (d) : (vdat m c).before 5 t d = iblk m c 5 t :=
  before0_5_of m (vdat m c) (vA_eq m c 5) (fun t => by dsimp only [vdat]) t d
theorem vleaves_5 (c : Dev nD) (t : Fin cfg0.N) :
    (vdat m c).leavesExact 5 t = owns (c : Thread nD τ) (ms5 t) fullShare (iblk m c 5 t) := by
  unfold Dat.leavesExact; rw [show cfg0.idle 5 (grid0.coords t) = false from rfl]; dsimp only [vdat]
theorem vbefore_6 (c : Dev nD) (t : Fin cfg0.N) (d) : (vdat m c).before 6 t d = iblk m c 6 t :=
  before0_6_of m (vdat m c) (vA_eq m c 6) (fun t => by dsimp only [vdat]) t d
theorem vleaves_6 (c : Dev nD) (t : Fin cfg0.N) :
    (vdat m c).leavesExact 6 t = owns (c : Thread nD τ) (ms6 t) fullShare (iblk m c 6 t) := by
  unfold Dat.leavesExact; rw [show cfg0.idle 6 (grid0.coords t) = false from rfl]; dsimp only [vdat]
theorem vbefore_7 (c : Dev nD) (t : Fin cfg0.N) (d) : (vdat m c).before 7 t d = iblk m c 7 t :=
  before0_7_of m (vdat m c) (vA_eq m c 7) (fun t => by dsimp only [vdat]) t d
theorem vleaves_7 (c : Dev nD) (t : Fin cfg0.N) :
    (vdat m c).leavesExact 7 t = owns (c : Thread nD τ) (ms7 t) fullShare (iblk m c 7 t) := by
  unfold Dat.leavesExact; rw [show cfg0.idle 7 (grid0.coords t) = false from rfl]; dsimp only [vdat]
theorem vbefore_8 (c : Dev nD) (t : Fin cfg0.N) (d) : (vdat m c).before 8 t d = iblk m c 8 t :=
  before0_8_of m (vdat m c) (vA_eq m c 8) (fun t => by dsimp only [vdat]) t d
theorem vleaves_8 (c : Dev nD) (t : Fin cfg0.N) :
    (vdat m c).leavesExact 8 t = owns (c : Thread nD τ) (ms8 t) fullShare (iblk m c 8 t) := by
  unfold Dat.leavesExact; rw [show cfg0.idle 8 (grid0.coords t) = false from rfl]; dsimp only [vdat]

/-- What the body is called with at a point, the windows one by one, -/
def vPre (c : Dev nD) (t : Fin cfg0.N) : sProp 𝕄 :=
  iprop((vdat m c).Φ t.castSucc ∗ (vdat m c).owesAt () t.castSucc
    ∗ (∃ d, owns (c : Thread nD τ) (ms0 t) fullShare ((vdat m c).before 0 t d))
    ∗ (∃ d, owns (c : Thread nD τ) (ms1 t) fullShare ((vdat m c).before 1 t d))
    ∗ (∃ d, owns (c : Thread nD τ) (ms2 t) fullShare ((vdat m c).before 2 t d))
    ∗ (∃ d, owns (c : Thread nD τ) (ms3 t) fullShare ((vdat m c).before 3 t d))
    ∗ (∃ d, owns (c : Thread nD τ) (ms4 t) fullShare ((vdat m c).before 4 t d))
    ∗ (∃ d, owns (c : Thread nD τ) (ms5 t) fullShare ((vdat m c).before 5 t d))
    ∗ (∃ d, owns (c : Thread nD τ) (ms6 t) fullShare ((vdat m c).before 6 t d))
    ∗ (∃ d, owns (c : Thread nD τ) (ms7 t) fullShare ((vdat m c).before 7 t d))
    ∗ (∃ d, owns (c : Thread nD τ) (ms8 t) fullShare ((vdat m c).before 8 t d))
    ∗ (∃ Y, ⌜((vdat m c).toRRel told (Rl m c)).Finds 9 t Y⌝ ∗ owns (c : Thread nD τ) (ms9 t) fullShare Y)
    ∗ (∃ Y, ⌜((vdat m c).toRRel told (Rl m c)).Finds 10 t Y⌝ ∗ owns (c : Thread nD τ) (ms10 t) fullShare Y)
    ∗ (∃ Y, ⌜((vdat m c).toRRel told (Rl m c)).Finds 11 t Y⌝ ∗ owns (c : Thread nD τ) (ms11 t) fullShare Y)
    ∗ (∃ Y, ⌜((vdat m c).toRRel told (Rl m c)).Finds 12 t Y⌝ ∗ owns (c : Thread nD τ) (ms12 t) fullShare Y)
    ∗ (∃ Y, ⌜((vdat m c).toRRel told (Rl m c)).Finds 13 t Y⌝ ∗ owns (c : Thread nD τ) (ms13 t) fullShare Y)
    ∗ (∃ Y, ⌜((vdat m c).toRRel told (Rl m c)).Finds 14 t Y⌝ ∗ owns (c : Thread nD τ) (ms14 t) fullShare Y)
    ∗ (∃ Y, ⌜((vdat m c).toRRel told (Rl m c)).Finds 15 t Y⌝ ∗ owns (c : Thread nD τ) (ms15 t) fullShare Y))

/-- and what it returns. -/
def vPost (c : Dev nD) (t : Fin cfg0.N) : sProp 𝕄 :=
  iprop((vdat m c).Φ t.succ ∗ (vdat m c).owesAt () t.succ
    ∗ (vdat m c).leavesExact 0 t
    ∗ (vdat m c).leavesExact 1 t
    ∗ (vdat m c).leavesExact 2 t
    ∗ (vdat m c).leavesExact 3 t
    ∗ (vdat m c).leavesExact 4 t
    ∗ (vdat m c).leavesExact 5 t
    ∗ (vdat m c).leavesExact 6 t
    ∗ (vdat m c).leavesExact 7 t
    ∗ (vdat m c).leavesExact 8 t
    ∗ (∃ X, ⌜Rl m c 9 t X⌝ ∗ owns (c : Thread nD τ) (ms9 t) fullShare X)
    ∗ (∃ X, ⌜Rl m c 10 t X⌝ ∗ owns (c : Thread nD τ) (ms10 t) fullShare X)
    ∗ (∃ X, ⌜Rl m c 11 t X⌝ ∗ owns (c : Thread nD τ) (ms11 t) fullShare X)
    ∗ (∃ X, ⌜Rl m c 12 t X⌝ ∗ owns (c : Thread nD τ) (ms12 t) fullShare X)
    ∗ (∃ X, ⌜Rl m c 13 t X⌝ ∗ owns (c : Thread nD τ) (ms13 t) fullShare X)
    ∗ (∃ X, ⌜Rl m c 14 t X⌝ ∗ owns (c : Thread nD τ) (ms14 t) fullShare X)
    ∗ (∃ X, ⌜Rl m c 15 t X⌝ ∗ owns (c : Thread nD τ) (ms15 t) fullShare X))

set_option maxHeartbeats 8000000 in
/-- The body at any point. -/
theorem sound_step (c : Dev nD) (t : Fin cfg0.N) :
    vPre m c t ⊢ wp frame (wpE (defs₀ (F := F)) Variants.none c none) Set.univ (bodyAt0 t) (fun _ => vPost m c t) := by
  unfold vPre vPost bodyAt0
  simp only [vbefore_0, vleaves_0, vbefore_1, vleaves_1, vbefore_2, vleaves_2, vbefore_3, vleaves_3, vbefore_4, vleaves_4, vbefore_5, vleaves_5, vbefore_6, vleaves_6, vbefore_7, vleaves_7, vbefore_8, vleaves_8]
  rw [show (vdat m c).owesAt () t.succ = (vdat m c).owesAt () t.castSucc from rfl]
  rw [show (vdat m c).Φ t.succ = Phi m c (t.val + 1) from rfl, show (vdat m c).Φ t.castSucc = Phi m c t.val from rfl]
  unfold Phi
  have hp := pt_val t
  iintro ⟨⟨⟨%s, %hs, S0, S1, S2, S3, S4, S5, S6, S7, S8, S9, S10, S11, S12⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, -, H9⟩, ⟨%d10, -, H10⟩, ⟨%d11, -, H11⟩, ⟨%d12, -, H12⟩, ⟨%d13, -, H13⟩, ⟨%d14, -, H14⟩, ⟨%d15, -, H15⟩⟩
  by_cases h0 : t.val = 0
  · iapply (stepA c _ _ _ _ _ _ _ _ _ _ _ _ _ _ _ _ _ _ _ _ _ _ _ _ _ _ _ _ _ _ _ _ _ _ _ _ _ _ _ _ _ _ _ _ _ _ _ _ _ _ _ _ _ _ _ _ _ _ _ ((cond0_iff t).mpr h0) (fun h => by have := (cond1_iff t).mp h; omega) (iblk m c 0 t) (iblk m c 1 t) (iblk m c 2 t) (iblk m c 3 t) (iblk m c 4 t) (iblk m c 5 t) (iblk m c 6 t) (iblk m c 7 t) (iblk m c 8 t) s.s0 s.s1 s.s2 s.s3 s.s4 s.s5 s.s6 s.s7 s.s8 s.s9 s.s10 s.s11 s.s12 Set.univ _)
    unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    iintro ⟨H0, H1, H2, H3, H4, H5, H6, H7, H8, H9, H10, H11, H12, H13, H14, H15, S0, S1, S2, S3, S4, S5, S6, S7, S8, S9, S10, S11, S12⟩
    icases H9 with ⟨%e9, H9⟩
    icases H10 with ⟨%e10, H10⟩
    icases H11 with ⟨%e11, H11⟩
    icases H12 with ⟨%e12, H12⟩
    icases H13 with ⟨%e13, H13⟩
    icases H14 with ⟨%e14, H14⟩
    icases H15 with ⟨%e15, H15⟩
    icases S9 with ⟨%e29, S9⟩
    icases S10 with ⟨%e30, S10⟩
    icases S11 with ⟨%e31, S11⟩
    icases S12 with ⟨%e32, S12⟩
    isplitl [S0 S1 S2 S3 S4 S5 S6 S7 S8 S9 S10 S11 S12 Hg]
    · isplitr [Hg]
      · iexists (⟨newM (grid0.coords t) (iblk m c 2 t) (iblk m c 3 t) (initIk (iblk m c 6 t)) (initOf (iblk m c 5 t) (iblk m c 6 t)), newLm (grid0.coords t) (iblk m c 2 t) (iblk m c 3 t) (initIk (iblk m c 6 t)) (initOf (iblk m c 5 t) (iblk m c 6 t)), newLv (grid0.coords t) (iblk m c 2 t) (iblk m c 4 t) (initVIk (iblk m c 8 t)) (initVOf (iblk m c 7 t) (iblk m c 8 t)), newU (grid0.coords t) (word (iblk m c 0 t)) (iblk m c 2 t) (iblk m c 3 t) (iblk m c 4 t) (initIk (iblk m c 6 t)) (initOf (iblk m c 5 t) (iblk m c 6 t)) (initVIk (iblk m c 8 t)) (initVOf (iblk m c 7 t) (iblk m c 8 t)), newSt (grid0.coords t) (iblk m c 2 t) (iblk m c 3 t) (iblk m c 4 t) (initIk (iblk m c 6 t)) (initOf (iblk m c 5 t) (iblk m c 6 t)) (initVIk (iblk m c 8 t)) (initVOf (iblk m c 7 t) (iblk m c 8 t)), (initIk (iblk m c 6 t)), (initOf (iblk m c 5 t) (iblk m c 6 t)), (initVIk (iblk m c 8 t)), (initVOf (iblk m c 7 t) (iblk m c 8 t)), e29, e30, e31, e32⟩ : Scr F)
        isplitr; swap
        · isplitl [S0]; · iexact S0
          isplitl [S1]; · iexact S1
          isplitl [S2]; · iexact S2
          isplitl [S3]; · iexact S3
          isplitl [S4]; · iexact S4
          isplitl [S5]; · iexact S5
          isplitl [S6]; · iexact S6
          isplitl [S7]; · iexact S7
          isplitl [S8]; · iexact S8
          isplitl [S9]; · iexact S9
          isplitl [S10]; · iexact S10
          isplitl [S11]; · iexact S11
          iexact S12
        ipureintro
        have hp0 : pt 0 = t := by rw [← hp, h0]
        intro _
        refine ⟨?_, ?_, ?_, ?_, ?_, ?_, ?_, ?_, ?_, fun y hy => absurd hy (by omega), fun y hy => absurd hy (by omega), fun y hy => absurd hy (by omega), fun y hy => absurd hy (by omega)⟩
        all_goals (try unfold Ms); (try unfold Lms); (try unfold Lvs); (try unfold Us); (try unfold Ss); (try unfold IK); (try unfold OF); (try unfold VIK); (try unfold VOF)
        all_goals (try rw [show pt (t.val + 1 - 1) = t from hp])
        all_goals (try rw [hp0])
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iexists _; isplitr; swap; · iexact H9
      ipureintro
      intro h; exact absurd h (by omega)
    isplitl [H10]
    · iexists _; isplitr; swap; · iexact H10
      ipureintro
      intro h; exact absurd h (by omega)
    isplitl [H11]
    · iexists _; isplitr; swap; · iexact H11
      ipureintro
      intro h; exact absurd h (by omega)
    isplitl [H12]
    · iexists _; isplitr; swap; · iexact H12
      ipureintro
      intro h; exact absurd h (by omega)
    isplitl [H13]
    · iexists _; isplitr; swap; · iexact H13
      ipureintro
      intro h; exact absurd h (by omega)
    isplitl [H14]
    · iexists _; isplitr; swap; · iexact H14
      ipureintro
      intro h; exact absurd h (by omega)
    iexists _; isplitr; swap; · iexact H15
    ipureintro
    intro h; exact absurd h (by omega)
  have h0' : 1 ≤ t.val := Nat.one_le_iff_ne_zero.mpr h0
  obtain ⟨hs0, hs1, hs2, hs3, hs4, hs5, hs6, hs7, hs8, hs9, hs10, hs11, hs12⟩ := hs h0'
  have p9 : ∀ y, (y 0).val < 8 * t.val → putRows (grid0.coords t) (mScale s.s4) s.s9 y = Par (fun b => mScale (Ss m c b)) y := by
    rw [hs4]; exact putRows_par (fun b => mScale (Ss m c b)) t h0' s.s9 hs9
  have p10 : ∀ y, (y 0).val < 8 * t.val → putRows (grid0.coords t) (mKc s.s4) s.s10 y = Par (fun b => mKc (Ss m c b)) y := by
    rw [hs4]; exact putRows_par (fun b => mKc (Ss m c b)) t h0' s.s10 hs10
  have p11 : ∀ y, (y 0).val < 8 * t.val → putRows (grid0.coords t) (vScale s.s4) s.s11 y = Par (fun b => vScale (Ss m c b)) y := by
    rw [hs4]; exact putRows_par (fun b => vScale (Ss m c b)) t h0' s.s11 hs11
  have p12 : ∀ y, (y 0).val < 8 * t.val → putRows (grid0.coords t) (vKc s.s4) s.s12 y = Par (fun b => vKc (Ss m c b)) y := by
    rw [hs4]; exact putRows_par (fun b => vKc (Ss m c b)) t h0' s.s12 hs12
  by_cases h1 : t.val = 128
  · iapply (stepC c _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((cond0_iff t).mp h)) ((cond1_iff t).mpr h1) (iblk m c 0 t) (iblk m c 1 t) (iblk m c 2 t) (iblk m c 3 t) (iblk m c 4 t) (iblk m c 5 t) (iblk m c 6 t) (iblk m c 7 t) (iblk m c 8 t) s.s0 s.s1 s.s2 s.s3 s.s4 s.s5 s.s6 s.s7 s.s8 s.s9 s.s10 s.s11 s.s12 Set.univ _)
    unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    iintro ⟨H0, H1, H2, H3, H4, H5, H6, H7, H8, H9, H10, H11, H12, H13, H14, H15, S0, S1, S2, S3, S4, S5, S6, S7, S8, S9, S10, S11, S12⟩
    isplitl [S0 S1 S2 S3 S4 S5 S6 S7 S8 S9 S10 S11 S12 Hg]
    · isplitr [Hg]
      · iexists (⟨newM (grid0.coords t) (iblk m c 2 t) (iblk m c 3 t) s.s5 s.s6, newLm (grid0.coords t) (iblk m c 2 t) (iblk m c 3 t) s.s5 s.s6, newLv (grid0.coords t) (iblk m c 2 t) (iblk m c 4 t) s.s7 s.s8, newU (grid0.coords t) (word (iblk m c 0 t)) (iblk m c 2 t) (iblk m c 3 t) (iblk m c 4 t) s.s5 s.s6 s.s7 s.s8, newSt (grid0.coords t) (iblk m c 2 t) (iblk m c 3 t) (iblk m c 4 t) s.s5 s.s6 s.s7 s.s8, s.s5, s.s6, s.s7, s.s8, putRows (grid0.coords t) (mScale s.s4) s.s9, putRows (grid0.coords t) (mKc s.s4) s.s10, putRows (grid0.coords t) (vScale s.s4) s.s11, putRows (grid0.coords t) (vKc s.s4) s.s12⟩ : Scr F)
        isplitr; swap
        · isplitl [S0]; · iexact S0
          isplitl [S1]; · iexact S1
          isplitl [S2]; · iexact S2
          isplitl [S3]; · iexact S3
          isplitl [S4]; · iexact S4
          isplitl [S5]; · iexact S5
          isplitl [S6]; · iexact S6
          isplitl [S7]; · iexact S7
          isplitl [S8]; · iexact S8
          isplitl [S9]; · iexact S9
          isplitl [S10]; · iexact S10
          isplitl [S11]; · iexact S11
          iexact S12
        ipureintro
        intro _
        refine ⟨?_, ?_, ?_, ?_, ?_, hs5, hs6, hs7, hs8, p9, p10, p11, p12⟩
        all_goals simp only [hs5, hs6, hs7, hs8]
        all_goals (try unfold Ms); (try unfold Lms); (try unfold Lvs); (try unfold Us); (try unfold Ss)
        all_goals rw [show pt (t.val + 1 - 1) = t from hp]
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iexists _; isplitr; swap; · iexact H9
      ipureintro
      intro _; rw [hs3]
    isplitl [H10]
    · iexists _; isplitr; swap; · iexact H10
      ipureintro
      intro _; rw [hs0, hs1, hs4]
    isplitl [H11]
    · iexists _; isplitr; swap; · iexact H11
      ipureintro
      intro _; exact congrArg flat (funext fun y => p9 y (by have := (y 0).isLt; have e : S1024x256.size 0 = 1024 := rfl; omega))
    isplitl [H12]
    · iexists _; isplitr; swap; · iexact H12
      ipureintro
      intro _; exact congrArg flat (funext fun y => p10 y (by have := (y 0).isLt; have e : S1024x256.size 0 = 1024 := rfl; omega))
    isplitl [H13]
    · iexists _; isplitr; swap; · iexact H13
      ipureintro
      intro _; rw [hs2, hs4]
    isplitl [H14]
    · iexists _; isplitr; swap; · iexact H14
      ipureintro
      intro _; exact congrArg flat (funext fun y => p11 y (by have := (y 0).isLt; have e : S1024x256.size 0 = 1024 := rfl; omega))
    iexists _; isplitr; swap; · iexact H15
    ipureintro
    intro _; exact congrArg flat (funext fun y => p12 y (by have := (y 0).isLt; have e : S1024x256.size 0 = 1024 := rfl; omega))
  · iapply (stepB c _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((cond0_iff t).mp h)) (fun h => h1 ((cond1_iff t).mp h)) (iblk m c 0 t) (iblk m c 1 t) (iblk m c 2 t) (iblk m c 3 t) (iblk m c 4 t) (iblk m c 5 t) (iblk m c 6 t) (iblk m c 7 t) (iblk m c 8 t) s.s0 s.s1 s.s2 s.s3 s.s4 s.s5 s.s6 s.s7 s.s8 s.s9 s.s10 s.s11 s.s12 Set.univ _)
    unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    iintro ⟨H0, H1, H2, H3, H4, H5, H6, H7, H8, H9, H10, H11, H12, H13, H14, H15, S0, S1, S2, S3, S4, S5, S6, S7, S8, S9, S10, S11, S12⟩
    icases H11 with ⟨%e11, H11⟩
    icases H12 with ⟨%e12, H12⟩
    icases H14 with ⟨%e14, H14⟩
    icases H15 with ⟨%e15, H15⟩
    isplitl [S0 S1 S2 S3 S4 S5 S6 S7 S8 S9 S10 S11 S12 Hg]
    · isplitr [Hg]
      · iexists (⟨newM (grid0.coords t) (iblk m c 2 t) (iblk m c 3 t) s.s5 s.s6, newLm (grid0.coords t) (iblk m c 2 t) (iblk m c 3 t) s.s5 s.s6, newLv (grid0.coords t) (iblk m c 2 t) (iblk m c 4 t) s.s7 s.s8, newU (grid0.coords t) (word (iblk m c 0 t)) (iblk m c 2 t) (iblk m c 3 t) (iblk m c 4 t) s.s5 s.s6 s.s7 s.s8, newSt (grid0.coords t) (iblk m c 2 t) (iblk m c 3 t) (iblk m c 4 t) s.s5 s.s6 s.s7 s.s8, s.s5, s.s6, s.s7, s.s8, putRows (grid0.coords t) (mScale s.s4) s.s9, putRows (grid0.coords t) (mKc s.s4) s.s10, putRows (grid0.coords t) (vScale s.s4) s.s11, putRows (grid0.coords t) (vKc s.s4) s.s12⟩ : Scr F)
        isplitr; swap
        · isplitl [S0]; · iexact S0
          isplitl [S1]; · iexact S1
          isplitl [S2]; · iexact S2
          isplitl [S3]; · iexact S3
          isplitl [S4]; · iexact S4
          isplitl [S5]; · iexact S5
          isplitl [S6]; · iexact S6
          isplitl [S7]; · iexact S7
          isplitl [S8]; · iexact S8
          isplitl [S9]; · iexact S9
          isplitl [S10]; · iexact S10
          isplitl [S11]; · iexact S11
          iexact S12
        ipureintro
        intro _
        refine ⟨?_, ?_, ?_, ?_, ?_, hs5, hs6, hs7, hs8, p9, p10, p11, p12⟩
        all_goals simp only [hs5, hs6, hs7, hs8]
        all_goals (try unfold Ms); (try unfold Lms); (try unfold Lvs); (try unfold Us); (try unfold Ss)
        all_goals rw [show pt (t.val + 1 - 1) = t from hp]
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iexists _; isplitr; swap; · iexact H9
      ipureintro
      intro _; rw [hs3]
    isplitl [H10]
    · iexists _; isplitr; swap; · iexact H10
      ipureintro
      intro _; rw [hs0, hs1, hs4]
    isplitl [H11]
    · iexists _; isplitr; swap; · iexact H11
      ipureintro
      intro h; exact absurd h h1
    isplitl [H12]
    · iexists _; isplitr; swap; · iexact H12
      ipureintro
      intro h; exact absurd h h1
    isplitl [H13]
    · iexists _; isplitr; swap; · iexact H13
      ipureintro
      intro _; rw [hs2, hs4]
    isplitl [H14]
    · iexists _; isplitr; swap; · iexact H14
      ipureintro
      intro h; exact absurd h h1
    iexists _; isplitr; swap; · iexact H15
    ipureintro
    intro h; exact absurd h h1

set_option maxHeartbeats 4000000 in
/-- The library's body obligation, at every point. -/
theorem step_obligation (c : Dev nD) : BodyObligationRel (vdat (F := F) m c) (defs₀ (F := F)) Variants.none () Set.univ told (Rl m c) := fun t => by
  rw [bigSep_W0, bigSep_W0, defs₀_row]
  exact triple_restated (sound_step m c t) rfl .rfl fun _ => .rfl

theorem phi_in (c : Dev nD) : (Pipeline.ΦA spec0 c : sProp 𝕄) ⊢ Phi m c 0 := by
  rw [PhiA_eq]; unfold Phi held
  iintro ⟨⟨⟨%e0, S0⟩, ⟨%e1, S1⟩, ⟨%e2, S2⟩, ⟨%e3, S3⟩, ⟨%e4, S4⟩, ⟨%e5, S5⟩, ⟨%e6, S6⟩, ⟨%e7, S7⟩, ⟨%e8, S8⟩, ⟨%e9, S9⟩, ⟨%e10, S10⟩, ⟨%e11, S11⟩, ⟨%e12, S12⟩⟩, Hg⟩
  isplitr [Hg]; swap; · iexact Hg
  iexists (⟨e0, e1, e2, e3, e4, e5, e6, e7, e8, e9, e10, e11, e12⟩ : Scr F)
  isplitr; · ipureintro; intro h; exact absurd h (by omega)
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  iexact S12

theorem phi_out (c : Dev nD) (n : ℕ) : Phi m c n ⊢ (Pipeline.ΦA spec0 c : sProp 𝕄) := by
  rw [PhiA_eq]; unfold Phi held
  iintro ⟨⟨%s, -, S0, S1, S2, S3, S4, S5, S6, S7, S8, S9, S10, S11, S12⟩, Hg⟩
  isplitr [Hg]; swap; · iexact Hg
  isplitl [S0]; · iexists _; iexact S0
  isplitl [S1]; · iexists _; iexact S1
  isplitl [S2]; · iexists _; iexact S2
  isplitl [S3]; · iexists _; iexact S3
  isplitl [S4]; · iexists _; iexact S4
  isplitl [S5]; · iexists _; iexact S5
  isplitl [S6]; · iexists _; iexact S6
  isplitl [S7]; · iexists _; iexact S7
  isplitl [S8]; · iexists _; iexact S8
  isplitl [S9]; · iexists _; iexact S9
  isplitl [S10]; · iexists _; iexact S10
  isplitl [S11]; · iexists _; iexact S11
  iexists _; iexact S12

set_option backward.isDefEq.respectTransparency.types false in
/-- The launch: what every array may hold at the end. -/
theorem run_steps : θ_run defs (onTc (τ := τ) (main (F := F))) (s₀ m ρ)
    (fun r => Pipeline.RDat.FramePost (cfgs 0) (fun c => (vdat m c).toRRel told (Rl m c)) (V m) r ∧ r.2.sem = fun _ => 0) :=
  Pipeline.RDat.θ_run_frame_track (Q' := _) cfgs (0 : Fin 1) launch0 defs₀ Variants.none (fun c => (vdat m c).toRRel told (Rl m c)) m ρ main
    (hbody := fun c => (step_obligation m c).toRRel) (hshare := fun c => (vdat m c).share_full fun _ => rfl)
    (howed := fun _ _ => rfl) (V := V m) (hmain := hmain m Variants.none) (hA := vA_eq m)
    (hin := fun c => phi_in m c) (hout := fun c => phi_out m c _)

end Cert.KernelIdeal.Hand

end
-- ==== Proof.KI.Arrays.lean ====
/- What the kernel's result arrays hold at the end. -/
module

public import proofs.«01_k».proof.Proof.KI.Track
public import Idealize.ShloMosaic.Lib.Pipeline.ArrRel

@[expose] public section

set_option maxRecDepth 16384

noncomputable section

namespace Cert.KernelIdeal.Hand

open Idealize.ShloMosaic Idealize.ShloMosaic.ValueIdx Idealize.ShloMosaic.TcCoe Idealize.ShloMosaic.Tactic
open Idealize.SL Idealize.SL.RA Idealize.SL.Sem
open Cert.KernelIdeal.Gen

variable (m : (ℓ : Loc nD τ sig) → Buf (Elt Ideal) ℓ) (ρ : Dev nD → PrngReg)

theorem index9 : ∀ t : Fin cfg0.N, (cfg0.win 9).index t = ![0, t.val - 1] := by decide +kernel
theorem index10 : ∀ t : Fin cfg0.N, (cfg0.win 10).index t = ![0, t.val - 1] := by decide +kernel
theorem index13 : ∀ t : Fin cfg0.N, (cfg0.win 13).index t = ![0, t.val - 1] := by decide +kernel
theorem flush9 : ∀ t : Fin cfg0.N, (cfg0.win 9).flush t = true → 1 ≤ t.val := by decide +kernel
theorem flush10 : ∀ t : Fin cfg0.N, (cfg0.win 10).flush t = true → 1 ≤ t.val := by decide +kernel
theorem flush13 : ∀ t : Fin cfg0.N, (cfg0.win 13).flush t = true → 1 ≤ t.val := by decide +kernel

/-- The block of a column, and the column in it. -/
def blkOf (c : Fin 131072) : ℕ := c.val / 1024
def inBlk (c : Fin 131072) : Fin 1024 := ⟨c.val % 1024, Nat.mod_lt _ (by decide)⟩

/-- The update, -/
def arrU (c : Dev nD) (i : S256x131072.Idx) : Ideal .f32 :=
  outU (word (iblk m c 0 (pt (blkOf (i 1) + 1)))) (iblk m c 1 (pt (blkOf (i 1) + 1))) (Us m c (blkOf (i 1))) (ix2 (i 0) (inBlk (i 1)))
/-- the first moment's codes -/
def arrM (c : Dev nD) (i : S256x131072.Idx) : Ideal .fp8e4m3 :=
  outM (Ms m c (blkOf (i 1))) (Lms m c (blkOf (i 1))) (Ss m c (blkOf (i 1))) (ix2 (i 0) (inBlk (i 1)))
/-- and the second's. -/
def arrV (c : Dev nD) (i : S256x131072.Idx) : Ideal .fp8e5m2 :=
  outV (Lvs m c (blkOf (i 1))) (Ss m c (blkOf (i 1))) (ix2 (i 0) (inBlk (i 1)))

theorem arrU_at (c : Dev nD) (i : S256x131072.Idx) (t : Fin cfg0.N) (ht : 1 ≤ t.val) (y : S256x1024.Idx)
    (h0 : (i 0).val = (y 0).val) (h1 : (i 1).val = (t.val - 1) * 1024 + (y 1).val) : outU (word (iblk m c 0 t)) (iblk m c 1 t) (Us m c (t.val - 1)) y = arrU m c i := by
  have hy := (y 1).isLt
  have hy' : (y 1).val < 1024 := hy
  have hb : blkOf (i 1) = t.val - 1 := by show (i 1).val / 1024 = _; omega
  have hp : pt (t.val - 1 + 1) = t := by apply Fin.ext; have h := t.isLt; have h : t.val < 129 := h; show min (t.val - 1 + 1) 128 = t.val; omega
  have hi : ix2 (i 0) (inBlk (i 1)) = y := by
    funext a
    match a with
    | ⟨0, _⟩ => exact Fin.ext h0
    | ⟨1, _⟩ => apply Fin.ext; show (i 1).val % 1024 = (y 1).val; omega
  unfold arrU
  rw [hb, hp]
  exact congrArg _ hi.symm

theorem arrM_at (c : Dev nD) (i : S256x131072.Idx) (t : Fin cfg0.N) (ht : 1 ≤ t.val) (y : S256x1024.Idx)
    (h0 : (i 0).val = (y 0).val) (h1 : (i 1).val = (t.val - 1) * 1024 + (y 1).val) : outM (Ms m c (t.val - 1)) (Lms m c (t.val - 1)) (Ss m c (t.val - 1)) y = arrM m c i := by
  have hy := (y 1).isLt
  have hy' : (y 1).val < 1024 := hy
  have hb : blkOf (i 1) = t.val - 1 := by show (i 1).val / 1024 = _; omega
  have hp : pt (t.val - 1 + 1) = t := by apply Fin.ext; have h := t.isLt; have h : t.val < 129 := h; show min (t.val - 1 + 1) 128 = t.val; omega
  have hi : ix2 (i 0) (inBlk (i 1)) = y := by
    funext a
    match a with
    | ⟨0, _⟩ => exact Fin.ext h0
    | ⟨1, _⟩ => apply Fin.ext; show (i 1).val % 1024 = (y 1).val; omega
  unfold arrM
  rw [hb]
  exact congrArg _ hi.symm

theorem arrV_at (c : Dev nD) (i : S256x131072.Idx) (t : Fin cfg0.N) (ht : 1 ≤ t.val) (y : S256x1024.Idx)
    (h0 : (i 0).val = (y 0).val) (h1 : (i 1).val = (t.val - 1) * 1024 + (y 1).val) : outV (Lvs m c (t.val - 1)) (Ss m c (t.val - 1)) y = arrV m c i := by
  have hy := (y 1).isLt
  have hy' : (y 1).val < 1024 := hy
  have hb : blkOf (i 1) = t.val - 1 := by show (i 1).val / 1024 = _; omega
  have hp : pt (t.val - 1 + 1) = t := by apply Fin.ext; have h := t.isLt; have h : t.val < 129 := h; show min (t.val - 1 + 1) 128 = t.val; omega
  have hi : ix2 (i 0) (inBlk (i 1)) = y := by
    funext a
    match a with
    | ⟨0, _⟩ => exact Fin.ext h0
    | ⟨1, _⟩ => apply Fin.ext; show (i 1).val % 1024 = (y 1).val; omega
  unfold arrV
  rw [hb]
  exact congrArg _ hi.symm

variable {m} (c : Dev nD) (after : (w' : Fin cfg0.W) → Fin cfg0.N → (cfg0.win w').block.Idx → Elt Ideal (cfg0.win w').elt)
  (hL : ∀ (w : Fin cfg0.W) (u : Fin cfg0.N), (cfg0.win w).flush u = true → ((vdat m c).toRRel told (Rl m c)).Leaves w u (after w u))
include hL

theorem final9 : (((vdat m c).toRRel told (Rl m c)).withAfter after).arrAt 9 cfg0.N = arrU m c := by
  funext i
  refine Pipeline.Dat.arrAt_forall_of_covers (dat := ((vdat m c).toRRel told (Rl m c)).withAfter after) 9 (fun i v => v = arrU m c i) (by decide +kernel) (fun t hf y => ?_) i
  have ht := flush9 t hf
  have e := (Pipeline.Dat.toRRel_leaves (vdat m c) (by rfl) (hL 9 t hf)) ht
  rw [Pipeline.RDat.withAfter_after, e]
  have hi : win0_9.index t = _ := index9 t
  blk_simp [hi]
  refine arrU_at m c _ t ht y ?_ ?_
  · blk_simp [hi]
  · blk_simp [hi]

theorem final10 : (((vdat m c).toRRel told (Rl m c)).withAfter after).arrAt 10 cfg0.N = arrM m c := by
  funext i
  refine Pipeline.Dat.arrAt_forall_of_covers (dat := ((vdat m c).toRRel told (Rl m c)).withAfter after) 10 (fun i v => v = arrM m c i) (by decide +kernel) (fun t hf y => ?_) i
  have ht := flush10 t hf
  have e := (Pipeline.Dat.toRRel_leaves (vdat m c) (by rfl) (hL 10 t hf)) ht
  rw [Pipeline.RDat.withAfter_after, e]
  have hi : win0_10.index t = _ := index10 t
  blk_simp [hi]
  refine arrM_at m c _ t ht y ?_ ?_
  · blk_simp [hi]
  · blk_simp [hi]

theorem final13 : (((vdat m c).toRRel told (Rl m c)).withAfter after).arrAt 13 cfg0.N = arrV m c := by
  funext i
  refine Pipeline.Dat.arrAt_forall_of_covers (dat := ((vdat m c).toRRel told (Rl m c)).withAfter after) 13 (fun i v => v = arrV m c i) (by decide +kernel) (fun t hf y => ?_) i
  have ht := flush13 t hf
  have e := (Pipeline.Dat.toRRel_leaves (vdat m c) (by rfl) (hL 13 t hf)) ht
  rw [Pipeline.RDat.withAfter_after, e]
  have hi : win0_13.index t = _ := index13 t
  blk_simp [hi]
  refine arrV_at m c _ t ht y ?_ ?_
  · blk_simp [hi]
  · blk_simp [hi]

theorem final11 : (((vdat m c).toRRel told (Rl m c)).withAfter after).arrAt 11 cfg0.N = flat (Par fun b => mScale (Ss m c b)) := by
  refine Pipeline.Dat.arrAt_eq_of_after_last (dat := ((vdat m c).toRRel told (Rl m c)).withAfter after) 11 (pt 128) (by decide +kernel) _ fun j => ?_
  have e := (Pipeline.Dat.toRRel_leaves (vdat m c) (by rfl) (hL 11 (pt 128) (by decide +kernel))) (by decide)
  rw [Pipeline.RDat.withAfter_after, e]
  have hi : win0_11.index (pt 128) = ![0, 0] := by decide +kernel
  blk_simp [hi]
  rfl

theorem final12 : (((vdat m c).toRRel told (Rl m c)).withAfter after).arrAt 12 cfg0.N = flat (Par fun b => mKc (Ss m c b)) := by
  refine Pipeline.Dat.arrAt_eq_of_after_last (dat := ((vdat m c).toRRel told (Rl m c)).withAfter after) 12 (pt 128) (by decide +kernel) _ fun j => ?_
  have e := (Pipeline.Dat.toRRel_leaves (vdat m c) (by rfl) (hL 12 (pt 128) (by decide +kernel))) (by decide)
  rw [Pipeline.RDat.withAfter_after, e]
  have hi : win0_12.index (pt 128) = ![0, 0] := by decide +kernel
  blk_simp [hi]
  rfl

theorem final14 : (((vdat m c).toRRel told (Rl m c)).withAfter after).arrAt 14 cfg0.N = flat (Par fun b => vScale (Ss m c b)) := by
  refine Pipeline.Dat.arrAt_eq_of_after_last (dat := ((vdat m c).toRRel told (Rl m c)).withAfter after) 14 (pt 128) (by decide +kernel) _ fun j => ?_
  have e := (Pipeline.Dat.toRRel_leaves (vdat m c) (by rfl) (hL 14 (pt 128) (by decide +kernel))) (by decide)
  rw [Pipeline.RDat.withAfter_after, e]
  have hi : win0_14.index (pt 128) = ![0, 0] := by decide +kernel
  blk_simp [hi]
  rfl

theorem final15 : (((vdat m c).toRRel told (Rl m c)).withAfter after).arrAt 15 cfg0.N = flat (Par fun b => vKc (Ss m c b)) := by
  refine Pipeline.Dat.arrAt_eq_of_after_last (dat := ((vdat m c).toRRel told (Rl m c)).withAfter after) 15 (pt 128) (by decide +kernel) _ fun j => ?_
  have e := (Pipeline.Dat.toRRel_leaves (vdat m c) (by rfl) (hL 15 (pt 128) (by decide +kernel))) (by decide)
  rw [Pipeline.RDat.withAfter_after, e]
  have hi : win0_15.index (pt 128) = ![0, 0] := by decide +kernel
  blk_simp [hi]
  rfl

end Cert.KernelIdeal.Hand

end
-- ==== Proof.Real.lean ====
/- The mathematics of one group: what the kernel's formulas and the reference's come to, on the reals. -/
module

public import Idealize.ShloMosaic.PureOps
public import Idealize.ShloMosaic.Lib.ValueIdx
public import Mathlib.Analysis.SpecialFunctions.Pow.Real

@[expose] public section

noncomputable section

namespace Cert.Real1

open Idealize.ShloMosaic

/-! ## The quantities themselves -/

/-- The sign of a real. -/
def sgn (x : ℝ) : ℝ := if x < 0 then -1 else if 0 < x then 1 else x
/-- The value of a code. -/
def deq (M q s k : ℝ) : ℝ := if q = 0 then 0 else sgn q * s * Real.exp (Real.log (|q| / M) / k)
/-- The scale of a group whose greatest magnitude is `a`, -/
def scale (a : ℝ) : ℝ := if 0 < a then a else 1
/-- its exponent, `b` being the least magnitude that is not zero, -/
def expo (L a b : ℝ) : ℝ := if 0 < a then L / max (Real.log a - Real.log b) (L * (1 / 8)) else 1
/-- and the code of an element. -/
def code (M x a k : ℝ) : ℝ := sgn x * min (max 0 (if x = 0 then 0 else M * Real.exp (k * Real.log (|x| / scale a)))) M

/-- `a` is the greatest magnitude of a group. -/
structure IsTop (x : Fin 128 → ℝ) (a : ℝ) : Prop where
  le : ∀ e, |x e| ≤ a
  mem : ∃ e, |x e| = a
/-- `b` is the least magnitude that is not zero. -/
structure IsLow (x : Fin 128 → ℝ) (b : ℝ) : Prop where
  le : ∀ e, x e ≠ 0 → b ≤ |x e|
  mem : ∃ e, x e ≠ 0 ∧ |x e| = b

theorem exists_top (x : Fin 128 → ℝ) : ∃ a, IsTop x a := by
  obtain ⟨e, he⟩ := Finite.exists_max (fun e => |x e|)
  exact ⟨_, he, e, rfl⟩

theorem exists_low (x : Fin 128 → ℝ) {a : ℝ} (h : IsTop x a) (ha : 0 < a) : ∃ b, IsLow x b := by
  obtain ⟨e₀, h₀⟩ := h.mem
  have hne : (Finset.univ.filter fun e => x e ≠ 0).Nonempty :=
    ⟨e₀, by simp only [Finset.mem_filter, Finset.mem_univ, true_and]; intro hx; rw [hx, abs_zero] at h₀; exact absurd h₀.symm ha.ne'⟩
  obtain ⟨e, he, hm⟩ := Finset.exists_min_image _ (fun e => |x e|) hne
  simp only [Finset.mem_filter, Finset.mem_univ, true_and] at he hm
  exact ⟨_, hm, e, he, rfl⟩

theorem IsTop.nonneg {x : Fin 128 → ℝ} {a : ℝ} (h : IsTop x a) : 0 ≤ a := by
  obtain ⟨e, he⟩ := h.mem; rw [← he]; exact abs_nonneg _

theorem IsTop.zero {x : Fin 128 → ℝ} {a : ℝ} (h : IsTop x a) (ha : ¬0 < a) (e : Fin 128) : x e = 0 :=
  abs_nonpos_iff.mp ((h.le e).trans (not_lt.mp ha))

theorem IsTop.unique {x : Fin 128 → ℝ} {a a' : ℝ} (h : IsTop x a) (h' : IsTop x a') : a = a' := by
  obtain ⟨e, he⟩ := h.mem
  obtain ⟨e', he'⟩ := h'.mem
  exact le_antisymm (he ▸ h'.le e) (he' ▸ h.le e')

theorem IsLow.pos {x : Fin 128 → ℝ} {b : ℝ} (h : IsLow x b) : 0 < b := by
  obtain ⟨e, h0, he⟩ := h.mem; rw [← he]; exact abs_pos.mpr h0

/-! ## Extended reals -/

theorem fold_max {f : Fin 128 → EReal} {b y : EReal} (hb : b = ⊥) (h1 : ∀ e, f e ≤ y) (h2 : ∃ e, f e = y) :
    (Finset.univ : Finset (Fin 128)).fold max b f = y := by
  subst hb
  obtain ⟨e, he⟩ := h2
  refine le_antisymm ((Finset.fold_max_le _).mpr ⟨bot_le, fun x _ => h1 x⟩) ((Finset.le_fold_max _).mpr (.inr ⟨e, Finset.mem_univ _, he.ge⟩))

theorem fold_min {f : Fin 128 → EReal} {b y : EReal} (hb : b = ⊤) (h1 : ∀ e, y ≤ f e) (h2 : ∃ e, f e = y) :
    (Finset.univ : Finset (Fin 128)).fold min b f = y := by
  subst hb
  obtain ⟨e, he⟩ := h2
  refine le_antisymm ((Finset.fold_min_le _).mpr (.inr ⟨e, Finset.mem_univ _, he.le⟩)) ((Finset.le_fold_min _).mpr ⟨le_top, fun x _ => h1 x⟩)

theorem coe_max (x y : ℝ) : ((max x y : ℝ) : EReal) = max (x : EReal) (y : EReal) := EReal.coe_strictMono.monotone.map_max
theorem coe_min (x y : ℝ) : ((min x y : ℝ) : EReal) = min (x : EReal) (y : EReal) := EReal.coe_strictMono.monotone.map_min

theorem abs_coe (x : ℝ) : max (x : EReal) (-(x : EReal)) = ((|x| : ℝ) : EReal) := by
  rw [← EReal.coe_neg, ← coe_max]; rfl

theorem log_pos {x : ℝ} (h : 0 < x) : Ideal.log (x : EReal) = ((Real.log x : ℝ) : EReal) := by
  rw [Ideal.log_coe, if_neg (not_le.mpr h)]
theorem log_zero : Ideal.log ((0 : ℝ) : EReal) = ⊥ := by rw [Ideal.log_coe, if_pos le_rfl]

/-- A base 2 logarithm as the kernel computes it. -/
def lg (x : EReal) : EReal := Ideal.log x * (((Real.log 2)⁻¹ : ℝ) : EReal)

theorem ln2_pos : 0 < Real.log 2 := Real.log_pos (by norm_num)
theorem inv_ln2_pos : 0 < (Real.log 2)⁻¹ := inv_pos.mpr ln2_pos

theorem lg_pos {x : ℝ} (h : 0 < x) : lg (x : EReal) = ((Real.log x * (Real.log 2)⁻¹ : ℝ) : EReal) := by
  rw [lg, log_pos h, ← EReal.coe_mul]
theorem lg_zero : lg ((0 : ℝ) : EReal) = ⊥ := by
  rw [lg, log_zero, EReal.bot_mul_coe_of_pos inv_ln2_pos]

theorem exp2_real (x : ℝ) : Ideal.exp2 (x : EReal) = ((Real.exp (x * Real.log 2) : ℝ) : EReal) := by
  rw [Ideal.exp2_coe]
  refine congrArg _ ?_
  show (2 : ℝ) ^ x = _
  rw [Real.rpow_def_of_pos (by norm_num), mul_comm]

theorem exp2_lg {x : ℝ} : Ideal.exp2 ((x * (Real.log 2)⁻¹ : ℝ) : EReal) = ((Real.exp x : ℝ) : EReal) := by
  rw [exp2_real, mul_assoc, inv_mul_cancel₀ ln2_pos.ne', mul_one]

/-- A power as the kernel computes it. -/
def amp (l k o : EReal) : EReal := Ideal.exp2 (l * k + o)

theorem one_div_coe {k : ℝ} (h : k ≠ 0) : Ideal.div ((1 : ℝ) : EReal) (k : EReal) = ((1 / k : ℝ) : EReal) := by
  rw [Ideal.div_coe h, ← EReal.coe_mul, one_mul]

theorem div_real {x k : ℝ} (h : k ≠ 0) : Ideal.div (x : EReal) (k : EReal) = ((x / k : ℝ) : EReal) := by
  rw [Ideal.div_coe h, ← EReal.coe_mul, mul_one_div]

/-! ## The value of a code -/

theorem amp_deq {M q s k c : ℝ} (hM : 0 < M) (hs : 0 ≤ s) (hk : 0 < k) (hc : 0 < c) :
    amp (lg ((|q| : ℝ) : EReal)) ((1 / k : ℝ) : EReal)
      (lg ((s * c : ℝ) : EReal) - ((Real.log M * (Real.log 2)⁻¹ : ℝ) : EReal) * ((1 / k : ℝ) : EReal))
      = ((if q = 0 then 0 else c * s * Real.exp (Real.log (|q| / M) / k) : ℝ) : EReal) := by
  unfold amp
  by_cases hq : q = 0
  · rw [if_pos hq, hq, abs_zero, lg_zero, EReal.bot_mul_coe_of_pos (by positivity), EReal.bot_add]
    rfl
  · rw [if_neg hq]
    have hq' : 0 < |q| := abs_pos.mpr hq
    rcases hs.eq_or_lt with hs | hs
    · rw [← hs, zero_mul, lg_zero, sub_eq_add_neg, EReal.bot_add, EReal.add_bot, mul_zero, zero_mul]
      rfl
    · rw [lg_pos hq', lg_pos (by positivity), ← EReal.coe_mul, ← EReal.coe_mul, ← EReal.coe_sub, ← EReal.coe_add]
      rw [show Real.log |q| * (Real.log 2)⁻¹ * (1 / k) + (Real.log (s * c) * (Real.log 2)⁻¹ - Real.log M * (Real.log 2)⁻¹ * (1 / k))
        = (Real.log (s * c) + Real.log (|q| / M) / k) * (Real.log 2)⁻¹ by
          rw [Real.log_div hq'.ne' hM.ne']; ring, exp2_lg, Real.exp_add, Real.exp_log (by positivity), mul_comm s c]

/-- The kernel's sign, put on a magnitude. -/
theorem signed_deq {M q s k c : ℝ} :
    (if (q : ℝ) < 0 then 0 - (if q = 0 then 0 else c * s * Real.exp (Real.log (|q| / M) / k))
      else (if q = 0 then 0 else c * s * Real.exp (Real.log (|q| / M) / k))) = c * deq M q s k := by
  unfold deq sgn
  rcases lt_trichotomy q 0 with h | h | h
  · rw [if_pos h, if_neg h.ne, if_neg h.ne, if_pos h]; ring
  · subst h; simp
  · rw [if_neg h.not_gt, if_neg h.ne', if_neg h.ne', if_neg h.not_gt, if_pos h]; ring

theorem deq_of_nonneg {M q s k c : ℝ} (h : 0 ≤ q) :
    (if q = 0 then 0 else c * s * Real.exp (Real.log (|q| / M) / k)) = c * deq M q s k := by
  rw [← signed_deq, if_neg h.not_gt]

theorem deq_nonneg {M q s k : ℝ} (h : 0 ≤ q) (hs : 0 ≤ s) : 0 ≤ deq M q s k := by
  unfold deq sgn
  split
  · exact le_rfl
  · rw [if_neg h.not_gt]
    split
    · positivity
    · positivity

/-! ## The parameters of a group -/

theorem expo_pos {L a b : ℝ} (hL : 0 < L) : 0 < expo L a b := by
  unfold expo
  split
  · exact div_pos hL (lt_max_of_lt_right (by positivity))
  · exact one_pos

/-- The kernel's exponent, from the statistics of a group `c` times as large. -/
theorem expo_eq {L a b c : ℝ} (ha : 0 < a) (hb : 0 < b) (hc : 0 < c) :
    (Real.log L * (Real.log 2)⁻¹) / max (Real.log (c * a) * (Real.log 2)⁻¹ - Real.log (c * b) * (Real.log 2)⁻¹)
      (Real.log L * (Real.log 2)⁻¹ * (1 / 8)) = expo (Real.log L) a b := by
  rw [expo, if_pos ha, Real.log_mul hc.ne' ha.ne', Real.log_mul hc.ne' hb.ne']
  rw [show (Real.log c + Real.log a) * (Real.log 2)⁻¹ - (Real.log c + Real.log b) * (Real.log 2)⁻¹
    = (Real.log a - Real.log b) * (Real.log 2)⁻¹ by ring,
    show Real.log L * (Real.log 2)⁻¹ * (1 / 8) = Real.log L * (1 / 8) * (Real.log 2)⁻¹ by ring,
    ← max_mul_of_nonneg _ _ inv_ln2_pos.le, mul_div_mul_right _ _ inv_ln2_pos.ne']

/-! ## The codes of a group -/

/-- The kernel's magnitude of a code. -/
theorem amp_code {M x a k c : ℝ} (hM : 0 < M) (hc : 0 < c) (ha : |x| ≤ a) (hk : 0 < k) :
    min (amp (lg ((|c * x| : ℝ) : EReal)) (k : EReal)
      ((Real.log M * (Real.log 2)⁻¹ - k * (Real.log (if 0 < a then c * a else 1) * (Real.log 2)⁻¹) : ℝ) : EReal)) ((M : ℝ) : EReal)
      = ((min (max 0 (if x = 0 then 0 else M * Real.exp (k * Real.log (|x| / scale a)))) M : ℝ) : EReal) := by
  unfold amp
  by_cases hx : x = 0
  · subst hx
    rw [mul_zero, abs_zero, lg_zero, EReal.bot_mul_coe_of_pos hk, EReal.bot_add, if_pos rfl, max_self, coe_min]
    rfl
  · have hx' : 0 < |x| := abs_pos.mpr hx
    have ha' : 0 < a := lt_of_lt_of_le hx' ha
    rw [if_neg hx, if_pos ha', scale, if_pos ha', abs_mul, abs_of_pos hc, lg_pos (by positivity), ← EReal.coe_mul, ← EReal.coe_add,
      show Real.log (c * |x|) * (Real.log 2)⁻¹ * k + (Real.log M * (Real.log 2)⁻¹ - k * (Real.log (c * a) * (Real.log 2)⁻¹))
        = (Real.log M + k * Real.log (|x| / a)) * (Real.log 2)⁻¹ by
          rw [Real.log_div hx'.ne' ha'.ne', Real.log_mul hc.ne' hx'.ne', Real.log_mul hc.ne' ha'.ne']; ring,
      exp2_lg, Real.exp_add, Real.exp_log hM, ← coe_min, max_eq_right (by positivity)]

theorem signed_code {x c y : ℝ} (hc : 0 < c) (h0 : x = 0 → y = 0) : (if c * x < 0 then 0 - y else y) = sgn x * y := by
  unfold sgn
  rcases lt_trichotomy x 0 with h | h | h
  · rw [if_pos (mul_neg_of_pos_of_neg hc h), if_pos h]; ring
  · subst h; rw [h0 rfl]; simp
  · rw [if_neg (mul_pos hc h).not_gt, if_neg h.not_gt, if_pos h]; ring

theorem code_of_nonneg {M x a k : ℝ} (hM : 0 < M) (h : 0 ≤ x) :
    min (max 0 (if x = 0 then 0 else M * Real.exp (k * Real.log (|x| / scale a)))) M = code M x a k := by
  unfold code sgn
  rcases h.eq_or_lt with h | h
  · subst h; simp [hM.le]
  · rw [if_neg h.not_gt, if_pos h, one_mul]

/-! ## The update -/

/-- The correction of a moment after `t` steps. -/
def corr (β t : ℝ) : ℝ := 1 - β ^ t

theorem corr_pos {β t : ℝ} (h0 : 0 < β) (h1 : β < 1) (ht : 1 ≤ t) : 0 < corr β t :=
  sub_pos.mpr (Real.rpow_lt_one h0.le h1 (by linarith))

theorem exp2_pow {β t : ℝ} (h0 : 0 < β) :
    Ideal.exp2 ((t * (Real.log β * (Real.log 2)⁻¹) : ℝ) : EReal) = ((β ^ t : ℝ) : EReal) := by
  rw [← mul_assoc, exp2_lg, Real.rpow_def_of_pos h0, mul_comm]

/-- The update before the decay. -/
def upd (m v B1 B2 ε : ℝ) : ℝ := (m / B1) / (Real.sqrt (v / B2) + ε)

theorem half_lg {v : ℝ} (hv : 0 ≤ v) : Ideal.exp2 (((1 / 2 : ℝ) : EReal) * lg (v : EReal)) = ((Real.sqrt v : ℝ) : EReal) := by
  rcases hv.eq_or_lt with hv | hv
  · rw [← hv, lg_zero, EReal.coe_mul_bot_of_pos (by norm_num), Real.sqrt_zero]; rfl
  · rw [lg_pos hv, ← EReal.coe_mul, ← mul_assoc, exp2_lg]
    refine congrArg _ ?_
    rw [Real.sqrt_eq_rpow, Real.rpow_def_of_pos hv, mul_comm]

theorem upd_eq {m v B1 B2 ε : ℝ} (hv : 0 ≤ v) (h1 : 0 < B1) (h2 : 0 < B2) (hε : 0 < ε) :
    (10 * m * (1 / (Real.sqrt (20 * v) + ε * Real.sqrt (20 * B2)))) * (Real.sqrt (20 * B2) / (10 * B1)) = upd m v B1 B2 ε := by
  unfold upd
  have hr : 0 < Real.sqrt (20 * B2) := Real.sqrt_pos.mpr (by positivity)
  have hs : Real.sqrt (v / B2) = Real.sqrt (20 * v) / Real.sqrt (20 * B2) := by
    rw [← Real.sqrt_div (by positivity), mul_div_mul_left _ _ (by norm_num : (20 : ℝ) ≠ 0)]
  rw [hs]
  have h3 : 0 < Real.sqrt (20 * v) + ε * Real.sqrt (20 * B2) := by positivity
  field_simp

end Cert.Real1

end
-- ==== Proof.State.lean ====
/- The optimiser's step on the reals: what every result is, element by element, as a function of the state that is read. -/
module

public import proofs.«01_k».proof.Proof.Real

@[expose] public section

noncomputable section

namespace Cert.Real1

open Idealize.ShloMosaic

/-- The state before the step: the codes of the two moments, the gradient, the parameters of the groups, the step count. -/
structure St where
  make ::
  q : Fin 256 → Fin 131072 → ℝ
  qv : Fin 256 → Fin 131072 → ℝ
  g : Fin 256 → Fin 131072 → ℝ
  ms : Fin 256 → Fin 1024 → ℝ
  mk : Fin 256 → Fin 1024 → ℝ
  vs : Fin 256 → Fin 1024 → ℝ
  vk : Fin 256 → Fin 1024 → ℝ
  t : ℝ

/-- What a state must satisfy. -/
structure St.Ok (s : St) : Prop where
  make ::
  qv : ∀ a c, 0 ≤ s.qv a c
  ms : ∀ a j, 0 ≤ s.ms a j
  mk : ∀ a j, 0 < s.mk a j
  vs : ∀ a j, 0 ≤ s.vs a j
  vk : ∀ a j, 0 < s.vk a j
  t : 1 ≤ s.t

/-- The group of a column, -/
def grp (c : Fin 131072) : Fin 1024 := ⟨c.val / 128, by have := c.isLt; omega⟩
/-- and the columns of a group. -/
def col (j : Fin 1024) (e : Fin 128) : Fin 131072 := ⟨128 * j.val + e.val, by have := j.isLt; have := e.isLt; omega⟩

theorem grp_col (j : Fin 1024) (e : Fin 128) : grp (col j e) = j := by
  apply Fin.ext; show (128 * j.val + e.val) / 128 = j.val; have := e.isLt; omega
theorem col_grp (c : Fin 131072) : col (grp c) ⟨c.val % 128, Nat.mod_lt _ (by decide)⟩ = c := by
  apply Fin.ext; show 128 * (c.val / 128) + c.val % 128 = c.val; omega

/-- The greatest magnitude of a group, -/
def top (x : Fin 128 → ℝ) : ℝ := Classical.choose (exists_top x)
theorem top_is (x : Fin 128 → ℝ) : IsTop x (top x) := Classical.choose_spec (exists_top x)
open Classical in
/-- and the least that is not zero. -/
def low (x : Fin 128 → ℝ) : ℝ := if h : ∃ b, IsLow x b then Classical.choose h else 1
theorem low_is (x : Fin 128 → ℝ) (h : 0 < top x) : IsLow x (low x) := by
  have h' := exists_low x (top_is x) h
  unfold low; rw [dif_pos h']; exact Classical.choose_spec h'

namespace St
variable (s : St)
/-- The new moments. -/
def m1 (a : Fin 256) (c : Fin 131072) : ℝ := 9 / 10 * deq 448 (s.q a c) (s.ms a (grp c)) (s.mk a (grp c)) + 1 / 10 * s.g a c
def v1 (a : Fin 256) (c : Fin 131072) : ℝ :=
  19 / 20 * deq 57344 (s.qv a c) (s.vs a (grp c)) (s.vk a (grp c)) + 1 / 20 * s.g a c * s.g a c

theorem v1_nonneg (h : s.Ok) (a : Fin 256) (c : Fin 131072) : 0 ≤ s.v1 a c := by
  unfold v1
  have h1 := deq_nonneg (M := 57344) (k := s.vk a (grp c)) (h.qv a c) (h.vs a (grp c))
  have h2 := mul_self_nonneg (s.g a c)
  nlinarith

def mTop (a : Fin 256) (j : Fin 1024) : ℝ := top fun e => s.m1 a (col j e)
def mLow (a : Fin 256) (j : Fin 1024) : ℝ := low fun e => s.m1 a (col j e)
def vTop (a : Fin 256) (j : Fin 1024) : ℝ := top fun e => s.v1 a (col j e)
def vLow (a : Fin 256) (j : Fin 1024) : ℝ := low fun e => s.v1 a (col j e)
def mExp (a : Fin 256) (j : Fin 1024) : ℝ := expo (Real.log 229376) (s.mTop a j) (s.mLow a j)
def vExp (a : Fin 256) (j : Fin 1024) : ℝ := expo (Real.log 3758096384) (s.vTop a j) (s.vLow a j)

/-- The results. -/
def resU (w : EReal) (a : Fin 256) (c : Fin 131072) : EReal :=
  ((upd (s.m1 a c) (s.v1 a c) (corr (9 / 10) s.t) (corr (19 / 20) s.t) (1 / 100000000) : ℝ) : EReal) + ((1 / 10 : ℝ) : EReal) * w
def resM (a : Fin 256) (c : Fin 131072) : EReal := ((code 448 (s.m1 a c) (s.mTop a (grp c)) (s.mExp a (grp c)) : ℝ) : EReal)
def resMs (a : Fin 256) (j : Fin 1024) : EReal := ((scale (s.mTop a j) : ℝ) : EReal)
def resMk (a : Fin 256) (j : Fin 1024) : EReal := ((s.mExp a j : ℝ) : EReal)
def resV (a : Fin 256) (c : Fin 131072) : EReal := ((code 57344 (s.v1 a c) (s.vTop a (grp c)) (s.vExp a (grp c)) : ℝ) : EReal)
def resVs (a : Fin 256) (j : Fin 1024) : EReal := ((scale (s.vTop a j) : ℝ) : EReal)
def resVk (a : Fin 256) (j : Fin 1024) : EReal := ((s.vExp a j : ℝ) : EReal)
end St

end Cert.Real1

end
-- ==== Proof.Scal.lean ====
/- Single operations at real numbers: constants, comparisons with a select, signs, logarithms. -/
module

public import proofs.«01_k».proof.Proof.State
public import Idealize.ShloMosaic.Lib.IdealHost

@[expose] public section

noncomputable section

namespace Cert.Real1

open Idealize.ShloMosaic

variable {α : Type}

theorem sel (p : Prop) [Decidable p] (a b : α) : Scalar.select (BitVec.ofBool (decide p)) a b = if p then a else b := by
  unfold Scalar.select
  by_cases h : p
  · rw [if_pos h, decide_eq_true h]; rfl
  · rw [if_neg h, decide_eq_false h]; rfl

theorem sel_lt {φ : FTy} (x y : ℝ) (a b : α) :
    Scalar.select (FloatOps.cmpf (F := Ideal) (φ := φ) .olt (x : EReal) (y : EReal)) a b = if x < y then a else b := by
  refine (sel ((x : EReal) < (y : EReal)) a b).trans ?_
  simp only [EReal.coe_lt_coe_iff]

theorem sel_gt {φ : FTy} (x y : ℝ) (a b : α) :
    Scalar.select (FloatOps.cmpf (F := Ideal) (φ := φ) .ogt (x : EReal) (y : EReal)) a b = if y < x then a else b := by
  refine (sel ((y : EReal) < (x : EReal)) a b).trans ?_
  simp only [EReal.coe_lt_coe_iff]

theorem sel_ne {φ : FTy} (x y : ℝ) (a b : α) :
    Scalar.select (FloatOps.cmpf (F := Ideal) (φ := φ) .one (x : EReal) (y : EReal)) a b = if x = y then b else a := by
  refine (sel ((x : EReal) ≠ (y : EReal)) a b).trans ?_
  simp only [ne_eq, EReal.coe_eq_coe_iff, ite_not]

theorem absf_real {φ : FTy} (x : ℝ) : FloatOps.absf (F := Ideal) (φ := φ) (x : EReal) = ((|x| : ℝ) : EReal) := abs_coe x

theorem b0 (φ : FTy) : FloatOps.ofBits (F := Ideal) φ 0#φ.bits = ((0 : ℝ) : EReal) := by
  rw [Ideal.ofBits_def]; exact IdealRules.sign_bit.ideal_zero φ
theorem b0' : FloatOps.ofBits (F := Ideal) .f32 0#32 = ((0 : ℝ) : EReal) := b0 .f32
theorem b1 : FloatOps.ofBits (F := Ideal) .f32 0x3F800000#32 = ((1 : ℝ) : EReal) := (Ideal.ofBits_def _).trans Ideal.ofBits_one_f32
theorem bm1 : FloatOps.ofBits (F := Ideal) .f32 0xBF800000#32 = ((-1 : ℝ) : EReal) := by
  rw [Ideal.ofBits_def]; simp [Ideal.ofBits, Ideal.ieee, -EReal.coe_mul, -EReal.coe_neg]; norm_num
theorem bhalf : FloatOps.ofBits (F := Ideal) .f32 0x3F000000#32 = ((1 / 2 : ℝ) : EReal) := by
  rw [Ideal.ofBits_def]; simp [Ideal.ofBits, Ideal.ieee, -EReal.coe_mul, -EReal.coe_neg]; norm_num
theorem b9 : FloatOps.ofBits (F := Ideal) .f32 0x41100000#32 = ((9 : ℝ) : EReal) := by
  rw [Ideal.ofBits_def]; simp [Ideal.ofBits, Ideal.ieee, -EReal.coe_mul, -EReal.coe_neg]; norm_num
theorem b10 : FloatOps.ofBits (F := Ideal) .f32 0x41200000#32 = ((10 : ℝ) : EReal) := by
  rw [Ideal.ofBits_def]; simp [Ideal.ofBits, Ideal.ieee, -EReal.coe_mul, -EReal.coe_neg]; norm_num
theorem b19 : FloatOps.ofBits (F := Ideal) .f32 0x41980000#32 = ((19 : ℝ) : EReal) := by
  rw [Ideal.ofBits_def]; simp [Ideal.ofBits, Ideal.ieee, -EReal.coe_mul, -EReal.coe_neg]; norm_num
theorem b20 : FloatOps.ofBits (F := Ideal) .f32 0x41A00000#32 = ((20 : ℝ) : EReal) := by
  rw [Ideal.ofBits_def]; simp [Ideal.ofBits, Ideal.ieee, -EReal.coe_mul, -EReal.coe_neg]; norm_num
theorem b448 : FloatOps.ofBits (F := Ideal) .f32 0x43E00000#32 = ((448 : ℝ) : EReal) := by
  rw [Ideal.ofBits_def]; simp [Ideal.ofBits, Ideal.ieee, -EReal.coe_mul, -EReal.coe_neg]; norm_num
theorem b57344 : FloatOps.ofBits (F := Ideal) .f32 0x47600000#32 = ((57344 : ℝ) : EReal) := by
  rw [Ideal.ofBits_def]; simp [Ideal.ofBits, Ideal.ieee, -EReal.coe_mul, -EReal.coe_neg]; norm_num
theorem bbot : FloatOps.ofBits (F := Ideal) .f32 0xFF800000#32 = (⊥ : EReal) := by
  rw [Ideal.ofBits_def]; simp [Ideal.ofBits, Ideal.ieee, -EReal.coe_mul, -EReal.coe_neg]
theorem btop : FloatOps.ofBits (F := Ideal) .f32 0x7F800000#32 = (⊤ : EReal) := by
  rw [Ideal.ofBits_def]; simp [Ideal.ofBits, Ideal.ieee, -EReal.coe_mul, -EReal.coe_neg]

theorem real_ite (p : Prop) [Decidable p] (x y : ℝ) : (if p then (x : EReal) else (y : EReal)) = ((if p then x else y : ℝ) : EReal) := by
  split <;> rfl

/-- The value of a code as the reference computes it. -/
theorem ref_deq {M q s k : ℝ} (hM : 0 < M) (hk : 0 < k) :
    (if q = 0 then ((0 : ℝ) : EReal) else (if 0 < |q| then (if q < 0 then ((-1 : ℝ) : EReal) else ((1 : ℝ) : EReal)) else (q : EReal)) * (s : EReal) *
      Ideal.exp (Ideal.div (Ideal.log (Ideal.div (if q = 0 then (M : EReal) else ((|q| : ℝ) : EReal)) (M : EReal))) (k : EReal)))
      = ((deq M q s k : ℝ) : EReal) := by
  unfold deq sgn
  by_cases hq : q = 0
  · rw [if_pos hq, if_pos hq]
  · have hq' := abs_pos.mpr hq
    rw [if_neg hq, if_neg hq, if_neg hq, if_pos hq', div_real hM.ne', log_pos (div_pos hq' hM), div_real hk.ne', Ideal.exp_coe, real_ite,
      ← EReal.coe_mul, ← EReal.coe_mul]
    rcases lt_or_gt_of_ne hq with h | h
    · rw [if_pos h, if_pos h]
    · rw [if_neg h.not_gt, if_neg h.not_gt, if_pos h]

/-- The value of a code that is not negative, as the reference computes it. -/
theorem ref_deq_nonneg {M q s k : ℝ} (hM : 0 < M) (hk : 0 < k) (h : 0 ≤ q) :
    (if q = 0 then ((0 : ℝ) : EReal) else (s : EReal) *
      Ideal.exp (Ideal.div (Ideal.log (Ideal.div (if q = 0 then (M : EReal) else (q : EReal)) (M : EReal))) (k : EReal)))
      = ((deq M q s k : ℝ) : EReal) := by
  rw [← ref_deq hM hk]
  by_cases hq : q = 0
  · rw [if_pos hq, if_pos hq]
  · have h0 := lt_of_le_of_ne h (Ne.symm hq)
    simp only [if_neg hq, abs_of_nonneg h, if_pos h0, if_neg h0.not_gt, EReal.coe_one, one_mul]

/-- An exponent as the reference computes it. -/
theorem ref_expo {L a b : ℝ} (ha : 0 ≤ a) (hb : 0 < a → 0 < b) (hL : 0 < L) {a' b' : EReal} (h1 : a' = if 0 < a then (a : EReal) else ((1 : ℝ) : EReal)) (h2 : b' = if 0 < a then (b : EReal) else ((1 : ℝ) : EReal)) :
    (if 0 < a then Ideal.div (L : EReal) (max (Ideal.log a' - Ideal.log b') ((L * (1 / 8) : ℝ) : EReal)) else ((1 : ℝ) : EReal))
      = ((expo L a b : ℝ) : EReal) := by
  unfold expo
  by_cases h : 0 < a
  · have hm : 0 < max (Real.log a - Real.log b) (L * (1 / 8)) := lt_max_of_lt_right (by positivity)
    rw [if_pos h, if_pos h, h1, h2, if_pos h, if_pos h, log_pos h, log_pos (hb h), ← EReal.coe_sub, ← coe_max, div_real hm.ne']
  · rw [if_neg h, if_neg h]

/-- A code as the reference computes it. -/
theorem ref_code {M x a k : ℝ} (hM : 0 < M) (ha : |x| ≤ a) :
    (if 0 < |x| then (if x < 0 then ((-1 : ℝ) : EReal) else ((1 : ℝ) : EReal)) else (x : EReal)) *
      min ((M : ℝ) : EReal) (max ((0 : ℝ) : EReal) (if x = 0 then ((0 : ℝ) : EReal) else (M : EReal) *
        Ideal.exp ((k : EReal) * Ideal.log (Ideal.div (if x = 0 then ((1 : ℝ) : EReal) else ((|x| : ℝ) : EReal)) (scale a : EReal)))))
      = ((code M x a k : ℝ) : EReal) := by
  unfold code sgn
  by_cases hx : x = 0
  · subst hx
    simp
  · have hx' := abs_pos.mpr hx
    have hs : 0 < scale a := by unfold scale; rw [if_pos (hx'.trans_le ha)]; exact hx'.trans_le ha
    rw [if_pos hx', if_neg hx, if_neg hx, if_neg hx, div_real hs.ne', log_pos (div_pos hx' hs), ← EReal.coe_mul, Ideal.exp_coe, ← EReal.coe_mul,
      ← coe_max, ← coe_min, real_ite, ← EReal.coe_mul, min_comm]
    rcases lt_or_gt_of_ne hx with h | h
    · rw [if_pos h, if_pos h]
    · rw [if_neg h.not_gt, if_neg h.not_gt, if_pos h]

end Cert.Real1

end
-- ==== Proof.Elem.lean ====
/- Operations on vectors, at an element. -/
module

public import proofs.«01_k».proof.Proof.Scal

@[expose] public section

noncomputable section

namespace Cert.Real1

open Idealize.ShloMosaic

/-! A product, a quotient and so on of vectors, at an element. -/
theorem radd {t : Shape} (i : t.Idx) (x y : FVec Ideal t .f32) : addf x y i = (x i : EReal) + y i := rfl
theorem rsub {t : Shape} (i : t.Idx) (x y : FVec Ideal t .f32) : subf x y i = (x i : EReal) - y i := rfl
theorem rmul {t : Shape} (i : t.Idx) (x y : FVec Ideal t .f32) : mulf x y i = (x i : EReal) * y i := rfl
theorem rdiv {t : Shape} (i : t.Idx) (x y : FVec Ideal t .f32) : divf x y i = Ideal.div (x i) (y i) := rfl
theorem rmax {t : Shape} (i : t.Idx) (x y : FVec Ideal t .f32) : maximumf x y i = max (x i : EReal) (y i) := rfl
theorem rmin {t : Shape} (i : t.Idx) (x y : FVec Ideal t .f32) : minimumf x y i = min (x i : EReal) (y i) := rfl
theorem rabs {t : Shape} (i : t.Idx) (x : FVec Ideal t .f32) : absf x i = FloatOps.absf (x i) := rfl
theorem rlog {t : Shape} (i : t.Idx) (x : FVec Ideal t .f32) : log x i = Ideal.log (x i) := rfl
theorem rexp {t : Shape} (i : t.Idx) (x : FVec Ideal t .f32) : exp x i = Ideal.exp (x i) := rfl
theorem rsqrt {t : Shape} (i : t.Idx) (x : FVec Ideal t .f32) : sqrt x i = Ideal.sqrt (x i) := rfl
theorem rsel {t : Shape} {α : Type} (i : t.Idx) (p : IVec t 1) (x y : t.Idx → α) : select p x y i = Scalar.select (p i) (x i) (y i) := rfl
theorem rcmp {t : Shape} (i : t.Idx) (p : CmpFPredicate) (x y : FVec Ideal t .f32) : cmpf p x y i = FloatOps.cmpf p (x i) (y i) := rfl
theorem rbc {t : Shape} {α : Type} (i : t.Idx) (x : α) : broadcast t x i = x := rfl
theorem rcst {t : Shape} (i : t.Idx) (b : BitVec 32) : constant (F := Ideal) t .f32 b i = FloatOps.ofBits .f32 b := rfl
theorem rext {t : Shape} (i : t.Idx) {φ : FTy} (h : φ.bits < FTy.f32.bits) (x : FVec Ideal t φ) : extf .f32 x h i = x i := rfl
theorem rtr {t : Shape} (i : t.Idx) {φ : FTy} (h : φ.bits < FTy.f32.bits) (x : FVec Ideal t .f32) : truncf φ x h i = x i := rfl
theorem rofb (b : BitVec 32) : Scalar.ofBits (F := Ideal) .f32 b = FloatOps.ofBits (F := Ideal) .f32 b := rfl
theorem rexp2 {t : Shape} (i : t.Idx) (x : FVec Ideal t .f32) : exp2 x i = Ideal.exp2 (x i) := rfl

end Cert.Real1

end
-- ==== Proof.KI.Mat.lean ====
/- The transposed codes and gradients of a chunk: a product with the identity. -/
module

public import proofs.«01_k».proof.Proof.KI.Step
public import proofs.«01_k».proof.Proof.Elem
public import Idealize.ShloMosaic.Lib.MatmulPlain

@[expose] public section

set_option maxRecDepth 16384

noncomputable section

namespace Cert.KernelIdeal.Hand

open Idealize.ShloMosaic Idealize.ShloMosaic.ValueIdx
open Cert.KernelIdeal.Gen Cert.Real1

theorem eye_at (r k : Fin 256) : eye (F := Ideal) (ix2 r k) = if r = k then ((1 : ℝ) : EReal) else ((0 : ℝ) : EReal) := by
  have h : k0_pay73 (ix2 r k) = BitVec.ofBool (decide (r = k)) := by
    show BitVec.ofBool (BitVec.ofNat 32 (0 * 256 + r.val) == BitVec.ofNat 32 (0 * 256 + k.val)) = _
    refine congrArg BitVec.ofBool ?_
    have hr := r.isLt
    have hk := k.isLt
    rw [Bool.eq_iff_iff, beq_iff_eq, decide_eq_true_iff]
    constructor
    · intro e
      have e' := congrArg BitVec.toNat e
      rw [BitVec.toNat_ofNat, BitVec.toNat_ofNat] at e'
      apply Fin.ext; omega
    · intro e; rw [e]
  have e : eye (F := Ideal) (ix2 r k) = Scalar.select (k0_pay73 (ix2 r k)) (FloatOps.ofBits (F := Ideal) .f32 0x3F800000#32) (FloatOps.ofBits (F := Ideal) .f32 0x00000000#32) := rfl
  rw [e, h, sel, b1, b0']

/-- A product with the identity on the left and a transposed factor on the right. -/
theorem eye_mul {φ : FTy} (x : FVec Ideal S256x256 φ) (r a : Fin 256) :
    matmul (φ₁ := .bf16) (φ₂ := φ) dot_S256x256_S256x256_S256x256_1_1_0_0_n_n none eye x (constant S256x256 .f32 0x00000000#32) (ix2 r a) = x (ix2 a r) := by
  have e := Ideal.matmul_transposedRhs_apply (M := 256) (K := 256) (N := 256) (φ₁ := .bf16) (φ₂ := φ) none eye x (constant S256x256 .f32 0x00000000#32) r a
  refine (show _ = _ from e).trans ?_
  rw [rcst, b0', EReal.coe_zero, zero_add, Finset.sum_eq_single r]
  · rw [eye_at, if_pos rfl, EReal.coe_one, one_mul]
  · intro k _ hk
    rw [eye_at, if_neg hk.symm, EReal.coe_zero, zero_mul]
  · intro h; exact absurd (Finset.mem_univ _) h

/-- Column `e` of group `j` in a block. -/
def inc (j : Fin 8) (e : Fin 128) : Fin 1024 := ⟨128 * j.val + e.val, by have := j.isLt; have := e.isLt; omega⟩

theorem half_at (q : FVec Ideal S256x256 .f32) (j : Fin 8) (e : Fin 128) (a : Fin 256) :
    halfOf q j (ix2 e a) = q (ix2 ⟨128 * (j.val % 2) + e.val, by have := e.isLt; omega⟩ a) :=
  slice2_axis0_apply _ q _ e a _ rfl

theorem pair_at {et : EltTy} (x : Vec Ideal S256x1024 et) (h : S256x256.ShapeCasts S256x256) (j : Fin 8) (e : Fin 128) (a : Fin 256) :
    shapeCast S256x256 (pairOf x (pairIx j)) h (ix2 a ⟨128 * (j.val % 2) + e.val, by have := e.isLt; omega⟩) = x (ix2 a (inc j e)) := by
  refine (shapeCast_apply _ h _ (ix2 a ⟨128 * (j.val % 2) + e.val, by have := e.isLt; omega⟩) rfl).trans ?_
  unfold pairOf
  refine congrArg x (funext fun ax => ?_)
  match ax with
  | ⟨0, _⟩ => exact Fin.ext (by show 0 + 1 * a.val = a.val; omega)
  | ⟨1, _⟩ => exact Fin.ext (by show 256 * (j.val / 2) + 1 * (128 * (j.val % 2) + e.val) = 128 * j.val + e.val; omega)

theorem mCodes_at (x : Vec Ideal S256x1024 .fp8e4m3) (j : Fin 8) (e : Fin 128) (a : Fin 256) :
    halfOf (mCodes x (pairIx j)) j (ix2 e a) = x (ix2 a (inc j e)) := by
  rw [half_at]; unfold mCodes; rw [eye_mul]; exact pair_at x _ j e a
theorem vCodes_at (x : Vec Ideal S256x1024 .fp8e5m2) (j : Fin 8) (e : Fin 128) (a : Fin 256) :
    halfOf (vCodes x (pairIx j)) j (ix2 e a) = x (ix2 a (inc j e)) := by
  rw [half_at]; unfold vCodes; rw [eye_mul]; exact pair_at x _ j e a
theorem gCols_at (x : Vec Ideal S256x1024 .bf16) (j : Fin 8) (e : Fin 128) (a : Fin 256) :
    halfOf (gCols x (pairIx j)) j (ix2 e a) = x (ix2 a (inc j e)) := by
  rw [half_at]; unfold gCols; rw [eye_mul]; exact pair_at x _ j e a

/-- The row of group `j` in an array of parameters. -/
theorem off2 (i : grid0.Coords) (j : Fin 8) (h : (i 0).val < 128) : k0_off2 i (BitVec.ofNat 32 j.val) = ![8 * (i 0).val + j.val, 0] := by
  have e : ∀ (b : Fin 128) (j : Fin 8), (Scalar.indexCast (Scalar.addi (Scalar.muli (Scalar.minsi (BitVec.ofNat 32 b.val) 127#32) 8#32) (BitVec.ofNat 32 j.val)) : BitVec 32).toNat = 8 * b.val + j.val := by
    decide +kernel
  have e' := e ⟨(i 0).val, h⟩ j
  funext ax
  match ax with
  | ⟨0, _⟩ => exact e'
  | ⟨1, _⟩ => rfl

theorem par_at (s : Vec Ideal S1024x256 .f32) (i : grid0.Coords) (j : Fin 8) (h : (i 0).val < 128) (h' : S1x256.Broadcasts S128x256) (e : Fin 128) (a : Fin 256) :
    broadcastTo S128x256 (parOf s i j) h' (ix2 e a) = s (ix2 ⟨8 * (i 0).val + j.val, by have := j.isLt; omega⟩ a) := by
  refine (broadcastTo_1b_ab_apply _ h' e a).trans ?_
  unfold parOf
  refine congrArg s (funext fun ax => ?_)
  have ho := off2 i j h
  match ax with
  | ⟨0, _⟩ => exact Fin.ext (by show k0_off2 i (BitVec.ofNat 32 j.val) 0 + 1 * 0 = _; rw [ho]; rfl)
  | ⟨1, _⟩ => exact Fin.ext (by show k0_off2 i (BitVec.ofNat 32 j.val) 1 + 1 * a.val = _; rw [ho]; show 0 + 1 * a.val = a.val; omega)

end Cert.KernelIdeal.Hand

end
-- ==== Proof.KI.Group.lean ====
/- The new moments of a group, and the update before its last factor. -/
module

public import proofs.«01_k».proof.Proof.KI.Mat

@[expose] public section

set_option maxRecDepth 16384

noncomputable section

namespace Cert.KernelIdeal.Hand

open Idealize.ShloMosaic Idealize.ShloMosaic.ValueIdx
open Cert.KernelIdeal.Gen Cert.Real1

theorem n_inv_ln2 : Named.named (F := Ideal) κ "inv_ln2" (φ := .f32) 0x3FB8AA3B#32 = (((Real.log 2)⁻¹ : ℝ) : EReal) := IdealRules.named_const.ideal_named_scalar _ _ _ _ rfl
theorem n_eps : Named.named (F := Ideal) κ "eps" (φ := .f32) 0x322BCC77#32 = ((1 / 100000000 : ℝ) : EReal) := IdealRules.named_const.ideal_named_scalar _ _ _ _ rfl
theorem n_log2_m_max : Named.named (F := Ideal) κ "log2_m_max" (φ := .f32) 0x410CEAED#32 = ((Real.log 448 * (Real.log 2)⁻¹ : ℝ) : EReal) := IdealRules.named_const.ideal_named_scalar _ _ _ _ rfl
theorem n_log2_v_max : Named.named (F := Ideal) κ "log2_v_max" (φ := .f32) 0x417CEAED#32 = ((Real.log 57344 * (Real.log 2)⁻¹ : ℝ) : EReal) := IdealRules.named_const.ideal_named_scalar _ _ _ _ rfl
theorem n_log2_beta1 : Named.named (F := Ideal) κ "log2_beta1" (φ := .f32) 0xBE1BA6B3#32 = ((Real.log (9 / 10) * (Real.log 2)⁻¹ : ℝ) : EReal) := IdealRules.named_const.ideal_named_scalar _ _ _ _ rfl
theorem n_log2_beta2 : Named.named (F := Ideal) κ "log2_beta2" (φ := .f32) 0xBD978D9E#32 = ((Real.log (19 / 20) * (Real.log 2)⁻¹ : ℝ) : EReal) := IdealRules.named_const.ideal_named_scalar _ _ _ _ rfl
theorem n_m_range : Named.named (F := Ideal) κ "m_range" (φ := .f32) 0x418E7576#32 = ((Real.log 229376 * (Real.log 2)⁻¹ : ℝ) : EReal) := IdealRules.named_const.ideal_named_scalar _ _ _ _ rfl
theorem n_m_range_8 : Named.named (F := Ideal) κ "m_range_8" (φ := .f32) 0x400E7576#32 = ((Real.log 229376 * (Real.log 2)⁻¹ * (1 / 8) : ℝ) : EReal) := IdealRules.named_const.ideal_named_scalar _ _ _ _ rfl
theorem n_v_range : Named.named (F := Ideal) κ "v_range" (φ := .f32) 0x41FE7576#32 = ((Real.log 3758096384 * (Real.log 2)⁻¹ : ℝ) : EReal) := IdealRules.named_const.ideal_named_scalar _ _ _ _ rfl
theorem n_v_range_8 : Named.named (F := Ideal) κ "v_range_8" (φ := .f32) 0x407E7576#32 = ((Real.log 3758096384 * (Real.log 2)⁻¹ * (1 / 8) : ℝ) : EReal) := IdealRules.named_const.ideal_named_scalar _ _ _ _ rfl
theorem n_tenth : Named.named (F := Ideal) κ "tenth" (φ := .f32) 0x3DCCCCCD#32 = ((1 / 10 : ℝ) : EReal) := IdealRules.named_const.ideal_named_scalar _ _ _ _ rfl
theorem n_twentieth : Named.named (F := Ideal) κ "twentieth" (φ := .f32) 0x3D4CCCCD#32 = ((1 / 20 : ℝ) : EReal) := IdealRules.named_const.ideal_named_scalar _ _ _ _ rfl

/-- Group `j` of chunk `b`. -/
def gr (b : Fin 128) (j : Fin 8) : Fin 1024 := ⟨8 * b.val + j.val, by have := j.isLt; have := b.isLt; omega⟩

/-- What chunk `b` of the state is to the kernel. -/
structure Blk (s : St) (b : Fin 128) (i : grid0.Coords) (x2 : Vec Ideal S256x1024 .bf16) (x3 : Vec Ideal S256x1024 .fp8e4m3) (x4 : Vec Ideal S256x1024 .fp8e5m2)
    (s5 s6 s7 s8 : Vec Ideal S1024x256 .f32) : Prop where
  make ::
  i0 : (i 0).val = b.val
  x2 : ∀ a j e, x2 (ix2 a (inc j e)) = ((s.g a (col (gr b j) e) : ℝ) : EReal)
  x3 : ∀ a j e, x3 (ix2 a (inc j e)) = ((s.q a (col (gr b j) e) : ℝ) : EReal)
  x4 : ∀ a j e, x4 (ix2 a (inc j e)) = ((s.qv a (col (gr b j) e) : ℝ) : EReal)
  s5 : ∀ a g, s5 (ix2 g a) = ((1 / s.mk a g : ℝ) : EReal)
  s6 : ∀ a g, s6 (ix2 g a) = Real1.lg ((s.ms a g * 9 : ℝ) : EReal) - ((Real.log 448 * (Real.log 2)⁻¹ : ℝ) : EReal) * ((1 / s.mk a g : ℝ) : EReal)
  s7 : ∀ a g, s7 (ix2 g a) = ((1 / s.vk a g : ℝ) : EReal)
  s8 : ∀ a g, s8 (ix2 g a) = Real1.lg ((s.vs a g * 19 : ℝ) : EReal) - ((Real.log 57344 * (Real.log 2)⁻¹ : ℝ) : EReal) * ((1 / s.vk a g : ℝ) : EReal)

theorem signed_at (x y : FVec Ideal S128x256 .f32) (i : S128x256.Idx) (r d : ℝ) (hx : x i = ((r : ℝ) : EReal)) (hy : y i = ((d : ℝ) : EReal)) :
    signed x y i = ((if r < 0 then 0 - d else d : ℝ) : EReal) := by
  unfold signed zeros
  rw [rsel, rcmp, rcst, rsub, rbc, rofb, b0', hx, hy, sel_lt, ← EReal.coe_sub, real_ite]
theorem lg_at (x : FVec Ideal S128x256 .f32) (i : S128x256.Idx) : lg x i = Real1.lg (x i) := by
  unfold lg
  rw [rmul, rlog, rbc, n_inv_ln2]; rfl
theorem amp_at (l : FVec Ideal S128x256 .f32) (k o : FVec Ideal S1x256 .f32) (i : S128x256.Idx) :
    amp l k o i = Real1.amp (l i) (broadcastTo S128x256 k broadcasts_S1x256_S128x256 i) (broadcastTo S128x256 o broadcasts_S1x256_S128x256 i) := by
  unfold amp
  rw [rexp2, radd, rmul]; rfl

section
variable {s : St} {b : Fin 128} {i : grid0.Coords} {x2 : Vec Ideal S256x1024 .bf16} {x3 : Vec Ideal S256x1024 .fp8e4m3} {x4 : Vec Ideal S256x1024 .fp8e5m2}
  {s5 s6 s7 s8 : Vec Ideal S1024x256 .f32} (ok : s.Ok) (B : Blk s b i x2 x3 x4 s5 s6 s7 s8)
include ok B

theorem row_eq (j : Fin 8) (h : 8 * (i 0).val + j.val < 1024) : (⟨8 * (i 0).val + j.val, h⟩ : Fin 1024) = gr b j :=
  Fin.ext (by show 8 * (i 0).val + j.val = 8 * b.val + j.val; rw [B.i0])

theorem m1G_at (j : Fin 8) (e : Fin 128) (a : Fin 256) : m1G i x2 x3 s5 s6 j (ix2 e a) = ((10 * s.m1 a (col (gr b j) e) : ℝ) : EReal) := by
  have hi : (i 0).val < 128 := by rw [B.i0]; exact b.isLt
  have hq := (mCodes_at x3 j e a).trans (B.x3 a j e)
  have hg := (gCols_at x2 j e a).trans (B.x2 a j e)
  have h5 := par_at s5 i j hi broadcasts_S1x256_S128x256 e a
  have h6 := par_at s6 i j hi broadcasts_S1x256_S128x256 e a
  rw [row_eq ok B] at h5 h6
  unfold m1G
  generalize halfOf (mCodes x3 (pairIx j)) j = Q at hq ⊢
  generalize halfOf (gCols x2 (pairIx j)) j = Gc at hg ⊢
  have ham : amp (lg (absf Q)) (parOf s5 i j) (parOf s6 i j) (ix2 e a) = _ :=
    Eq.trans (by rw [amp_at, lg_at, rabs, hq, absf_real, h5, h6, B.s5, B.s6])
      (amp_deq (M := 448) (by norm_num) (ok.ms a (gr b j)) (ok.mk a (gr b j)) (by norm_num : (0 : ℝ) < 9))
  rw [radd, signed_at _ _ _ _ _ hq ham, hg, signed_deq, ← EReal.coe_add]
  unfold St.m1
  rw [grp_col]
  refine congrArg _ ?_
  ring

theorem v1G_at (j : Fin 8) (e : Fin 128) (a : Fin 256) : v1G i x2 x4 s7 s8 j (ix2 e a) = ((20 * s.v1 a (col (gr b j) e) : ℝ) : EReal) := by
  have hi : (i 0).val < 128 := by rw [B.i0]; exact b.isLt
  have h0 := ok.qv a (col (gr b j) e)
  have hq := (vCodes_at x4 j e a).trans (B.x4 a j e)
  have hg := (gCols_at x2 j e a).trans (B.x2 a j e)
  have h7 := par_at s7 i j hi broadcasts_S1x256_S128x256 e a
  have h8 := par_at s8 i j hi broadcasts_S1x256_S128x256 e a
  rw [row_eq ok B] at h7 h8
  unfold v1G
  generalize halfOf (vCodes x4 (pairIx j)) j = Q at hq ⊢
  generalize halfOf (gCols x2 (pairIx j)) j = Gc at hg ⊢
  have ham : amp (lg Q) (parOf s7 i j) (parOf s8 i j) (ix2 e a) = _ :=
    Eq.trans (by rw [amp_at, lg_at, hq, h7, h8, B.s7, B.s8, show ((s.qv a (col (gr b j) e) : ℝ) : EReal) = ((|s.qv a (col (gr b j) e)| : ℝ) : EReal) by rw [abs_of_nonneg h0]])
      (amp_deq (M := 57344) (by norm_num) (ok.vs a (gr b j)) (ok.vk a (gr b j)) (by norm_num : (0 : ℝ) < 19))
  rw [radd, rmul, ham, hg, deq_of_nonneg h0, ← EReal.coe_mul, ← EReal.coe_add]
  unfold St.v1
  rw [grp_col]
  refine congrArg _ ?_
  ring
end

/-! ## The bias corrections -/

section
variable {s : St} (ok : s.Ok) (n : BitVec 32) (hn : (n.toInt : ℝ) = s.t)
include ok hn

theorem pay19_at (i : S8x128.Idx) : k0_pay19 (F := Ideal) n i = ((Real.sqrt (20 * corr (19 / 20) s.t) : ℝ) : EReal) := by
  have h18 : ∀ i, k0_pay18 (F := Ideal) n i = ((s.t : ℝ) : EReal) := fun i => by rw [← hn]; rfl
  have hc := corr_pos (β := 19 / 20) (by norm_num) (by norm_num) ok.t
  unfold k0_pay19
  simp only [rsqrt, rmul, rsub, rexp2, rbc, rofb, h18, b20, b1, n_log2_beta2]
  rw [← EReal.coe_mul, exp2_pow (by norm_num), ← EReal.coe_sub, ← EReal.coe_mul, Ideal.sqrt_coe, if_neg]
  · rfl
  · exact not_lt.mpr (mul_nonneg (by norm_num) hc.le)

theorem pay21_at (i : S1x1.Idx) : k0_pay21 (F := Ideal) n i = ((1 / 100000000 * Real.sqrt (20 * corr (19 / 20) s.t) : ℝ) : EReal) := by
  have h : ∀ i, mulf (broadcast S8x128 (Named.named (F := Ideal) κ "eps" 0x322BCC77#32)) (k0_pay19 (F := Ideal) n) i = ((1 / 100000000 * Real.sqrt (20 * corr (19 / 20) s.t) : ℝ) : EReal) := fun i => by
    rw [rmul, rbc, n_eps, pay19_at ok n hn, ← EReal.coe_mul]
  unfold k0_pay21 extractStridedSlice
  exact h _

theorem pay20_at (i : S1x1.Idx) : k0_pay20 (F := Ideal) n i = ((Real.sqrt (20 * corr (19 / 20) s.t) / (10 * corr (9 / 10) s.t) : ℝ) : EReal) := by
  have h18 : ∀ i, k0_pay18 (F := Ideal) n i = ((s.t : ℝ) : EReal) := fun i => by rw [← hn]; rfl
  have hc := corr_pos (β := 9 / 10) (by norm_num) (by norm_num) ok.t
  have hc' : (10 * corr (9 / 10) s.t : ℝ) ≠ 0 := by positivity
  have h19 := pay19_at ok n hn
  unfold k0_pay20 extractStridedSlice
  simp only [rdiv, rmul, rsub, rexp2, rbc, rofb, h18, h19, b10, b1, n_log2_beta1]
  rw [← EReal.coe_mul, exp2_pow (by norm_num), ← EReal.coe_sub, ← EReal.coe_mul]
  exact div_real hc'

theorem uG_at (m v : FVec Ideal S128x256 .f32) (i : S128x256.Idx) (m' v' : ℝ) (hm : m i = ((10 * m' : ℝ) : EReal)) (hv : v i = ((20 * v' : ℝ) : EReal)) (h0 : 0 ≤ v') :
    uG (F := Ideal) n m v i = ((10 * m' * (1 / (Real.sqrt (20 * v') + 1 / 100000000 * Real.sqrt (20 * corr (19 / 20) s.t))) : ℝ) : EReal) := by
  have hc := corr_pos (β := 19 / 20) (by norm_num) (by norm_num) ok.t
  have h21 : broadcastTo S128x256 (k0_pay21 (F := Ideal) n) broadcasts_S1x1_S128x256 i = ((1 / 100000000 * Real.sqrt (20 * corr (19 / 20) s.t) : ℝ) : EReal) := by
    unfold broadcastTo; exact pay21_at ok n hn _
  have hd : (Real.sqrt (20 * v') + 1 / 100000000 * Real.sqrt (20 * corr (19 / 20) s.t) : ℝ) ≠ 0 := by
    have := Real.sqrt_pos.mpr (show 0 < 20 * corr (19 / 20) s.t by positivity)
    positivity
  unfold uG
  rw [rmul, rdiv, radd, rexp2, rmul, lg_at, rbc, rbc, rofb, rofb, b1, bhalf, hm, hv, h21, half_lg (by positivity), ← EReal.coe_add, one_div_coe hd, ← EReal.coe_mul]
end

end Cert.KernelIdeal.Hand

end
-- ==== Proof.KI.Entry.lean ====
/- What a block of the kernel's arguments holds. -/
module

public import proofs.«01_k».proof.Proof.KI.Arrays
public import proofs.«01_k».proof.Proof.KI.Group
public import Idealize.ShloMosaic.Lib.Claim

@[expose] public section

set_option maxRecDepth 16384

noncomputable section

namespace Cert.KernelIdeal.Hand

open Idealize.ShloMosaic Idealize.ShloMosaic.ValueIdx Idealize.ShloMosaic.TcCoe Idealize.ShloMosaic.Tactic
open Idealize.SL Idealize.SL.RA Idealize.SL.Sem
open Cert.KernelIdeal.Gen Cert.Real1

variable (m : (ℓ : Loc nD τ sig) → Buf (Elt Ideal) ℓ) (c : Dev nD)

theorem index1 : ∀ t : Fin cfg0.N, (cfg0.win 1).index t = ![0, t.val - 1] := by decide +kernel
theorem index2 : ∀ t : Fin cfg0.N, (cfg0.win 2).index t = ![0, min t.val 127] := by decide +kernel
theorem index3 : ∀ t : Fin cfg0.N, (cfg0.win 3).index t = ![0, min t.val 127] := by decide +kernel
theorem index4 : ∀ t : Fin cfg0.N, (cfg0.win 4).index t = ![0, min t.val 127] := by decide +kernel

theorem v1_entry (a : Fin 256) (k : Fin 131072) : V m c main_v1 (ix2 a k) = m ((c : Thread nD τ).loc main_arg0) (ix3 0 a k) := by
  entry_read
  exact shapeCast_1ab_ab_apply _ _ a k
theorem v2_entry (a : Fin 256) (k : Fin 131072) : V m c main_v2 (ix2 a k) = m ((c : Thread nD τ).loc main_arg1) (ix3 0 a k) := by
  entry_read
  exact shapeCast_1ab_ab_apply _ _ a k
theorem v7_entry (a : Fin 256) (k : Fin 1024) : V m c main_v7 (ix2 a k) = m ((c : Thread nD τ).loc main_arg3) (ix3 0 a k) := by
  entry_read
  exact shapeCast_1ab_ab_apply _ _ a k
theorem v8_entry (a : Fin 256) (k : Fin 1024) : V m c main_v8 (ix2 a k) = m ((c : Thread nD τ).loc main_arg4) (ix3 0 a k) := by
  entry_read
  exact shapeCast_1ab_ab_apply _ _ a k
theorem v9_entry (a : Fin 256) (k : Fin 1024) : V m c main_v9 (ix2 a k) = m ((c : Thread nD τ).loc main_arg6) (ix3 0 a k) := by
  entry_read
  exact shapeCast_1ab_ab_apply _ _ a k
theorem v10_entry (a : Fin 256) (k : Fin 1024) : V m c main_v10 (ix2 a k) = m ((c : Thread nD τ).loc main_arg7) (ix3 0 a k) := by
  entry_read
  exact shapeCast_1ab_ab_apply _ _ a k
theorem v4_entry (a : Fin 256) (k : Fin 131072) : V m c main_v4 (ix2 a k) = FloatOps.ofBits (F := Ideal) .fp8e4m3 (m ((c : Thread nD τ).loc main_arg2) (ix3 0 a k)) := by
  entry_read
  exact shapeCast_1ab_ab_apply _ _ a k
theorem v6_entry (a : Fin 256) (k : Fin 131072) : V m c main_v6 (ix2 a k) = FloatOps.ofBits (F := Ideal) .fp8e5m2 (m ((c : Thread nD τ).loc main_arg5) (ix3 0 a k)) := by
  entry_read
  exact shapeCast_1ab_ab_apply _ _ a k
theorem v0_entry (y : S1.Idx) : V m c main_v0 y = m ((c : Thread nD τ).loc main_arg8) ix0 := by
  entry_read
  exact congrArg (m ((c : Thread nD τ).loc main_arg8)) (funext fun a => a.elim0)

theorem blk1 (t : Fin cfg0.N) (a : Fin 256) (y : Fin 1024) (k : Fin 131072) (hk : k.val = (t.val - 1) * 1024 + y.val) :
    iblk m c 1 t (ix2 a y) = V m c main_v1 (ix2 a k) := by
  have hi : win0_1.index t = _ := index1 t
  blk_simp [iblk, hi]
  refine congrArg (V m c main_v1) (funext fun ax => Fin.ext ?_)
  match ax with
  | ⟨0, _⟩ => blk_simp [hi]
  | ⟨1, _⟩ => blk_simp [hi, hk]
theorem blk2 (t : Fin cfg0.N) (a : Fin 256) (y : Fin 1024) (k : Fin 131072) (hk : k.val = min t.val 127 * 1024 + y.val) :
    iblk m c 2 t (ix2 a y) = V m c main_v2 (ix2 a k) := by
  have hi : win0_2.index t = _ := index2 t
  blk_simp [iblk, hi]
  refine congrArg (V m c main_v2) (funext fun ax => Fin.ext ?_)
  match ax with
  | ⟨0, _⟩ => blk_simp [hi]
  | ⟨1, _⟩ => blk_simp [hi, hk]
theorem blk3 (t : Fin cfg0.N) (a : Fin 256) (y : Fin 1024) (k : Fin 131072) (hk : k.val = min t.val 127 * 1024 + y.val) :
    iblk m c 3 t (ix2 a y) = V m c main_v4 (ix2 a k) := by
  have hi : win0_3.index t = _ := index3 t
  blk_simp [iblk, hi]
  refine congrArg (V m c main_v4) (funext fun ax => Fin.ext ?_)
  match ax with
  | ⟨0, _⟩ => blk_simp [hi]
  | ⟨1, _⟩ => blk_simp [hi, hk]
theorem blk4 (t : Fin cfg0.N) (a : Fin 256) (y : Fin 1024) (k : Fin 131072) (hk : k.val = min t.val 127 * 1024 + y.val) :
    iblk m c 4 t (ix2 a y) = V m c main_v6 (ix2 a k) := by
  have hi : win0_4.index t = _ := index4 t
  blk_simp [iblk, hi]
  refine congrArg (V m c main_v6) (funext fun ax => Fin.ext ?_)
  match ax with
  | ⟨0, _⟩ => blk_simp [hi]
  | ⟨1, _⟩ => blk_simp [hi, hk]
theorem index5 : ∀ t : Fin cfg0.N, (cfg0.win 5).index t = ![0, 0] := by decide +kernel
theorem blk5 (t : Fin cfg0.N) (a : Fin 256) (y : Fin 1024) : iblk m c 5 t (ix2 a y) = V m c main_v7 (ix2 a y) := by
  have hi : win0_5.index t = _ := index5 t
  blk_simp [iblk, hi]
  refine congrArg (V m c main_v7) (funext fun ax => Fin.ext ?_)
  match ax with
  | ⟨0, _⟩ => blk_simp [hi]
  | ⟨1, _⟩ => blk_simp [hi]
theorem index6 : ∀ t : Fin cfg0.N, (cfg0.win 6).index t = ![0, 0] := by decide +kernel
theorem blk6 (t : Fin cfg0.N) (a : Fin 256) (y : Fin 1024) : iblk m c 6 t (ix2 a y) = V m c main_v8 (ix2 a y) := by
  have hi : win0_6.index t = _ := index6 t
  blk_simp [iblk, hi]
  refine congrArg (V m c main_v8) (funext fun ax => Fin.ext ?_)
  match ax with
  | ⟨0, _⟩ => blk_simp [hi]
  | ⟨1, _⟩ => blk_simp [hi]
theorem index7 : ∀ t : Fin cfg0.N, (cfg0.win 7).index t = ![0, 0] := by decide +kernel
theorem blk7 (t : Fin cfg0.N) (a : Fin 256) (y : Fin 1024) : iblk m c 7 t (ix2 a y) = V m c main_v9 (ix2 a y) := by
  have hi : win0_7.index t = _ := index7 t
  blk_simp [iblk, hi]
  refine congrArg (V m c main_v9) (funext fun ax => Fin.ext ?_)
  match ax with
  | ⟨0, _⟩ => blk_simp [hi]
  | ⟨1, _⟩ => blk_simp [hi]
theorem index8 : ∀ t : Fin cfg0.N, (cfg0.win 8).index t = ![0, 0] := by decide +kernel
theorem blk8 (t : Fin cfg0.N) (a : Fin 256) (y : Fin 1024) : iblk m c 8 t (ix2 a y) = V m c main_v10 (ix2 a y) := by
  have hi : win0_8.index t = _ := index8 t
  blk_simp [iblk, hi]
  refine congrArg (V m c main_v10) (funext fun ax => Fin.ext ?_)
  match ax with
  | ⟨0, _⟩ => blk_simp [hi]
  | ⟨1, _⟩ => blk_simp [hi]
theorem word0 (t : Fin cfg0.N) : word (iblk m c 0 t) = m ((c : Thread nD τ).loc main_arg8) ix0 := by
  unfold word
  blk_simp [iblk]
  exact v0_entry m c _

end Cert.KernelIdeal.Hand

end
-- ==== Proof.KI.Stat.lean ====
/- The statistics of a group. -/
module

public import proofs.«01_k».proof.Proof.KI.Group
public import Idealize.ShloMosaic.PureOps.Ideal.Laws
public import Idealize.ShloMosaic.Lib.Pointwise.Reduce

@[expose] public section

set_option maxRecDepth 16384

noncomputable section

namespace Cert.KernelIdeal.Hand

open Idealize.ShloMosaic hiding ix1 ix2 ix3
open Idealize.ShloMosaic.ValueIdx
open Cert.KernelIdeal.Gen Cert.Real1

theorem red (x : FVec Ideal S128x256 .f32) (h : S128x256.Reduces [0] S256) (hφ : FKind.Formats .f32) (hacc : (0xFF800000#32 : BitVec 32) = FKind.maximumf.neutral .f32 hφ) (a : Fin 256) :
    multiReduction .maximumf [0] S256 x 0xFF800000#32 h hφ hacc (ix1 a) = (Finset.univ : Finset (Fin 128)).fold max (FloatOps.ofBits (F := Ideal) .f32 0xFF800000#32) fun e => x (ix2 e a) := by
  refine (multiReduction_maximumf_eq_fold x _ h hφ hacc _).trans ((Shape.Reduces.fold_fiber_r2_a0 h _ _ _ x).trans ?_)
  refine congrArg (Finset.fold max _ · _) (funext fun e => congrArg x (funext fun ax => ?_))
  match ax with
  | ⟨0, _⟩ => rfl
  | ⟨1, _⟩ => rfl

theorem maxOf_at (x : FVec Ideal S128x256 .f32) (a : Fin 256) :
    maxOf x (ix3 0 0 a) = (Finset.univ : Finset (Fin 128)).fold max (FloatOps.ofBits (F := Ideal) .f32 0xFF800000#32) fun e => x (ix2 e a) := by
  unfold maxOf
  rw [shapeCast_ab_1ab_apply, shapeCast_a_1a_apply]
  exact red _ _ _ _ _

/-- The greatest of a group `c` times as large, -/
theorem top_abs (x : FVec Ideal S128x256 .f32) (a : Fin 256) (f : Fin 128 → ℝ) (c : ℝ) (hc : 0 < c) (hx : ∀ e, x (ix2 e a) = ((c * |f e| : ℝ) : EReal)) :
    maxOf x (ix3 0 0 a) = ((c * top f : ℝ) : EReal) := by
  rw [maxOf_at]
  have ht := top_is f
  refine fold_max bbot (fun e => ?_) ?_
  · rw [hx, EReal.coe_le_coe_iff]; exact mul_le_mul_of_nonneg_left (ht.le e) hc.le
  · obtain ⟨e, he⟩ := ht.mem
    exact ⟨e, by rw [hx, he]⟩
/-- and the least of it that is not zero, with its sign changed. -/
theorem low_abs (x : FVec Ideal S128x256 .f32) (a : Fin 256) (f : Fin 128 → ℝ) (c : ℝ) (hc : 0 < c) (hx : ∀ e, x (ix2 e a) = ((c * |f e| : ℝ) : EReal)) (h0 : 0 < top f) :
    maxOf (flip x) (ix3 0 0 a) = ((0 - c * low f : ℝ) : EReal) := by
  rw [maxOf_at]
  have hl := low_is f h0
  have hf : ∀ e, flip x (ix2 e a) = if 0 < c * |f e| then ((0 - c * |f e| : ℝ) : EReal) else ⊥ := fun e => by
    unfold flip zeros
    rw [rsel, rcmp, rsub, rbc, rbc, rofb, rofb, b0', bbot, hx, sel_gt, ← EReal.coe_sub]
  refine fold_max bbot (fun e => ?_) ?_
  · rw [hf]
    split
    · rename_i h
      have hne : f e ≠ 0 := fun h' => by rw [h', abs_zero, mul_zero] at h; exact lt_irrefl _ h
      rw [EReal.coe_le_coe_iff]
      have := mul_le_mul_of_nonneg_left (hl.le e hne) hc.le
      linarith
    · exact bot_le
  · obtain ⟨e, he, hm⟩ := hl.mem
    exact ⟨e, by rw [hf, if_pos (mul_pos hc (abs_pos.mpr he)), hm]⟩

/-- A statistic of group `j`, as the next step reads it. -/
theorem st_at (P : Fin 8 → Fin 4 → Vec Ideal S1x1x256 .f32) (n : Fin 4) (h : S1x8x256.ShapeCasts S8x256) (j : Fin 8) (a : Fin 256) :
    shapeCast S8x256 (stOf (ofStats P) n) h (ix2 j a) = P j n (ix3 0 0 a) := by
  refine (shapeCast_1ab_ab_apply _ h j a).trans ?_
  have e : (rSt n).toLoadRect.idx (ix3 (0 : Fin 1) j a) = ix3 n j a := by
    funext ax
    match ax with
    | ⟨0, _⟩ => exact Fin.ext (by show n.val + 1 * 0 = n.val; omega)
    | ⟨1, _⟩ => exact Fin.ext (by show 0 + 1 * j.val = j.val; omega)
    | ⟨2, _⟩ => exact Fin.ext (by show 0 + 1 * a.val = a.val; omega)
  show ofStats P ((rSt n).toLoadRect.idx (ix3 (0 : Fin 1) j a)) = _
  rw [e]; rfl

section
variable {s : St} {b : Fin 128} {i : grid0.Coords} {x2 : Vec Ideal S256x1024 .bf16} {x3 : Vec Ideal S256x1024 .fp8e4m3} {x4 : Vec Ideal S256x1024 .fp8e5m2}
  {s5 s6 s7 s8 : Vec Ideal S1024x256 .f32} (ok : s.Ok) (B : Blk s b i x2 x3 x4 s5 s6 s7 s8)
include ok B

theorem absm_at (j : Fin 8) (e : Fin 128) (a : Fin 256) : absf (m1G i x2 x3 s5 s6 j) (ix2 e a) = ((10 * |s.m1 a (col (gr b j) e)| : ℝ) : EReal) := by
  rw [rabs, m1G_at ok B, absf_real, abs_mul, abs_of_pos (by norm_num : (0 : ℝ) < 10)]
theorem absv_at (j : Fin 8) (e : Fin 128) (a : Fin 256) : v1G i x2 x4 s7 s8 j (ix2 e a) = ((20 * |s.v1 a (col (gr b j) e)| : ℝ) : EReal) := by
  rw [v1G_at ok B, abs_of_nonneg (s.v1_nonneg ok a _)]

theorem st0 (j : Fin 8) (a : Fin 256) : k0_pay22 (stOf (newSt i x2 x3 x4 s5 s6 s7 s8) 0) (ix2 j a) = ((10 * s.mTop a (gr b j) : ℝ) : EReal) := by
  unfold k0_pay22 newSt
  rw [st_at]
  exact top_abs _ a (fun e => s.m1 a (col (gr b j) e)) 10 (by norm_num) (fun e => absm_at ok B j e a)
theorem st1 (j : Fin 8) (a : Fin 256) (h0 : 0 < s.mTop a (gr b j)) : k0_pay23 (stOf (newSt i x2 x3 x4 s5 s6 s7 s8) 1) (ix2 j a) = ((10 * s.mLow a (gr b j) : ℝ) : EReal) := by
  unfold k0_pay23 newSt
  rw [rsub, st_at, rbc, rofb, b0']
  have e := low_abs _ a (fun e => s.m1 a (col (gr b j) e)) 10 (by norm_num) (fun e => absm_at ok B j e a) h0
  refine (congrArg (fun z => ((0 : ℝ) : EReal) - z) e).trans ?_
  rw [← EReal.coe_sub]
  refine congrArg _ ?_
  unfold St.mLow
  ring
theorem st2 (j : Fin 8) (a : Fin 256) : k0_pay32 (stOf (newSt i x2 x3 x4 s5 s6 s7 s8) 2) (ix2 j a) = ((20 * s.vTop a (gr b j) : ℝ) : EReal) := by
  unfold k0_pay32 newSt
  rw [st_at]
  exact top_abs _ a (fun e => s.v1 a (col (gr b j) e)) 20 (by norm_num) (fun e => absv_at ok B j e a)
theorem st3 (j : Fin 8) (a : Fin 256) (h0 : 0 < s.vTop a (gr b j)) : k0_pay33 (stOf (newSt i x2 x3 x4 s5 s6 s7 s8) 3) (ix2 j a) = ((20 * s.vLow a (gr b j) : ℝ) : EReal) := by
  unfold k0_pay33 newSt
  rw [rsub, st_at, rbc, rofb, b0']
  have e := low_abs _ a (fun e => s.v1 a (col (gr b j) e)) 20 (by norm_num) (fun e => absv_at ok B j e a) h0
  refine (congrArg (fun z => ((0 : ℝ) : EReal) - z) e).trans ?_
  rw [← EReal.coe_sub]
  refine congrArg _ ?_
  unfold St.vLow
  ring
end

end Cert.KernelIdeal.Hand

end
-- ==== Proof.KI.Param.lean ====
/- The new scales, exponents and offsets. -/
module

public import proofs.«01_k».proof.Proof.KI.Group

@[expose] public section

set_option maxRecDepth 16384

noncomputable section

namespace Cert.KernelIdeal.Hand

open Idealize.ShloMosaic
open Idealize.ShloMosaic.ValueIdx
open Cert.KernelIdeal.Gen Cert.Real1

/-! The exponents, offsets and scales of eight groups, for either moment. -/

section
variable (A B Z O I R R8 LM K T : FVec Ideal S8x256 .f32) (i : S8x256.Idx) {a b c L M : ℝ}
  (hA : A i = ((c * a : ℝ) : EReal)) (hB : 0 < a → B i = ((c * b : ℝ) : EReal)) (hZ : Z i = ((0 : ℝ) : EReal)) (hO : O i = ((1 : ℝ) : EReal))
  (hI : I i = (((Real.log 2)⁻¹ : ℝ) : EReal)) (hc : 0 < c) (ha : 0 ≤ a) (hb : 0 < a → 0 < b)
include hA hZ hO hc ha

theorem sel_at (X Y : FVec Ideal S8x256 .f32) : select (cmpf .ogt A Z) X Y i = if 0 < a then X i else Y i := by
  rw [rsel, rcmp, hA, hZ, sel_gt]
  by_cases h : 0 < a
  · rw [if_pos h, if_pos (mul_pos hc h)]
  · rw [if_neg h, if_neg (by rw [le_antisymm (not_lt.mp h) ha, mul_zero]; exact lt_irrefl _)]

include hI in
theorem lgt_at : mulf (log (select (cmpf .ogt A Z) A O)) I i = ((Real.log (if 0 < a then c * a else 1) * (Real.log 2)⁻¹ : ℝ) : EReal) := by
  rw [rmul, rlog, sel_at A Z O i hA hZ hO hc ha, hI]
  by_cases h : 0 < a
  · rw [if_pos h, if_pos h, hA, log_pos (mul_pos hc h), ← EReal.coe_mul]
  · rw [if_neg h, if_neg h, hO, log_pos one_pos, ← EReal.coe_mul]

include hI hB hb in
theorem exp_at' (hR : R i = ((Real.log L * (Real.log 2)⁻¹ : ℝ) : EReal)) (hR8 : R8 i = ((Real.log L * (Real.log 2)⁻¹ * (1 / 8) : ℝ) : EReal)) (hL : 1 < L) :
    select (cmpf .ogt A Z) (divf R (maximumf (subf (mulf (log (select (cmpf .ogt A Z) A O)) I) (mulf (log (select (cmpf .ogt A Z) B O)) I)) R8)) O i
      = ((expo (Real.log L) a b : ℝ) : EReal) := by
  rw [sel_at A Z O i hA hZ hO hc ha]
  by_cases h : 0 < a
  · have hl := Real.log_pos hL
    have h2 := inv_ln2_pos
    rw [if_pos h, rdiv, rmax, rsub, lgt_at A Z O I i hA hZ hO hI hc ha, rmul, rlog, sel_at A Z O i hA hZ hO hc ha, if_pos h, if_pos h, hB h, hI,
      log_pos (mul_pos hc (hb h)), ← EReal.coe_mul, ← EReal.coe_sub, hR, hR8, ← coe_max, div_real, expo_eq h (hb h) hc]
    exact (lt_of_lt_of_le (by positivity) (le_max_right _ _)).ne'
  · rw [if_neg h, hO, expo, if_neg h]

include hI in
theorem off_at {k : ℝ} (hK : K i = ((k : ℝ) : EReal)) (hLM : LM i = ((Real.log M * (Real.log 2)⁻¹ : ℝ) : EReal)) :
    subf LM (mulf K (mulf (log (select (cmpf .ogt A Z) A O)) I)) i
      = ((Real.log M * (Real.log 2)⁻¹ - k * (Real.log (if 0 < a then c * a else 1) * (Real.log 2)⁻¹) : ℝ) : EReal) := by
  rw [rsub, rmul, lgt_at A Z O I i hA hZ hO hI hc ha, hK, hLM, ← EReal.coe_mul, ← EReal.coe_sub]

theorem scl_at (hT : T i = ((1 / c : ℝ) : EReal)) : select (cmpf .ogt A Z) (mulf (select (cmpf .ogt A Z) A O) T) O i = ((scale a : ℝ) : EReal) := by
  rw [sel_at A Z O i hA hZ hO hc ha]
  by_cases h : 0 < a
  · rw [if_pos h, rmul, sel_at A Z O i hA hZ hO hc ha, if_pos h, hA, hT, ← EReal.coe_mul, scale, if_pos h]
    refine congrArg _ ?_
    field_simp
  · rw [if_neg h, hO, scale, if_neg h]
end

section
variable {s : St} {b : Fin 128} (ok : s.Ok) (st : Vec Ideal S4x8x256 .f32) (j : Fin 8) (a : Fin 256)

theorem mTop_nonneg (g : Fin 1024) : 0 ≤ s.mTop a g := (top_is _).nonneg
theorem vTop_nonneg (g : Fin 1024) : 0 ≤ s.vTop a g := (top_is _).nonneg
theorem mLow_pos (g : Fin 1024) (h : 0 < s.mTop a g) : 0 < s.mLow a g := (low_is _ h).pos
theorem vLow_pos (g : Fin 1024) (h : 0 < s.vTop a g) : 0 < s.vLow a g := (low_is _ h).pos

variable (h0 : k0_pay22 (stOf st 0) (ix2 j a) = ((10 * s.mTop a (gr b j) : ℝ) : EReal))
  (h1 : 0 < s.mTop a (gr b j) → k0_pay23 (stOf st 1) (ix2 j a) = ((10 * s.mLow a (gr b j) : ℝ) : EReal))
  (h2 : k0_pay32 (stOf st 2) (ix2 j a) = ((20 * s.vTop a (gr b j) : ℝ) : EReal))
  (h3 : 0 < s.vTop a (gr b j) → k0_pay33 (stOf st 3) (ix2 j a) = ((20 * s.vLow a (gr b j) : ℝ) : EReal))

include h0 in
theorem mScale_at : mScale st (ix2 j a) = s.resMs a (gr b j) := by
  unfold mScale
  generalize k0_pay22 (stOf st 0) = A at h0 ⊢
  unfold k0_pay30 k0_pay26 k0_pay25 k0_pay24
  rw [shapeCast_self]
  exact scl_at A _ _ _ _ h0 (by rw [rbc, rofb, b0']) (by rw [rbc, rofb, b1]) (by norm_num) (mTop_nonneg _ _) (by rw [rbc, n_tenth])
include h0 h1 in
theorem mK_at : mK st (ix2 j a) = s.resMk a (gr b j) := by
  unfold mK
  generalize k0_pay22 (stOf st 0) = A at h0 ⊢
  generalize k0_pay23 (stOf st 1) = B at h1 ⊢
  unfold k0_pay28 k0_pay27 k0_pay26 k0_pay25 k0_pay24
  exact exp_at' A B _ _ _ _ _ _ h0 h1 (by rw [rbc, rofb, b0']) (by rw [rbc, rofb, b1]) (by rw [rbc, n_inv_ln2]) (by norm_num) (mTop_nonneg _ _) (mLow_pos _ _)
    (by rw [rbc, n_m_range]) (by rw [rbc, n_m_range_8]) (by norm_num)
include h0 h1 in
theorem mOff_at : mOff st (ix2 j a) = ((Real.log 448 * (Real.log 2)⁻¹ - s.mExp a (gr b j) * (Real.log (if 0 < s.mTop a (gr b j) then 10 * s.mTop a (gr b j) else 1) * (Real.log 2)⁻¹) : ℝ) : EReal) := by
  have hk := mK_at st j a h0 h1
  unfold mK at hk
  unfold mOff
  generalize k0_pay22 (stOf st 0) = A at h0 hk ⊢
  generalize k0_pay23 (stOf st 1) = B at h1 hk ⊢
  unfold k0_pay29
  generalize k0_pay28 A B k0_pay24 = K at hk ⊢
  unfold k0_pay27 k0_pay26 k0_pay25 k0_pay24
  exact off_at A _ _ _ _ _ _ h0 (by rw [rbc, rofb, b0']) (by rw [rbc, rofb, b1]) (by rw [rbc, n_inv_ln2]) (by norm_num) (mTop_nonneg _ _) hk (by rw [rbc, n_log2_m_max])
include h0 h1 in
theorem mKc_at : mKc st (ix2 j a) = s.resMk a (gr b j) := by
  have hk := mK_at st j a h0 h1
  unfold mK at hk
  unfold mKc k0_pay31
  rw [shapeCast_self]
  exact hk

include h2 in
theorem vScale_at : vScale st (ix2 j a) = s.resVs a (gr b j) := by
  unfold vScale
  generalize k0_pay32 (stOf st 2) = A at h2 ⊢
  unfold k0_pay39 k0_pay35 k0_pay34
  rw [shapeCast_self]
  exact scl_at A _ _ _ _ h2 (by rw [rbc, rofb, b0']) (by rw [rbc, rofb, b1]) (by norm_num) (vTop_nonneg _ _) (by rw [rbc, n_twentieth])
include h2 h3 in
theorem vK_at : vK st (ix2 j a) = s.resVk a (gr b j) := by
  unfold vK
  generalize k0_pay32 (stOf st 2) = A at h2 ⊢
  generalize k0_pay33 (stOf st 3) = B at h3 ⊢
  unfold k0_pay37 k0_pay36 k0_pay35 k0_pay34
  exact exp_at' A B _ _ _ _ _ _ h2 h3 (by rw [rbc, rofb, b0']) (by rw [rbc, rofb, b1]) (by rw [rbc, n_inv_ln2]) (by norm_num) (vTop_nonneg _ _) (vLow_pos _ _)
    (by rw [rbc, n_v_range]) (by rw [rbc, n_v_range_8]) (by norm_num)
include h2 h3 in
theorem vOff_at : vOff st (ix2 j a) = ((Real.log 57344 * (Real.log 2)⁻¹ - s.vExp a (gr b j) * (Real.log (if 0 < s.vTop a (gr b j) then 20 * s.vTop a (gr b j) else 1) * (Real.log 2)⁻¹) : ℝ) : EReal) := by
  have hk := vK_at st j a h2 h3
  unfold vK at hk
  unfold vOff
  generalize k0_pay32 (stOf st 2) = A at h2 hk ⊢
  generalize k0_pay33 (stOf st 3) = B at h3 hk ⊢
  unfold k0_pay38
  generalize k0_pay37 A B = K at hk ⊢
  unfold k0_pay36 k0_pay35 k0_pay34
  exact off_at A _ _ _ _ _ _ h2 (by rw [rbc, rofb, b0']) (by rw [rbc, rofb, b1]) (by rw [rbc, n_inv_ln2]) (by norm_num) (vTop_nonneg _ _) hk (by rw [rbc, n_log2_v_max])
include h2 h3 in
theorem vKc_at : vKc st (ix2 j a) = s.resVk a (gr b j) := by
  have hk := vK_at st j a h2 h3
  unfold vK at hk
  unfold vKc k0_pay40
  rw [shapeCast_self]
  exact hk
end

end Cert.KernelIdeal.Hand

end
-- ==== Proof.KI.Outs.lean ====
/- The results of a chunk. -/
module

public import proofs.«01_k».proof.Proof.KI.Stat
public import proofs.«01_k».proof.Proof.KI.Param

@[expose] public section

set_option maxRecDepth 16384

noncomputable section

namespace Cert.KernelIdeal.Hand

open Idealize.ShloMosaic hiding ix1 ix2 ix3
open Idealize.ShloMosaic.ValueIdx
open Cert.KernelIdeal.Gen Cert.Real1

/-- Row `e` of group `j` of a transposed buffer. -/
def inr (j : Fin 8) (e : Fin 128) : Fin 1024 := ⟨128 * j.val + e.val, by have := j.isLt; have := e.isLt; omega⟩

theorem rows_at (P : Fin 8 → Vec Ideal S128x256 .f32) (j : Fin 8) (e : Fin 128) (a : Fin 256) : rowsOf (ofRows P) j (ix2 e a) = P j (ix2 e a) := by
  have he := e.isLt
  have h1 : (⟨((rRow j).toLoadRect.idx (ix2 e a) 0).val / 128, Nat.div_lt_of_lt_mul ((rRow j).toLoadRect.idx (ix2 e a) 0).isLt⟩ : Fin 8) = j :=
    Fin.ext (by show (128 * j.val + 1 * e.val) / 128 = _; omega)
  have h2 : (ix2 ⟨((rRow j).toLoadRect.idx (ix2 e a) 0).val % 128, Nat.mod_lt _ (by decide)⟩ ((rRow j).toLoadRect.idx (ix2 e a) 1) : S128x256.Idx) = ix2 e a := by
    funext ax
    match ax with
    | ⟨0, _⟩ => exact Fin.ext (by show (128 * j.val + 1 * e.val) % 128 = e.val; omega)
    | ⟨1, _⟩ => exact Fin.ext (by show 0 + 1 * a.val = a.val; omega)
  exact congrArg₂ (fun j y => P j y) h1 h2
theorem cols_at {e' : EltTy} (P : Fin 8 → Vec Ideal S256x128 e') (j : Fin 8) (e : Fin 128) (a : Fin 256) : ofCols P (ix2 a (inc j e)) = P j (ix2 a e) := by
  have he := e.isLt
  have h1 : (⟨(inc j e).val / 128, Nat.div_lt_of_lt_mul (inc j e).isLt⟩ : Fin 8) = j := Fin.ext (by show (128 * j.val + e.val) / 128 = _; omega)
  have h2 : (ix2 a ⟨(inc j e).val % 128, Nat.mod_lt _ (by decide)⟩ : S256x128.Idx) = ix2 a e := by
    funext ax
    match ax with
    | ⟨0, _⟩ => rfl
    | ⟨1, _⟩ => exact Fin.ext (by show (128 * j.val + e.val) % 128 = e.val; omega)
  exact congrArg₂ (fun j y => P j y) h1 h2
theorem col_at (x : Vec Ideal S256x1024 .f32) (j : Fin 8) (e : Fin 128) (a : Fin 256) : colsOf x j (ix2 a e) = x (ix2 a (inc j e)) := by
  refine congrArg x (funext fun ax => ?_)
  match ax with
  | ⟨0, _⟩ => exact Fin.ext (by show 0 + 1 * a.val = a.val; omega)
  | ⟨1, _⟩ => exact Fin.ext (by show 128 * j.val + 1 * e.val = 128 * j.val + e.val; omega)
theorem rowOf_at (k : FVec Ideal S8x256 .f32) (j : Fin 8) (e : Fin 128) (a : Fin 256) :
    broadcastTo S128x256 (rowOf k j) broadcasts_S1x256_S128x256 (ix2 e a) = k (ix2 j a) := by
  rw [broadcastTo_1b_ab_apply]
  unfold rowOf
  exact slice2_axis0_apply _ k _ _ a j (by show j.val = j.val + 0; omega)
theorem keep_eq (x : FVec Ideal S128x256 .f32) : keep x = x := by unfold keep; exact shapeCast_self _ _

section
variable {s : St} {b : Fin 128} {i : grid0.Coords} {x2 : Vec Ideal S256x1024 .bf16} {x3 : Vec Ideal S256x1024 .fp8e4m3} {x4 : Vec Ideal S256x1024 .fp8e5m2}
  {s5 s6 s7 s8 : Vec Ideal S1024x256 .f32} (ok : s.Ok) (B : Blk s b i x2 x3 x4 s5 s6 s7 s8)
include ok B

theorem u_at (n : BitVec 32) (hn : (n.toInt : ℝ) = s.t) (x1 : Vec Ideal S256x1024 .f32) (j : Fin 8) (e : Fin 128) (a : Fin 256) :
    outU (F := Ideal) n x1 (newU (F := Ideal) i n x2 x3 x4 s5 s6 s7 s8) (ix2 a (inc j e)) = s.resU (x1 (ix2 a (inc j e))) a (col (gr b j) e) := by
  have hv := s.v1_nonneg ok a (col (gr b j) e)
  have h1 := corr_pos (β := 9 / 10) (by norm_num) (by norm_num) ok.t
  have h2 := corr_pos (β := 19 / 20) (by norm_num) (by norm_num) ok.t
  have hr : rowsOf (newU (F := Ideal) i n x2 x3 x4 s5 s6 s7 s8) j (ix2 e a) = _ := Eq.trans (by unfold newU; rw [rows_at, keep_eq])
    (uG_at ok n hn _ _ _ _ _ (m1G_at ok B j e a) (v1G_at ok B j e a) hv)
  unfold outU
  rw [cols_at]
  unfold uOutG
  generalize rowsOf (newU (F := Ideal) i n x2 x3 x4 s5 s6 s7 s8) j = X at hr ⊢
  have h20 : broadcastTo S256x128 (k0_pay20 (F := Ideal) n) broadcasts_S1x1_S256x128 (ix2 a e) = _ := Eq.trans (by unfold broadcastTo; rfl) (pay20_at ok n hn _)
  rw [radd, rmul, rmul, transpose_ix2_apply, hr, h20, rbc, n_tenth, shapeCast_self, col_at, ← EReal.coe_mul, upd_eq hv h1 h2 (by norm_num)]
  rfl

theorem m_at (j : Fin 8) (e : Fin 128) (a : Fin 256) :
    outM (newM i x2 x3 s5 s6) (newLm i x2 x3 s5 s6) (newSt i x2 x3 x4 s5 s6 s7 s8) (ix2 a (inc j e)) = s.resM a (col (gr b j) e) := by
  have hm := m1G_at ok B j e a
  have hr : rowsOf (newM i x2 x3 s5 s6) j (ix2 e a) = _ := Eq.trans (by unfold newM; rw [rows_at, keep_eq]) hm
  have hl : rowsOf (newLm i x2 x3 s5 s6) j (ix2 e a) = _ := Eq.trans (by unfold newLm; rw [rows_at, keep_eq, lg_at, rabs, hm]) (congrArg Real1.lg (absf_real _))
  have h0 := st0 ok B j a
  have h1 := st1 ok B j a
  have hk := mK_at _ j a h0 h1
  have ho := mOff_at _ j a h0 h1
  unfold outM
  rw [cols_at]
  unfold mOutG
  generalize rowsOf (newM i x2 x3 s5 s6) j = X at hr ⊢
  generalize rowsOf (newLm i x2 x3 s5 s6) j = Y at hl ⊢
  generalize newSt i x2 x3 x4 s5 s6 s7 s8 = T at hk ho ⊢
  have ht : |s.m1 a (col (gr b j) e)| ≤ s.mTop a (gr b j) := (top_is fun e => s.m1 a (col (gr b j) e)).le e
  have ha : minimumf (amp Y (rowOf (mK T) j) (rowOf (mOff T) j)) (broadcast S128x256 (Scalar.ofBits .f32 0x43E00000#32)) (ix2 e a) = _ :=
    Eq.trans (by rw [rmin, amp_at, hl, rowOf_at, rowOf_at, hk, ho, rbc, rofb, b448]; rfl)
      (amp_code (M := 448) (c := 10) (by norm_num) (by norm_num) ht (expo_pos (Real.log_pos (by norm_num))))
  rw [rtr, transpose_ix2_apply, signed_at _ _ _ _ _ hr ha, signed_code (by norm_num) (fun h => by rw [if_pos h, max_self]; exact min_eq_left (by norm_num))]
  unfold St.resM code
  rw [grp_col]
  rfl

theorem v_at (j : Fin 8) (e : Fin 128) (a : Fin 256) :
    outV (newLv i x2 x4 s7 s8) (newSt i x2 x3 x4 s5 s6 s7 s8) (ix2 a (inc j e)) = s.resV a (col (gr b j) e) := by
  have hv := s.v1_nonneg ok a (col (gr b j) e)
  have hm := v1G_at ok B j e a
  have hl : rowsOf (newLv i x2 x4 s7 s8) j (ix2 e a) = _ := Eq.trans (by unfold newLv; rw [rows_at, keep_eq, lg_at, hm])
    (congrArg (fun r : ℝ => Real1.lg (r : EReal)) (abs_of_nonneg (mul_nonneg (by norm_num : (0 : ℝ) ≤ 20) hv)).symm)
  have h0 := st2 ok B j a
  have h1 := st3 ok B j a
  have hk := vK_at _ j a h0 h1
  have ho := vOff_at _ j a h0 h1
  unfold outV
  rw [cols_at]
  unfold vOutG
  generalize rowsOf (newLv i x2 x4 s7 s8) j = Y at hl ⊢
  generalize newSt i x2 x3 x4 s5 s6 s7 s8 = T at hk ho ⊢
  have ht : |s.v1 a (col (gr b j) e)| ≤ s.vTop a (gr b j) := (top_is fun e => s.v1 a (col (gr b j) e)).le e
  have ha : minimumf (amp Y (rowOf (vK T) j) (rowOf (vOff T) j)) (broadcast S128x256 (Scalar.ofBits .f32 0x47600000#32)) (ix2 e a) = _ :=
    Eq.trans (by rw [rmin, amp_at, hl, rowOf_at, rowOf_at, hk, ho, rbc, rofb, b57344]; rfl)
      (amp_code (M := 57344) (c := 20) (by norm_num) (by norm_num) ht (expo_pos (Real.log_pos (by norm_num))))
  rw [rtr, transpose_ix2_apply, ha, code_of_nonneg (by norm_num) hv]
  unfold St.resV
  rw [grp_col]
  rfl
end

end Cert.KernelIdeal.Hand

end
-- ==== Proof.Pre.lean ====
/- What the precondition says of the arguments, element by element, and the state they are. -/
module

public import proofs.«01_k».proof.Pre_valid_state
public import proofs.«01_k».proof.Proof.Scal
public import proofs.«01_k».proof.Proof.State
public import Idealize.ShloMosaic.Lib.ReduceAll
public import Idealize.ShloMosaic.Lib.WordCmp
public import Idealize.ShloMosaic.Lib.ValueIdxCore

@[expose] public section

noncomputable section

namespace Cert.Pre_valid_state

open Idealize.ShloMosaic Idealize.ShloMosaic.ValueIdx Cert.Real1

theorem valid_facts : Facts where
  bcast_S_S1x256x131072 := by decide
  reducesTo_S1x256x131072_S_d0_1_2 := by decide
  h_S_ := by decide
  bcast_S_S1x256x1024 := by decide
  reducesTo_S1x256x1024_S_d0_1_2 := by decide

instance : Subsingleton S_.Idx := ⟨fun x y => funext fun a => a.elim0⟩

/-! ## One element -/

theorem of_bit {p : Prop} [Decidable p] (h : BitVec.ofBool (decide p) = 1#1) : p := by
  by_cases hp : p
  · exact hp
  · rw [decide_eq_false hp] at h; exact absurd h (by decide)

/-- A magnitude below infinity is that of a real. -/
theorem real_of_lt {φ : FTy} (x b : EReal) (hb : b = ⊤) (h : FloatOps.cmpf (F := Ideal) (φ := φ) .olt (FloatOps.absf (F := Ideal) (φ := φ) x) b = 1#1) :
    x = ((x.toReal : ℝ) : EReal) := by
  have h' : max x (-x) < b := of_bit h
  rw [hb] at h'
  refine (EReal.coe_toReal ?_ ?_).symm
  · rintro rfl; exact absurd (lt_of_le_of_lt (le_max_left _ _) h') (lt_irrefl _)
  · rintro rfl; exact absurd (lt_of_le_of_lt (le_max_right _ _) h') (by rw [EReal.neg_bot]; exact lt_irrefl _)
theorem nonneg_of {φ : FTy} (x b : EReal) (hb : b = ((0 : ℝ) : EReal)) (hx : x = ((x.toReal : ℝ) : EReal))
    (h : FloatOps.cmpf (F := Ideal) (φ := φ) .oge x b = 1#1) : 0 ≤ x.toReal := by
  have h' : b ≤ x := of_bit h
  rw [hb, hx, EReal.coe_le_coe_iff] at h'
  exact h'
theorem pos_of {φ : FTy} (x b : EReal) (hb : b = ((0 : ℝ) : EReal)) (hx : x = ((x.toReal : ℝ) : EReal))
    (h : FloatOps.cmpf (F := Ideal) (φ := φ) .ogt x b = 1#1) : 0 < x.toReal := by
  have h' : b < x := of_bit h
  rw [hb, hx, EReal.coe_lt_coe_iff] at h'
  exact h'

theorem top16 : FloatOps.ofBits (F := Ideal) .bf16 0x7F80#16 = (⊤ : EReal) := by
  rw [Ideal.ofBits_def]; simp [Ideal.ofBits, Ideal.ieee, -EReal.coe_mul, -EReal.coe_neg]

/-- A code of the first moment that is no NaN is a real, -/
theorem code_real (x : BitVec 8) (h1 : x ≠ 127#8) (h2 : x ≠ 255#8) :
    FloatOps.ofBits (F := Ideal) .fp8e4m3 x = (((FloatOps.ofBits (F := Ideal) .fp8e4m3 x : EReal).toReal : ℝ) : EReal) := by
  have key : ∀ x : BitVec 8, x ≠ 127#8 → x ≠ 255#8 → ¬((x.extractLsb' 3 4).toNat = 15 ∧ (x.extractLsb' 0 3).toNat = 7) := by decide
  have : ∃ r : ℝ, (FloatOps.ofBits (F := Ideal) .fp8e4m3 x : EReal) = (r : EReal) := by
    rw [Ideal.ofBits_def]
    show ∃ r : ℝ, Ideal.e4m3fn x = (r : EReal)
    unfold Ideal.e4m3fn
    simp only [if_neg (key x h1 h2)]
    split <;> exact ⟨_, rfl⟩
  obtain ⟨r, hr⟩ := this
  rw [hr, EReal.toReal_coe]
/-- and one of the second moment that is no greater than the greatest is a real that is not negative. -/
theorem vcode_real (x : BitVec 8) (h : x.toNat ≤ 123) :
    FloatOps.ofBits (F := Ideal) .fp8e5m2 x = (((FloatOps.ofBits (F := Ideal) .fp8e5m2 x : EReal).toReal : ℝ) : EReal)
      ∧ 0 ≤ (FloatOps.ofBits (F := Ideal) .fp8e5m2 x : EReal).toReal := by
  have key : ∀ x : BitVec 8, x.toNat ≤ 123 → (x.extractLsb' 2 5).toNat ≠ 2 ^ 5 - 1 ∧ (x.extractLsb' (5 + 2) 1 == 1#1) = false := by decide
  have : ∃ r : ℝ, (FloatOps.ofBits (F := Ideal) .fp8e5m2 x : EReal) = (r : EReal) ∧ 0 ≤ r := by
    rw [Ideal.ofBits_def]
    show ∃ r : ℝ, Ideal.ieee 5 2 x = (r : EReal) ∧ 0 ≤ r
    unfold Ideal.ieee
    simp only [if_neg (key x h).1, (key x h).2]
    split
    · exact ⟨_, rfl, by simp only [Bool.false_eq_true, if_false]; positivity⟩
    · exact ⟨_, rfl, by simp only [Bool.false_eq_true, if_false]; positivity⟩
  obtain ⟨r, hr, h0⟩ := this
  rw [hr, EReal.toReal_coe]
  exact ⟨rfl, h0⟩

/-! ## The arguments -/

/-- The state the arguments are. -/
def stateOf (g : FVec Ideal S1x256x131072 .bf16) (mc : IVec S1x256x131072 8) (ms mk : FVec Ideal S1x256x1024 .f32) (vc : IVec S1x256x131072 8)
    (vs vk : FVec Ideal S1x256x1024 .f32) (n : IVec S_ 32) : St :=
  .make (fun a c => (FloatOps.ofBits (F := Ideal) .fp8e4m3 (mc (ix3 0 a c)) : EReal).toReal) (fun a c => (FloatOps.ofBits (F := Ideal) .fp8e5m2 (vc (ix3 0 a c)) : EReal).toReal)
    (fun a c => (g (ix3 0 a c) : EReal).toReal) (fun a j => (ms (ix3 0 a j) : EReal).toReal) (fun a j => (mk (ix3 0 a j) : EReal).toReal)
    (fun a j => (vs (ix3 0 a j) : EReal).toReal) (fun a j => (vk (ix3 0 a j) : EReal).toReal) ((n ix0).toInt : ℝ)

variable [Facts]

theorem and_vec (x y : IVec S_ 1) (j : S_.Idx) : andi x y j = 1#1 ↔ x j = 1#1 ∧ y j = 1#1 := IntOp.andi_eq_one

/-- What the precondition gives. -/
structure Says (s : St) (g : FVec Ideal S1x256x131072 .bf16) (mc : IVec S1x256x131072 8) (ms mk : FVec Ideal S1x256x1024 .f32) (vc : IVec S1x256x131072 8)
    (vs vk : FVec Ideal S1x256x1024 .f32) (n : IVec S_ 32) : Prop where
  make ::
  ok : s.Ok
  g : ∀ a c, g (ix3 0 a c) = ((s.g a c : ℝ) : EReal)
  mc : ∀ a c, FloatOps.ofBits (F := Ideal) .fp8e4m3 (mc (ix3 0 a c)) = ((s.q a c : ℝ) : EReal)
  vc : ∀ a c, FloatOps.ofBits (F := Ideal) .fp8e5m2 (vc (ix3 0 a c)) = ((s.qv a c : ℝ) : EReal)
  ms : ∀ a j, ms (ix3 0 a j) = ((s.ms a j : ℝ) : EReal)
  mk : ∀ a j, mk (ix3 0 a j) = ((s.mk a j : ℝ) : EReal)
  vs : ∀ a j, vs (ix3 0 a j) = ((s.vs a j : ℝ) : EReal)
  vk : ∀ a j, vk (ix3 0 a j) = ((s.vk a j : ℝ) : EReal)
  n : ((n ix0).toInt : ℝ) = s.t

theorem says_of (w g mc ms mk vc vs vk n) (h : fn (F := Ideal) w g mc ms mk vc vs vk n = fun _ => 1#1) :
    Says (stateOf g mc ms mk vc vs vk n) g mc ms mk vc vs vk n := by
  have h0 := congrFun h ix0
  unfold fn fn_part1 fn_part2 at h0
  simp only [and_vec] at h0
  obtain ⟨⟨⟨⟨⟨⟨⟨hg, hmc⟩, hvc⟩, hms⟩, hmk⟩, hvs⟩, hvk⟩, hn⟩ := h0
  have Hg := fun i => real_of_lt (φ := .bf16) (g i) _ top16 (Host.reduce_andi_all _ _ _ _ _ hg i)
  have Hmc := fun i => IntOp.andi_eq_one.1 (Host.reduce_andi_all _ _ _ _ _ hmc i)
  have Hvc := fun i => vcode_real (vc i) (IntOp.cmpi_ule.1 (Host.reduce_andi_all _ _ _ _ _ hvc i))
  have Hms := fun i => IntOp.andi_eq_one.1 (Host.reduce_andi_all _ _ _ _ _ hms i)
  have Hmk := fun i => IntOp.andi_eq_one.1 (Host.reduce_andi_all _ _ _ _ _ hmk i)
  have Hvs := fun i => IntOp.andi_eq_one.1 (Host.reduce_andi_all _ _ _ _ _ hvs i)
  have Hvk := fun i => IntOp.andi_eq_one.1 (Host.reduce_andi_all _ _ _ _ _ hvk i)
  have Rms := fun i => real_of_lt (φ := .f32) (ms i) _ btop (Hms i).1
  have Rmk := fun i => real_of_lt (φ := .f32) (mk i) _ btop (Hmk i).1
  have Rvs := fun i => real_of_lt (φ := .f32) (vs i) _ btop (Hvs i).1
  have Rvk := fun i => real_of_lt (φ := .f32) (vk i) _ btop (Hvk i).1
  refine .make (.make (fun a c => (Hvc _).2) (fun a j => nonneg_of (φ := .f32) _ _ b0' (Rms _) (Hms _).2) (fun a j => pos_of (φ := .f32) _ _ b0' (Rmk _) (Hmk _).2)
    (fun a j => nonneg_of (φ := .f32) _ _ b0' (Rvs _) (Hvs _).2) (fun a j => pos_of (φ := .f32) _ _ b0' (Rvk _) (Hvk _).2) ?_)
    (fun a c => Hg _) (fun a c => code_real _ (IntOp.cmpi_ne.1 (Hmc _).1) (IntOp.cmpi_ne.1 (Hmc _).2)) (fun a c => (Hvc _).1)
    (fun a j => Rms _) (fun a j => Rmk _) (fun a j => Rvs _) (fun a j => Rvk _) rfl
  have hn' : 1 ≤ (n ix0).toInt := IntOp.cmpi_sge.1 hn
  show (1 : ℝ) ≤ ((n ix0).toInt : ℝ)
  exact_mod_cast hn'

end Cert.Pre_valid_state

end
-- ==== Proof.KI.Vals.lean ====
/- The kernel's results, element by element. -/
module

public import proofs.«01_k».proof.Proof.KI.Entry
public import proofs.«01_k».proof.Proof.KI.Outs
public import proofs.«01_k».proof.Proof.Pre

@[expose] public section

set_option maxRecDepth 16384

noncomputable section

namespace Cert.KernelIdeal.Hand

open Idealize.ShloMosaic hiding ix0 ix1 ix2 ix3
open Idealize.ShloMosaic.ValueIdx Idealize.ShloMosaic.TcCoe
open Cert.KernelIdeal.Gen Cert.Real1

/-! ## The parameters laid out by column -/

section
variable (x y : Vec Ideal S256x1024 .f32) (a : Fin 256) (g : Fin 1024) (r u : ℝ)

theorem whole_eq : whole x = x := by
  funext i
  refine congrArg x (funext fun ax => Fin.ext ?_)
  show ![0, 0] ax + 1 * (i ax).val = (i ax).val
  match ax with
  | ⟨0, _⟩ => show 0 + 1 * (i 0).val = (i 0).val; omega
  | ⟨1, _⟩ => show 0 + 1 * (i 1).val = (i 1).val; omega

theorem inv_at (hr : r ≠ 0) (h : x (ix2 a g) = ((r : ℝ) : EReal)) : k0_pay11 x (ix2 g a) = ((1 / r : ℝ) : EReal) := by
  unfold k0_pay11
  rw [rdiv, rbc, rofb, b1, transpose_ix2_apply, shapeCast_self, h, one_div_coe hr]
theorem inv_at' (hr : r ≠ 0) (h : x (ix2 a g) = ((r : ℝ) : EReal)) : k0_pay15 x (ix2 g a) = ((1 / r : ℝ) : EReal) := by
  unfold k0_pay15
  rw [rdiv, rbc, rofb, b1, transpose_ix2_apply, shapeCast_self, h, one_div_coe hr]

theorem ik_at (hr : r ≠ 0) (h : x (ix2 a g) = ((r : ℝ) : EReal)) : initIk x (ix2 g a) = ((1 / r : ℝ) : EReal) := by
  unfold initIk k0_pay12
  rw [whole_eq, shapeCast_self, inv_at x a g r hr h]
theorem vik_at (hr : r ≠ 0) (h : x (ix2 a g) = ((r : ℝ) : EReal)) : initVIk x (ix2 g a) = ((1 / r : ℝ) : EReal) := by
  unfold initVIk k0_pay16
  rw [whole_eq, shapeCast_self, inv_at' x a g r hr h]
theorem of_at (hr : r ≠ 0) (h : x (ix2 a g) = ((r : ℝ) : EReal)) (hy : y (ix2 a g) = ((u : ℝ) : EReal)) :
    initOf y x (ix2 g a) = Real1.lg ((u * 9 : ℝ) : EReal) - ((Real.log 448 * (Real.log 2)⁻¹ : ℝ) : EReal) * ((1 / r : ℝ) : EReal) := by
  unfold initOf
  rw [whole_eq, whole_eq]
  have h1 := inv_at x a g r hr h
  generalize k0_pay11 x = X at h1 ⊢
  unfold k0_pay14 k0_pay13
  rw [shapeCast_self, rsub, rmul, rlog, rmul, rmul, transpose_ix2_apply, shapeCast_self, hy, h1, rbc, rbc, rbc, rofb, b9, n_inv_ln2, n_log2_m_max, ← EReal.coe_mul]
  rfl
theorem vof_at (hr : r ≠ 0) (h : x (ix2 a g) = ((r : ℝ) : EReal)) (hy : y (ix2 a g) = ((u : ℝ) : EReal)) :
    initVOf y x (ix2 g a) = Real1.lg ((u * 19 : ℝ) : EReal) - ((Real.log 57344 * (Real.log 2)⁻¹ : ℝ) : EReal) * ((1 / r : ℝ) : EReal) := by
  unfold initVOf
  rw [whole_eq, whole_eq]
  have h1 := inv_at' x a g r hr h
  unfold k0_pay17
  generalize k0_pay15 x = X at h1 ⊢
  rw [shapeCast_self, rsub, rmul, rlog, rmul, rmul, transpose_ix2_apply, shapeCast_self, hy, h1, rbc, rbc, rbc, rofb, b19, n_inv_ln2, n_log2_v_max, ← EReal.coe_mul]
  rfl
end

theorem flat_at (w : ℕ → FVec Ideal S8x256 .f32) (b : Fin 128) (j : Fin 8) (a : Fin 256) : flat (Par w) (ix2 a (gr b j)) = w b.val (ix2 j a) := by
  have hj := j.isLt
  unfold flat k0_pay2
  rw [transpose_ix2_apply]
  have h1 : (gr b j).val / 8 = b.val := by show (8 * b.val + j.val) / 8 = b.val; omega
  have h2 : (ix2 ⟨(gr b j).val % 8, Nat.mod_lt _ (by decide)⟩ a : S8x256.Idx) = ix2 j a := by
    funext ax
    match ax with
    | ⟨0, _⟩ => exact Fin.ext (by show (8 * b.val + j.val) % 8 = j.val; omega)
    | ⟨1, _⟩ => rfl
  exact congrArg₂ (fun n y => w n y) h1 h2

/-- Every group is one of a chunk's. -/
theorem gr_div (g : Fin 1024) : ∃ b j, g = gr b j :=
  ⟨⟨g.val / 8, by have := g.isLt; omega⟩, ⟨g.val % 8, Nat.mod_lt _ (by decide)⟩, Fin.ext (by show g.val = 8 * (g.val / 8) + g.val % 8; omega)⟩
/-- Every column is one of a chunk's groups'. -/
theorem col_div (k : Fin 131072) : ∃ b j e, k = col (gr b j) e := by
  obtain ⟨b, j, h⟩ := gr_div (grp k)
  exact ⟨b, j, _, by rw [← h]; exact (col_grp k).symm⟩
theorem blkOf_col (b : Fin 128) (j : Fin 8) (e : Fin 128) : blkOf (col (gr b j) e) = b.val := by
  have := j.isLt; have := e.isLt
  show (128 * (8 * b.val + j.val) + e.val) / 1024 = b.val; omega
theorem inBlk_col (b : Fin 128) (j : Fin 8) (e : Fin 128) : inBlk (col (gr b j) e) = inc j e := by
  have := j.isLt; have := e.isLt
  exact Fin.ext (by show (128 * (8 * b.val + j.val) + e.val) % 1024 = 128 * j.val + e.val; omega)

/-! ## The results -/

section
variable (m : (ℓ : Loc nD τ sig) → Buf (Elt Ideal) ℓ) (c : Dev nD) {s : St}
  (S : Cert.Pre_valid_state.Says s (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) (m ((c : Thread nD τ).loc main_arg8)))
include S

theorem blk_is (b : Fin 128) : Blk s b (grid0.coords (pt b.val)) (iblk m c 2 (pt b.val)) (iblk m c 3 (pt b.val)) (iblk m c 4 (pt b.val)) (IK m c) (OF m c) (VIK m c) (VOF m c) := by
  have hb := b.isLt
  have hp : (pt b.val).val = b.val := by show min b.val 128 = b.val; omega
  have hc : ∀ j e, (col (gr b j) e).val = min (pt b.val).val 127 * 1024 + (inc j e).val := fun j e => by
    rw [hp]; show 128 * (8 * b.val + j.val) + e.val = min b.val 127 * 1024 + (128 * j.val + e.val); omega
  have h5 := fun a g => ((blk5 m c (pt 0) a g).trans (v7_entry m c a g)).trans (S.ms a g)
  have h6 := fun a g => ((blk6 m c (pt 0) a g).trans (v8_entry m c a g)).trans (S.mk a g)
  have h7 := fun a g => ((blk7 m c (pt 0) a g).trans (v9_entry m c a g)).trans (S.vs a g)
  have h8 := fun a g => ((blk8 m c (pt 0) a g).trans (v10_entry m c a g)).trans (S.vk a g)
  exact .make ((coord_val _).trans hp)
    (fun a j e => ((blk2 m c _ a _ _ (hc j e)).trans (v2_entry m c a _)).trans (S.g a _))
    (fun a j e => ((blk3 m c _ a _ _ (hc j e)).trans (v4_entry m c a _)).trans (S.mc a _))
    (fun a j e => ((blk4 m c _ a _ _ (hc j e)).trans (v6_entry m c a _)).trans (S.vc a _))
    (fun a g => ik_at _ a g _ (S.ok.mk a g).ne' (h6 a g)) (fun a g => of_at _ _ a g _ _ (S.ok.mk a g).ne' (h6 a g) (h5 a g))
    (fun a g => vik_at _ a g _ (S.ok.vk a g).ne' (h8 a g)) (fun a g => vof_at _ _ a g _ _ (S.ok.vk a g).ne' (h8 a g) (h7 a g))

theorem arrU_val (a : Fin 256) (k : Fin 131072) : arrU m c (ix2 a k) = s.resU (m ((c : Thread nD τ).loc main_arg0) (ix3 0 a k)) a k := by
  obtain ⟨b, j, e, rfl⟩ := col_div k
  have B := blk_is m c S b
  have hb := b.isLt
  have hn : ∀ t, word (iblk m c 0 t) = m ((c : Thread nD τ).loc main_arg8) ix0 := fun t => word0 m c t
  show outU (word (iblk m c 0 (pt (blkOf (col (gr b j) e) + 1)))) (iblk m c 1 (pt (blkOf (col (gr b j) e) + 1))) (Us m c (blkOf (col (gr b j) e))) (ix2 a (inBlk (col (gr b j) e))) = _
  rw [blkOf_col, inBlk_col]
  unfold Us
  rw [hn, hn]
  refine (u_at S.ok B _ S.n _ j e a).trans (congrArg (fun w => s.resU w a (col (gr b j) e)) ?_)
  refine (blk1 m c _ a _ _ ?_).trans (v1_entry m c a _)
  show 128 * (8 * b.val + j.val) + e.val = (min (b.val + 1) 128 - 1) * 1024 + (128 * j.val + e.val)
  omega

theorem arrM_val (a : Fin 256) (k : Fin 131072) : arrM m c (ix2 a k) = s.resM a k := by
  obtain ⟨b, j, e, rfl⟩ := col_div k
  show outM (Ms m c (blkOf (col (gr b j) e))) (Lms m c (blkOf (col (gr b j) e))) (Ss m c (blkOf (col (gr b j) e))) (ix2 a (inBlk (col (gr b j) e))) = _
  rw [blkOf_col, inBlk_col]
  exact m_at S.ok (blk_is m c S b) j e a
theorem arrV_val (a : Fin 256) (k : Fin 131072) : arrV m c (ix2 a k) = s.resV a k := by
  obtain ⟨b, j, e, rfl⟩ := col_div k
  show outV (Lvs m c (blkOf (col (gr b j) e))) (Ss m c (blkOf (col (gr b j) e))) (ix2 a (inBlk (col (gr b j) e))) = _
  rw [blkOf_col, inBlk_col]
  exact v_at S.ok (blk_is m c S b) j e a

theorem ms_val (a : Fin 256) (g : Fin 1024) : flat (Par fun b => mScale (Ss m c b)) (ix2 a g) = s.resMs a g := by
  obtain ⟨b, j, rfl⟩ := gr_div g
  rw [flat_at]
  exact mScale_at _ j a (st0 S.ok (blk_is m c S b) j a)
theorem mk_val (a : Fin 256) (g : Fin 1024) : flat (Par fun b => mKc (Ss m c b)) (ix2 a g) = s.resMk a g := by
  obtain ⟨b, j, rfl⟩ := gr_div g
  rw [flat_at]
  exact mKc_at _ j a (st0 S.ok (blk_is m c S b) j a) (st1 S.ok (blk_is m c S b) j a)
theorem vs_val (a : Fin 256) (g : Fin 1024) : flat (Par fun b => vScale (Ss m c b)) (ix2 a g) = s.resVs a g := by
  obtain ⟨b, j, rfl⟩ := gr_div g
  rw [flat_at]
  exact vScale_at _ j a (st2 S.ok (blk_is m c S b) j a)
theorem vk_val (a : Fin 256) (g : Fin 1024) : flat (Par fun b => vKc (Ss m c b)) (ix2 a g) = s.resVk a g := by
  obtain ⟨b, j, rfl⟩ := gr_div g
  rw [flat_at]
  exact vKc_at _ j a (st2 S.ok (blk_is m c S b) j a) (st3 S.ok (blk_is m c S b) j a)
end

end Cert.KernelIdeal.Hand

end
-- ==== Proof.Results.lean ====
/- The seven results, as functions of the state. -/
module

public import proofs.«01_k».proof.Proof.State
public import Idealize.ShloMosaic.Lib.ValueIdx

@[expose] public section

set_option maxRecDepth 16384

noncomputable section

namespace Cert.Real1

open Idealize.ShloMosaic Idealize.ShloMosaic.ValueIdx

variable (s : St)

/-- The updated weight, of the weight argument. -/
def valU (w : (⟨3, ![1, 256, 131072]⟩ : Shape).Idx → EReal) : (⟨2, ![256, 131072]⟩ : Shape).Idx → EReal := fun i => s.resU (w (ix3 0 (i 0) (i 1))) (i 0) (i 1)
/-- The first moment's codes. -/
def valM : (⟨2, ![256, 131072]⟩ : Shape).Idx → EReal := fun i => s.resM (i 0) (i 1)
/-- their scales. -/
def valMs : (⟨2, ![256, 1024]⟩ : Shape).Idx → EReal := fun i => s.resMs (i 0) (i 1)
/-- their exponents. -/
def valMk : (⟨2, ![256, 1024]⟩ : Shape).Idx → EReal := fun i => s.resMk (i 0) (i 1)
/-- The second moment's codes. -/
def valV : (⟨2, ![256, 131072]⟩ : Shape).Idx → EReal := fun i => s.resV (i 0) (i 1)
/-- their scales. -/
def valVs : (⟨2, ![256, 1024]⟩ : Shape).Idx → EReal := fun i => s.resVs (i 0) (i 1)
/-- their exponents. -/
def valVk : (⟨2, ![256, 1024]⟩ : Shape).Idx → EReal := fun i => s.resVk (i 0) (i 1)

/-- Arrays that agree at every pair of coordinates agree. -/
theorem ext2 {p q : ℕ} {f g : (⟨2, ![p, q]⟩ : Shape).Idx → EReal} (h : ∀ a k, f (ix2 a k) = g (ix2 a k)) : f = g := by
  funext i
  have hi : i = ix2 (i 0) (i 1) := by
    funext ax
    match ax with
    | ⟨0, _⟩ => rfl
    | ⟨1, _⟩ => rfl
  rw [hi]
  exact h _ _

end Cert.Real1

end
-- ==== Proof.KI.Run.lean ====
/- The kernel's run: its seven results. -/
module

public import proofs.«01_k».proof.Proof.KI.Vals
public import proofs.«01_k».proof.Proof.Results
public import Idealize.ShloMosaic.Lib.Pipeline.ArrRel

@[expose] public section

set_option maxRecDepth 16384

noncomputable section

namespace Cert.KernelIdeal.Hand

open Idealize.ShloMosaic hiding ix0 ix1 ix2 ix3
open Idealize.ShloMosaic.ValueIdx Idealize.ShloMosaic.TcCoe
open Idealize.SL Idealize.SL.RA Idealize.SL.Sem
open Cert.KernelIdeal.Gen Cert.Real1

variable (m : (ℓ : Loc nD τ sig) → Buf (Elt Ideal) ℓ) (ρ : Dev nD → PrngReg)

theorem run (s : Dev nD → St) (S : ∀ c : Dev nD, Cert.Pre_valid_state.Says (s c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :
    θ_run defs (onTc (τ := τ) (main (F := Ideal))) ⟨m, fun _ => 0, ρ⟩ (fun r => ∀ c : Dev nD,
      r.2.mem ((c.tc : Thread nD τ).loc main_v11_0) = valU (s c) (m ((c : Thread nD τ).loc main_arg0))
      ∧ r.2.mem ((c.tc : Thread nD τ).loc main_v11_1) = valM (s c)
      ∧ r.2.mem ((c.tc : Thread nD τ).loc main_v11_2) = valMs (s c)
      ∧ r.2.mem ((c.tc : Thread nD τ).loc main_v11_3) = valMk (s c)
      ∧ r.2.mem ((c.tc : Thread nD τ).loc main_v11_4) = valV (s c)
      ∧ r.2.mem ((c.tc : Thread nD τ).loc main_v11_5) = valVs (s c)
      ∧ r.2.mem ((c.tc : Thread nD τ).loc main_v11_6) = valVk (s c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun r h c => ?_) (run_steps m ρ)
  obtain ⟨after, hL, e⟩ := Pipeline.RDat.FramePost.exists_exact h.1 c
  exact ⟨((e 9).trans (final9 c after hL)).trans (ext2 fun a k => arrU_val m c (S c) a k),
    ((e 10).trans (final10 c after hL)).trans (ext2 fun a k => arrM_val m c (S c) a k),
    ((e 11).trans (final11 c after hL)).trans (ext2 fun a k => ms_val m c (S c) a k),
    ((e 12).trans (final12 c after hL)).trans (ext2 fun a k => mk_val m c (S c) a k),
    ((e 13).trans (final13 c after hL)).trans (ext2 fun a k => arrV_val m c (S c) a k),
    ((e 14).trans (final14 c after hL)).trans (ext2 fun a k => vs_val m c (S c) a k),
    ((e 15).trans (final15 c after hL)).trans (ext2 fun a k => vk_val m c (S c) a k),
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c),
    ((h.1 c).2 main_arg8 (Pipeline.mem_restRefs_of main_arg8 (by decide) (by decide))).trans (V_main_arg8 m c)⟩

end Cert.KernelIdeal.Hand

end
-- ==== Proof.RI.Value.lean ====
/- What the reference's one block holds, in terms of its nine inputs. -/
module

public import proofs.«01_k».proof.Proof.Gen.ReferenceIdeal.Frame
public import Idealize.ShloMosaic.Lib.Pipeline.ValueKit.Geometry
public import Idealize.ShloMosaic.Lib.Pipeline.ValueKit.Acc
public import Idealize.ShloMosaic.Lib.Pipeline.ReadBack
public import Idealize.ShloMosaic.Lib.ValueIdx
public import Idealize.ShloMosaic.Lib.ValueLayout

@[expose] public section

set_option maxRecDepth 16384

noncomputable section

namespace Cert.ReferenceIdeal.Hand

open Idealize.ShloMosaic Idealize.ShloMosaic.ValueIdx Idealize.ShloMosaic.TcCoe Idealize.ShloMosaic.Tactic
open Idealize.SL Idealize.SL.RA
open Cert.ReferenceIdeal.Gen

variable {F : FTy → Type} [FloatOps F] [Named F]
variable (m : (ℓ : Loc nD τ sig) → Buf (Elt F) ℓ)

/-- The first moment before it is quantised, -/
def rM (c : Dev nD) (t : Fin cfg0.N) : FVec F S256x131072 .f32 :=
  k0_pay7 (k0_pay2 (iblk m c 3 t) (iblk m c 4 t) (iblk m c 5 t)) (iblk m c 2 t)
/-- and the second. -/
def rV (c : Dev nD) (t : Fin cfg0.N) : FVec F S256x131072 .f32 :=
  k0_pay8 (k0_pay3 (iblk m c 7 t)) (k0_pay4 (iblk m c 8 t)) (k0_pay5 (iblk m c 6 t)) (iblk m c 2 t)

/-- The step count. -/
def rN (c : Dev nD) (t : Fin cfg0.N) : Elt F .i32 := iblk m c 0 t (Shape.Idx.first (s := S1) (by decide))

set_option maxHeartbeats 4000000 in
theorem out9 (c : Dev nD) (t : Fin cfg0.N) : (dats m 0 c).after 9 t
    = k0_pay11 (rM m c t) (rV m c t) (k0_pay9 (rN m c t)) (k0_pay10 (rN m c t)) (Scalar.ofBits .f32 0x3F800000#32) (iblk m c 1 t) := by
  rw [after0_9]
  frame_out
  simp only [read_unread_whole]
  rfl
set_option maxHeartbeats 4000000 in
theorem out10 (c : Dev nD) (t : Fin cfg0.N) : (dats m 0 c).after 10 t
    = k0_pay18 (k0_pay12 (rM m c t)) (k0_pay13 (rM m c t)) (k0_pay16 (rM m c t)) (k0_pay17 (rM m c t)) (Scalar.ofBits .f32 0x00000000#32) := by
  rw [after0_10]
  frame_out
  simp only [read_unread_whole]
  rfl
set_option maxHeartbeats 4000000 in
theorem out11 (c : Dev nD) (t : Fin cfg0.N) : (dats m 0 c).after 11 t = k0_pay16 (rM m c t) := by
  rw [after0_11]
  frame_out
  simp only [read_unread_whole]
  rfl
set_option maxHeartbeats 4000000 in
theorem out12 (c : Dev nD) (t : Fin cfg0.N) : (dats m 0 c).after 12 t = k0_pay17 (rM m c t) := by
  rw [after0_12]
  frame_out
  simp only [read_unread_whole]
  rfl
set_option maxHeartbeats 4000000 in
theorem out13 (c : Dev nD) (t : Fin cfg0.N) : (dats m 0 c).after 13 t
    = k0_pay1 (k0_pay26 (k0_pay19 (rV m c t)) (k0_pay20 (rV m c t)) (k0_pay21 (rV m c t)) (k0_pay22 (rV m c t))) := by
  rw [after0_13]
  frame_out
  simp only [read_unread_whole]
  rfl
set_option maxHeartbeats 4000000 in
theorem out14 (c : Dev nD) (t : Fin cfg0.N) : (dats m 0 c).after 14 t = k0_pay24 (k0_pay21 (rV m c t)) := by
  rw [after0_14]
  frame_out
  simp only [read_unread_whole]
  rfl
set_option maxHeartbeats 4000000 in
theorem out15 (c : Dev nD) (t : Fin cfg0.N) : (dats m 0 c).after 15 t = k0_pay25 (k0_pay21 (rV m c t)) (k0_pay22 (rV m c t)) := by
  rw [after0_15]
  frame_out
  simp only [read_unread_whole]
  rfl

end Cert.ReferenceIdeal.Hand

end
-- ==== Proof.RI.Entry.lean ====
/- What the reference's blocks and arrays hold. -/
module

public import proofs.«01_k».proof.Proof.RI.Value
public import Idealize.ShloMosaic.Lib.Claim

@[expose] public section

set_option maxRecDepth 16384

noncomputable section

namespace Cert.ReferenceIdeal.Hand

open Idealize.ShloMosaic Idealize.ShloMosaic.ValueIdx Idealize.ShloMosaic.TcCoe Idealize.ShloMosaic.Tactic
open Idealize.SL Idealize.SL.RA Idealize.SL.Sem
open Cert.ReferenceIdeal.Gen

variable (m : (ℓ : Loc nD τ sig) → Buf (Elt Ideal) ℓ) (c : Dev nD) (t : Fin cfg0.N)

/-! ## The arrays the call reads -/

theorem v1_entry (a : Fin 256) (k : Fin 131072) : V m c main_v1 (ix2 a k) = m ((c : Thread nD τ).loc main_arg0) (ix3 0 a k) := by
  entry_read
  exact shapeCast_1ab_ab_apply _ _ a k
theorem v2_entry (a : Fin 256) (k : Fin 131072) : V m c main_v2 (ix2 a k) = m ((c : Thread nD τ).loc main_arg1) (ix3 0 a k) := by
  entry_read
  exact shapeCast_1ab_ab_apply _ _ a k
theorem v5_entry (a : Fin 256) (k : Fin 1024) : V m c main_v5 (ix2 a k) = m ((c : Thread nD τ).loc main_arg3) (ix3 0 a k) := by
  entry_read
  exact shapeCast_1ab_ab_apply _ _ a k
theorem v6_entry (a : Fin 256) (k : Fin 1024) : V m c main_v6 (ix2 a k) = m ((c : Thread nD τ).loc main_arg4) (ix3 0 a k) := by
  entry_read
  exact shapeCast_1ab_ab_apply _ _ a k
theorem v9_entry (a : Fin 256) (k : Fin 1024) : V m c main_v9 (ix2 a k) = m ((c : Thread nD τ).loc main_arg6) (ix3 0 a k) := by
  entry_read
  exact shapeCast_1ab_ab_apply _ _ a k
theorem v10_entry (a : Fin 256) (k : Fin 1024) : V m c main_v10 (ix2 a k) = m ((c : Thread nD τ).loc main_arg7) (ix3 0 a k) := by
  entry_read
  exact shapeCast_1ab_ab_apply _ _ a k
theorem v4_entry (a : Fin 256) (k : Fin 131072) : V m c main_v4 (ix2 a k) = FloatOps.ofBits (F := Ideal) .fp8e4m3 (m ((c : Thread nD τ).loc main_arg2) (ix3 0 a k)) := by
  entry_read
  exact shapeCast_1ab_ab_apply _ _ a k
theorem v8_entry (a : Fin 256) (k : Fin 131072) : V m c main_v8 (ix2 a k) = FloatOps.ofBits (F := Ideal) .fp8e5m2 (m ((c : Thread nD τ).loc main_arg5) (ix3 0 a k)) := by
  entry_read
  exact shapeCast_1ab_ab_apply _ _ a k
theorem v0_entry (y : S1.Idx) : V m c main_v0 y = m ((c : Thread nD τ).loc main_arg8) ix0 := by
  entry_read
  exact congrArg (m ((c : Thread nD τ).loc main_arg8)) (funext fun a => a.elim0)

/-! ## The one point's blocks are the arrays -/

theorem blk1 : iblk m c 1 t = V m c main_v1 := by
  have hi : win0_1.index t = ![0, 0] := (by decide +kernel : ∀ t : Fin grid0.N, win0_1.index t = ![0, 0]) t
  funext y
  blk_simp [iblk, hi]
  refine congrArg (V m c main_v1) (funext fun ax => Fin.ext ?_)
  match ax with
  | ⟨0, _⟩ => blk_simp [hi]
  | ⟨1, _⟩ => blk_simp [hi]
theorem blk2 : iblk m c 2 t = V m c main_v2 := by
  have hi : win0_2.index t = ![0, 0] := (by decide +kernel : ∀ t : Fin grid0.N, win0_2.index t = ![0, 0]) t
  funext y
  blk_simp [iblk, hi]
  refine congrArg (V m c main_v2) (funext fun ax => Fin.ext ?_)
  match ax with
  | ⟨0, _⟩ => blk_simp [hi]
  | ⟨1, _⟩ => blk_simp [hi]
theorem blk3 : iblk m c 3 t = V m c main_v4 := by
  have hi : win0_3.index t = ![0, 0] := (by decide +kernel : ∀ t : Fin grid0.N, win0_3.index t = ![0, 0]) t
  funext y
  blk_simp [iblk, hi]
  refine congrArg (V m c main_v4) (funext fun ax => Fin.ext ?_)
  match ax with
  | ⟨0, _⟩ => blk_simp [hi]
  | ⟨1, _⟩ => blk_simp [hi]
theorem blk4 : iblk m c 4 t = V m c main_v5 := by
  have hi : win0_4.index t = ![0, 0] := (by decide +kernel : ∀ t : Fin grid0.N, win0_4.index t = ![0, 0]) t
  funext y
  blk_simp [iblk, hi]
  refine congrArg (V m c main_v5) (funext fun ax => Fin.ext ?_)
  match ax with
  | ⟨0, _⟩ => blk_simp [hi]
  | ⟨1, _⟩ => blk_simp [hi]
theorem blk5 : iblk m c 5 t = V m c main_v6 := by
  have hi : win0_5.index t = ![0, 0] := (by decide +kernel : ∀ t : Fin grid0.N, win0_5.index t = ![0, 0]) t
  funext y
  blk_simp [iblk, hi]
  refine congrArg (V m c main_v6) (funext fun ax => Fin.ext ?_)
  match ax with
  | ⟨0, _⟩ => blk_simp [hi]
  | ⟨1, _⟩ => blk_simp [hi]
theorem blk6 : iblk m c 6 t = V m c main_v8 := by
  have hi : win0_6.index t = ![0, 0] := (by decide +kernel : ∀ t : Fin grid0.N, win0_6.index t = ![0, 0]) t
  funext y
  blk_simp [iblk, hi]
  refine congrArg (V m c main_v8) (funext fun ax => Fin.ext ?_)
  match ax with
  | ⟨0, _⟩ => blk_simp [hi]
  | ⟨1, _⟩ => blk_simp [hi]
theorem blk7 : iblk m c 7 t = V m c main_v9 := by
  have hi : win0_7.index t = ![0, 0] := (by decide +kernel : ∀ t : Fin grid0.N, win0_7.index t = ![0, 0]) t
  funext y
  blk_simp [iblk, hi]
  refine congrArg (V m c main_v9) (funext fun ax => Fin.ext ?_)
  match ax with
  | ⟨0, _⟩ => blk_simp [hi]
  | ⟨1, _⟩ => blk_simp [hi]
theorem blk8 : iblk m c 8 t = V m c main_v10 := by
  have hi : win0_8.index t = ![0, 0] := (by decide +kernel : ∀ t : Fin grid0.N, win0_8.index t = ![0, 0]) t
  funext y
  blk_simp [iblk, hi]
  refine congrArg (V m c main_v10) (funext fun ax => Fin.ext ?_)
  match ax with
  | ⟨0, _⟩ => blk_simp [hi]
  | ⟨1, _⟩ => blk_simp [hi]
theorem word0 : rN m c t = m ((c : Thread nD τ).loc main_arg8) ix0 := by
  unfold rN
  blk_simp [iblk]
  exact v0_entry m c _

/-! ## The result arrays -/

theorem final9 (X) (h : (dats m 0 c).after 9 t = X) : (dats m 0 c).arrAt 9 cfg0.N = X := by
  refine (dats m 0 c).arrAt_eq_of_after_last 9 t ((by decide +kernel : ∀ t : Fin cfg0.N, _) t) _ fun j => ?_
  rw [h]
  have hi : win0_9.index t = ![0, 0] := (by decide +kernel : ∀ t : Fin grid0.N, win0_9.index t = ![0, 0]) t
  blk_simp [hi]
theorem final10 (X) (h : (dats m 0 c).after 10 t = X) : (dats m 0 c).arrAt 10 cfg0.N = X := by
  refine (dats m 0 c).arrAt_eq_of_after_last 10 t ((by decide +kernel : ∀ t : Fin cfg0.N, _) t) _ fun j => ?_
  rw [h]
  have hi : win0_10.index t = ![0, 0] := (by decide +kernel : ∀ t : Fin grid0.N, win0_10.index t = ![0, 0]) t
  blk_simp [hi]
theorem final11 (X) (h : (dats m 0 c).after 11 t = X) : (dats m 0 c).arrAt 11 cfg0.N = X := by
  refine (dats m 0 c).arrAt_eq_of_after_last 11 t ((by decide +kernel : ∀ t : Fin cfg0.N, _) t) _ fun j => ?_
  rw [h]
  have hi : win0_11.index t = ![0, 0] := (by decide +kernel : ∀ t : Fin grid0.N, win0_11.index t = ![0, 0]) t
  blk_simp [hi]
theorem final12 (X) (h : (dats m 0 c).after 12 t = X) : (dats m 0 c).arrAt 12 cfg0.N = X := by
  refine (dats m 0 c).arrAt_eq_of_after_last 12 t ((by decide +kernel : ∀ t : Fin cfg0.N, _) t) _ fun j => ?_
  rw [h]
  have hi : win0_12.index t = ![0, 0] := (by decide +kernel : ∀ t : Fin grid0.N, win0_12.index t = ![0, 0]) t
  blk_simp [hi]
theorem final13 (X) (h : (dats m 0 c).after 13 t = X) : (dats m 0 c).arrAt 13 cfg0.N = X := by
  refine (dats m 0 c).arrAt_eq_of_after_last 13 t ((by decide +kernel : ∀ t : Fin cfg0.N, _) t) _ fun j => ?_
  rw [h]
  have hi : win0_13.index t = ![0, 0] := (by decide +kernel : ∀ t : Fin grid0.N, win0_13.index t = ![0, 0]) t
  blk_simp [hi]
theorem final14 (X) (h : (dats m 0 c).after 14 t = X) : (dats m 0 c).arrAt 14 cfg0.N = X := by
  refine (dats m 0 c).arrAt_eq_of_after_last 14 t ((by decide +kernel : ∀ t : Fin cfg0.N, _) t) _ fun j => ?_
  rw [h]
  have hi : win0_14.index t = ![0, 0] := (by decide +kernel : ∀ t : Fin grid0.N, win0_14.index t = ![0, 0]) t
  blk_simp [hi]
theorem final15 (X) (h : (dats m 0 c).after 15 t = X) : (dats m 0 c).arrAt 15 cfg0.N = X := by
  refine (dats m 0 c).arrAt_eq_of_after_last 15 t ((by decide +kernel : ∀ t : Fin cfg0.N, _) t) _ fun j => ?_
  rw [h]
  have hi : win0_15.index t = ![0, 0] := (by decide +kernel : ∀ t : Fin grid0.N, win0_15.index t = ![0, 0]) t
  blk_simp [hi]

end Cert.ReferenceIdeal.Hand

end
-- ==== Proof.RI.Point.lean ====
/- What the reference's results are at an element, over the reals. -/
module

public import proofs.«01_k».proof.Proof.RI.Value
public import proofs.«01_k».proof.Proof.Elem
public import Idealize.ShloMosaic.PureOps.Ideal.Laws
public import Idealize.ShloMosaic.Lib.Pointwise.Reduce
public import Idealize.ShloMosaic.Lib.Pointwise.Reshape
public import Idealize.ShloMosaic.Lib.Pointwise.ElementwiseCore

@[expose] public section

set_option maxRecDepth 16384

noncomputable section

namespace Cert.ReferenceIdeal.Hand

open Idealize.ShloMosaic
open Cert.ReferenceIdeal.Gen Cert.Real1

variable (s : St)

/-- One parameter of a group, at an element of the group. -/
theorem bc (x : FVec Ideal S256x1024 .f32) (h1 : S256x1024.ShapeCasts S256x1024x1) (h2 : S256x1024x1.Broadcasts S256x1024x128) (a : Fin 256) (j : Fin 1024) (e : Fin 128) :
    broadcastTo S256x1024x128 (shapeCast S256x1024x1 x h1) h2 (ix3 a j e) = x (ix2 a j) := by
  refine (broadcastTo_apply _ h2 (ix3 a j e) (ix3 a j (0 : Fin 1)) fun ax => ?_).trans ?_
  · match ax with
    | ⟨0, _⟩ => rfl
    | ⟨1, _⟩ => rfl
    | ⟨2, _⟩ => rfl
  · simp only [pointwise]

/-- A row cut into groups, -/
theorem cut {α : Type} (x : S256x131072.Idx → α) (h : S256x131072.ShapeCasts S256x1024x128) (a : Fin 256) (j : Fin 1024) (e : Fin 128) :
    shapeCast S256x1024x128 x h (ix3 a j e) = x (ix2 a (col j e)) := by
  refine shapeCast_apply x h _ _ ?_
  rw [Shape.rowMajor_val_two, Shape.rowMajor_val_three]
  show a.val * 131072 + (128 * j.val + e.val) = (a.val * 1024 + j.val) * 128 + e.val
  omega
/-- and the groups put together. -/
theorem join {α : Type} (x : S256x1024x128.Idx → α) (h : S256x1024x128.ShapeCasts S256x131072) (a : Fin 256) (c : Fin 131072) :
    shapeCast S256x131072 x h (ix2 a c) = x (ix3 a (grp c) ⟨c.val % 128, Nat.mod_lt _ (by decide)⟩) := by
  refine shapeCast_apply x h _ _ ?_
  rw [Shape.rowMajor_val_two, Shape.rowMajor_val_three]
  show (a.val * 1024 + c.val / 128) * 128 + c.val % 128 = a.val * 131072 + c.val
  omega

theorem same {α : Type} {t : Shape} (x : t.Idx → α) (h : t.ShapeCasts t) : shapeCast t x h = x := by
  funext i
  exact shapeCast_apply x h i i rfl

theorem red_max (x : FVec Ideal S256x1024x128 .f32) (h : S256x1024x128.Reduces [2] S256x1024) (hφ : FKind.Formats .f32) (hacc : (0xFF800000#32 : BitVec 32) = FKind.maximumf.neutral .f32 hφ)
    (a : Fin 256) (j : Fin 1024) :
    multiReduction .maximumf [2] S256x1024 x 0xFF800000#32 h hφ hacc (ix2 a j) = (Finset.univ : Finset (Fin 128)).fold max (FloatOps.ofBits (F := Ideal) .f32 0xFF800000#32) fun e => x (ix3 a j e) :=
  (multiReduction_maximumf_eq_fold x _ h hφ hacc _).trans (Shape.Reduces.fold_fiber_r3_a2 h _ _ _ x)

theorem red_min (x : FVec Ideal S256x1024x128 .f32) (h : S256x1024x128.Reduces [2] S256x1024) (hφ : FKind.Formats .f32) (hacc : (0x7F800000#32 : BitVec 32) = FKind.minimumf.neutral .f32 hφ)
    (a : Fin 256) (j : Fin 1024) :
    multiReduction .minimumf [2] S256x1024 x 0x7F800000#32 h hφ hacc (ix2 a j) = (Finset.univ : Finset (Fin 128)).fold min (FloatOps.ofBits (F := Ideal) .f32 0x7F800000#32) fun e => x (ix3 a j e) :=
  (multiReduction_minimumf_eq_fold x _ h hφ hacc _).trans (Shape.Reduces.fold_fiber_r3_a2 h _ _ _ x)

theorem nbeta1 : Named.named (F := Ideal) κ "beta1" (φ := .f32) 0x3F666666#32 = ((9 / 10 : ℝ) : EReal) := IdealRules.named_const.ideal_named_scalar _ _ _ _ rfl
theorem nbeta2 : Named.named (F := Ideal) κ "beta2" (φ := .f32) 0x3F733333#32 = ((19 / 20 : ℝ) : EReal) := IdealRules.named_const.ideal_named_scalar _ _ _ _ rfl
theorem ntenth : Named.named (F := Ideal) κ "tenth" (φ := .f32) 0x3DCCCCCD#32 = ((1 / 10 : ℝ) : EReal) := IdealRules.named_const.ideal_named_scalar _ _ _ _ rfl
theorem ntwentieth : Named.named (F := Ideal) κ "twentieth" (φ := .f32) 0x3D4CCCCD#32 = ((1 / 20 : ℝ) : EReal) := IdealRules.named_const.ideal_named_scalar _ _ _ _ rfl
theorem neps : Named.named (F := Ideal) κ "eps" (φ := .f32) 0x322BCC77#32 = ((1 / 100000000 : ℝ) : EReal) := IdealRules.named_const.ideal_named_scalar _ _ _ _ rfl
theorem nmr : Named.named (F := Ideal) κ "m_range" (φ := .f32) 0x41457D69#32 = ((Real.log 229376 : ℝ) : EReal) := IdealRules.named_const.ideal_named_scalar _ _ _ _ rfl
theorem nmr8 : Named.named (F := Ideal) κ "m_range_8" (φ := .f32) 0x3FC57D69#32 = ((Real.log 229376 * (1 / 8) : ℝ) : EReal) := IdealRules.named_const.ideal_named_scalar _ _ _ _ rfl
theorem nvr : Named.named (F := Ideal) κ "v_range" (φ := .f32) 0x41B0609F#32 = ((Real.log 3758096384 : ℝ) : EReal) := IdealRules.named_const.ideal_named_scalar _ _ _ _ rfl
theorem nvr8 : Named.named (F := Ideal) κ "v_range_8" (φ := .f32) 0x4030609F#32 = ((Real.log 3758096384 * (1 / 8) : ℝ) : EReal) := IdealRules.named_const.ideal_named_scalar _ _ _ _ rfl

end Cert.ReferenceIdeal.Hand

end
-- ==== Proof.RI.Moments.lean ====
/- The reference's new moments, at an element. -/
module

public import proofs.«01_k».proof.Proof.RI.Point

@[expose] public section

set_option maxRecDepth 16384

noncomputable section

namespace Cert.ReferenceIdeal.Hand

open Idealize.ShloMosaic
open Cert.ReferenceIdeal.Gen Cert.Real1

variable (s : St)

theorem deq_m (x3 : Vec Ideal S256x131072 .fp8e4m3) (x4 x5 : Vec Ideal S256x1024 .f32)
    (hq : ∀ a c, x3 (ix2 a c) = ((s.q a c : ℝ) : EReal)) (hs : ∀ a j, x4 (ix2 a j) = ((s.ms a j : ℝ) : EReal))
    (hk : ∀ a j, x5 (ix2 a j) = ((s.mk a j : ℝ) : EReal)) (ok : s.Ok) (a : Fin 256) (c : Fin 131072) :
    k0_pay2 x3 x4 x5 (ix2 a c) = ((deq 448 (s.q a c) (s.ms a (grp c)) (s.mk a (grp c)) : ℝ) : EReal) := by
  simp only [k0_pay2, same, join, radd, rsub, rmul, rdiv, rmax, rmin, rabs, rlog, rexp, rsqrt, rsel, rcmp, rbc, rcst, rext, rtr, rofb, absf_real, sel_lt, sel_gt, sel_ne, b0', b1, bm1, b448, b57344, bc, cut, col_grp, hq, hs, hk]
  exact ref_deq (M := 448) (by norm_num) (ok.mk _ _)

theorem v1_at (x6 : Vec Ideal S256x131072 .fp8e5m2) (x7 x8 : Vec Ideal S256x1024 .f32)
    (hq : ∀ a c, x6 (ix2 a c) = ((s.qv a c : ℝ) : EReal)) (hs : ∀ a j, x7 (ix2 a j) = ((s.vs a j : ℝ) : EReal))
    (hk : ∀ a j, x8 (ix2 a j) = ((s.vk a j : ℝ) : EReal)) (ok : s.Ok) (x2 : Vec Ideal S256x131072 .bf16)
    (hg : ∀ a c, x2 (ix2 a c) = ((s.g a c : ℝ) : EReal)) (a : Fin 256) (c : Fin 131072) :
    k0_pay8 (k0_pay3 x7) (k0_pay4 x8) (k0_pay5 x6) x2 (ix2 a c) = ((s.v1 a c : ℝ) : EReal) := by
  simp only [k0_pay8, k0_pay3, k0_pay4, k0_pay5, k0_pay6, same, join, radd, rsub, rmul, rdiv, rmax, rmin, rabs, rlog, rexp, rsqrt, rsel, rcmp, rbc, rcst, rext, rtr, rofb, absf_real, sel_lt, sel_gt, sel_ne, b0', b1, bm1, b448, b57344, bc, cut, col_grp, hq, hs, hk, hg, nbeta2, ntwentieth]
  rw [ref_deq (M := 57344) (by norm_num) (ok.vk _ _)]
  simp only [← EReal.coe_mul, ← EReal.coe_add]
  rfl

theorem m1_at (x3 : Vec Ideal S256x131072 .fp8e4m3) (x4 x5 : Vec Ideal S256x1024 .f32) (x2 : Vec Ideal S256x131072 .bf16)
    (hq : ∀ a c, x3 (ix2 a c) = ((s.q a c : ℝ) : EReal)) (hs : ∀ a j, x4 (ix2 a j) = ((s.ms a j : ℝ) : EReal))
    (hk : ∀ a j, x5 (ix2 a j) = ((s.mk a j : ℝ) : EReal)) (ok : s.Ok)
    (hg : ∀ a c, x2 (ix2 a c) = ((s.g a c : ℝ) : EReal)) (a : Fin 256) (c : Fin 131072) :
    k0_pay7 (k0_pay2 x3 x4 x5) x2 (ix2 a c) = ((s.m1 a c : ℝ) : EReal) := by
  have hd := deq_m s x3 x4 x5 hq hs hk ok a c
  generalize k0_pay2 x3 x4 x5 = X at hd ⊢
  simp only [k0_pay7, k0_pay6, same, radd, rsub, rmul, rdiv, rmax, rmin, rabs, rlog, rexp, rsqrt, rsel, rcmp, rbc, rcst, rext, rtr, rofb, absf_real, sel_lt, sel_gt, sel_ne, b0', b1, bm1, b448, b57344, hg, nbeta1, ntenth, hd]
  simp only [← EReal.coe_mul, ← EReal.coe_add]
  rfl

end Cert.ReferenceIdeal.Hand

end
-- ==== Proof.RI.Group.lean ====
/- What the reference writes, at an element, from the new moments. -/
module

public import proofs.«01_k».proof.Proof.RI.Point

@[expose] public section

set_option maxRecDepth 16384

noncomputable section

namespace Cert.ReferenceIdeal.Hand

open Idealize.ShloMosaic
open Cert.ReferenceIdeal.Gen Cert.Real1

variable (s : St)

/-- The greatest magnitude of a group. -/
theorem top_at (x : FVec Ideal S256x1024x128 .f32) (f : Fin 256 → Fin 1024 → Fin 128 → ℝ) (hx : ∀ a j e, x (ix3 a j e) = ((f a j e : ℝ) : EReal))
    (h : S256x1024x128.Reduces [2] S256x1024) (hφ : FKind.Formats .f32) (hacc : (0xFF800000#32 : BitVec 32) = FKind.maximumf.neutral .f32 hφ)
    (a : Fin 256) (j : Fin 1024) :
    multiReduction .maximumf [2] S256x1024 (absf x) 0xFF800000#32 h hφ hacc (ix2 a j) = ((top (f a j) : ℝ) : EReal) := by
  rw [red_max]
  have ht := top_is (f a j)
  refine fold_max bbot (fun e => ?_) ?_
  · rw [rabs, hx, absf_real, EReal.coe_le_coe_iff]; exact ht.le e
  · obtain ⟨e, he⟩ := ht.mem
    exact ⟨e, by rw [rabs, hx, absf_real, he]⟩

/-- The least magnitude that is not zero, if there is one. -/
theorem low_at (x : FVec Ideal S256x1024x128 .f32) (f : Fin 256 → Fin 1024 → Fin 128 → ℝ) (hx : ∀ a j e, x (ix3 a j e) = ((f a j e : ℝ) : EReal))
    (h : S256x1024x128.Reduces [2] S256x1024) (hφ : FKind.Formats .f32) (hacc : (0x7F800000#32 : BitVec 32) = FKind.minimumf.neutral .f32 hφ)
    (a : Fin 256) (j : Fin 1024) (h0 : 0 < top (f a j)) :
    multiReduction .minimumf [2] S256x1024 (select (cmpf .ogt (absf x) (broadcast S256x1024x128 (Scalar.ofBits (F := Ideal) .f32 0x00000000#32))) (absf x)
      (broadcast S256x1024x128 (Scalar.ofBits (F := Ideal) .f32 0x7F800000#32))) 0x7F800000#32 h hφ hacc (ix2 a j) = ((low (f a j) : ℝ) : EReal) := by
  rw [red_min]
  have hl := low_is (f a j) h0
  have hr : ∀ e, select (cmpf .ogt (absf x) (broadcast S256x1024x128 (Scalar.ofBits (F := Ideal) .f32 0x00000000#32))) (absf x)
      (broadcast S256x1024x128 (Scalar.ofBits (F := Ideal) .f32 0x7F800000#32)) (ix3 a j e) = if 0 < |f a j e| then ((|f a j e| : ℝ) : EReal) else ⊤ := fun e => by
    rw [rsel, rcmp, rabs, rbc, rbc, rofb, rofb, hx, absf_real, b0', btop, sel_gt]
  refine fold_min btop (fun e => ?_) ?_
  · rw [hr]
    split
    · rename_i h'; rw [EReal.coe_le_coe_iff]; exact hl.le e (abs_pos.mp h')
    · exact le_top
  · obtain ⟨e, he, hm⟩ := hl.mem
    exact ⟨e, by rw [hr, if_pos (abs_pos.mpr he), hm]⟩

theorem scale_at {t : Shape} (i : t.Idx) (A : FVec Ideal t .f32) (x : ℝ) (h : A i = ((x : ℝ) : EReal)) :
    select (cmpf .ogt A (broadcast t (Scalar.ofBits (F := Ideal) .f32 0x00000000#32))) A (broadcast t (Scalar.ofBits (F := Ideal) .f32 0x3F800000#32)) i = ((scale x : ℝ) : EReal) := by
  simp only [radd, rsub, rmul, rdiv, rmax, rmin, rabs, rlog, rexp, rsqrt, rsel, rcmp, rbc, rcst, rext, rtr, rofb, absf_real, sel_lt, sel_gt, sel_ne, b0', b1, bm1, b448, b57344, h, real_ite, scale]

theorem exp_at {t : Shape} (i : t.Idx) (A B L L8 : FVec Ideal t .f32) (a b l : ℝ) (h : A i = ((a : ℝ) : EReal)) (hB : 0 < a → B i = ((b : ℝ) : EReal)) (hl : L i = ((l : ℝ) : EReal)) (hl8 : L8 i = ((l * (1 / 8) : ℝ) : EReal))
    (ha : 0 ≤ a) (hb : 0 < a → 0 < b) (hL : 0 < l) :
    select (cmpf .ogt A (broadcast t (Scalar.ofBits (F := Ideal) .f32 0x00000000#32)))
      (divf L (maximumf (subf
        (log (select (cmpf .ogt A (broadcast t (Scalar.ofBits (F := Ideal) .f32 0x00000000#32))) A (broadcast t (Scalar.ofBits (F := Ideal) .f32 0x3F800000#32))))
        (log (select (cmpf .ogt A (broadcast t (Scalar.ofBits (F := Ideal) .f32 0x00000000#32))) B (broadcast t (Scalar.ofBits (F := Ideal) .f32 0x3F800000#32))))) L8))
      (broadcast t (Scalar.ofBits (F := Ideal) .f32 0x3F800000#32)) i = ((expo l a b : ℝ) : EReal) := by
  simp only [radd, rsub, rmul, rdiv, rmax, rmin, rabs, rlog, rexp, rsqrt, rsel, rcmp, rbc, rcst, rext, rtr, rofb, absf_real, sel_lt, sel_gt, sel_ne, b0', b1, bm1, b448, b57344, h, hl, hl8]
  refine ref_expo ha hb hL rfl ?_
  split
  · rename_i h; exact hB h
  · rfl

end Cert.ReferenceIdeal.Hand

end
-- ==== Proof.RI.ResM.lean ====
/- What the reference writes, at an element, from the new moments. -/
module

public import proofs.«01_k».proof.Proof.RI.Group

@[expose] public section

set_option maxRecDepth 16384

noncomputable section

namespace Cert.ReferenceIdeal.Hand

open Idealize.ShloMosaic
open Cert.ReferenceIdeal.Gen Cert.Real1

variable (s : St)

theorem code_of_m (X : FVec Ideal S256x1024x128 .f32) (A B : FVec Ideal S256x1024 .f32) (hx : ∀ a j e, X (ix3 a j e) = ((s.m1 a (col j e) : ℝ) : EReal))
    (hs : ∀ a j, A (ix2 a j) = s.resMs a j) (he : ∀ a j, B (ix2 a j) = s.resMk a j) (a : Fin 256) (c : Fin 131072) :
    k0_pay18 X (absf X) A B (Scalar.ofBits .f32 0x00000000#32) (ix2 a c) = s.resM a c := by
  have hp := (top_is (fun e => s.m1 a (col (grp c) e))).le ⟨c.val % 128, Nat.mod_lt _ (by decide)⟩
  simp only [col_grp] at hp
  simp only [k0_pay18, join, radd, rsub, rmul, rdiv, rmax, rmin, rabs, rlog, rexp, rsqrt, rsel, rcmp, rbc, rcst, rext, rtr, rofb, absf_real, sel_lt, sel_gt, sel_ne, b0', b1, bm1, b448, b57344, bc, hs, he, hx, col_grp, St.resMs, St.resMk]
  exact ref_code (M := 448) (by norm_num) hp

section
variable (M : FVec Ideal S256x131072 .f32) (hM : ∀ a c, M (ix2 a c) = ((s.m1 a c : ℝ) : EReal))
include hM

theorem pay12_at (a : Fin 256) (j : Fin 1024) (e : Fin 128) : k0_pay12 M (ix3 a j e) = ((s.m1 a (col j e) : ℝ) : EReal) := by
  unfold k0_pay12
  exact (cut M _ a j e).trans (hM a (col j e))

theorem top_m (a : Fin 256) (j : Fin 1024) : k0_pay14 M (ix2 a j) = ((s.mTop a j : ℝ) : EReal) := by
  unfold k0_pay14 k0_pay13
  exact top_at (k0_pay12 M) (fun a j e => s.m1 a (col j e)) (pay12_at s M hM) _ _ _ a j

theorem scale_m (a : Fin 256) (j : Fin 1024) : k0_pay16 M (ix2 a j) = s.resMs a j := by
  unfold k0_pay16 k0_pay15
  exact scale_at (ix2 a j) (k0_pay14 M) _ (top_m s M hM a j)

theorem exp_m (a : Fin 256) (j : Fin 1024) : k0_pay17 M (ix2 a j) = s.resMk a j := by
  unfold k0_pay17 k0_pay16 k0_pay15 k0_pay13
  exact exp_at (ix2 a j) (k0_pay14 M) _ _ _ _ _ _ (top_m s M hM a j)
    (low_at (k0_pay12 M) (fun a j e => s.m1 a (col j e)) (pay12_at s M hM) reduces_S256x1024x128_S256x1024 (.inl rfl) rfl a j) nmr nmr8
    (top_is (fun e => s.m1 a (col j e))).nonneg (fun h => (low_is (fun e => s.m1 a (col j e)) h).pos) (Real.log_pos (by norm_num))

theorem code_m (a : Fin 256) (c : Fin 131072) : k0_pay18 (k0_pay12 M) (k0_pay13 M) (k0_pay16 M) (k0_pay17 M) (Scalar.ofBits .f32 0x00000000#32) (ix2 a c) = s.resM a c := by
  unfold k0_pay13
  exact code_of_m s (k0_pay12 M) (k0_pay16 M) (k0_pay17 M) (pay12_at s M hM) (scale_m s M hM) (exp_m s M hM) a c
end

end Cert.ReferenceIdeal.Hand

end
-- ==== Proof.RI.ResV.lean ====
/- What the reference writes, at an element, from the new moments. -/
module

public import proofs.«01_k».proof.Proof.RI.Group

@[expose] public section

set_option maxRecDepth 16384

noncomputable section

namespace Cert.ReferenceIdeal.Hand

open Idealize.ShloMosaic
open Cert.ReferenceIdeal.Gen Cert.Real1

variable (s : St)

theorem code_of_v (X Y : FVec Ideal S256x1024x128 .f32) (T : FVec Ideal S256x1024 .f32) (hx : ∀ a j e, X (ix3 a j e) = ((s.v1 a (col j e) : ℝ) : EReal))
    (hs : ∀ a j, k0_pay24 T (ix2 a j) = s.resVs a j) (he : ∀ a j, k0_pay25 T Y (ix2 a j) = s.resVk a j) (a : Fin 256) (c : Fin 131072) :
    k0_pay1 (k0_pay26 X (absf X) T Y) (ix2 a c) = s.resV a c := by
  have hp := (top_is (fun e => s.v1 a (col (grp c) e))).le ⟨c.val % 128, Nat.mod_lt _ (by decide)⟩
  simp only [col_grp] at hp
  simp only [k0_pay1, k0_pay26, join, radd, rsub, rmul, rdiv, rmax, rmin, rabs, rlog, rexp, rsqrt, rsel, rcmp, rbc, rcst, rext, rtr, rofb, absf_real, sel_lt, sel_gt, sel_ne, b0', b1, bm1, b448, b57344, bc, hs, he, hx, col_grp, St.resVs, St.resVk]
  exact ref_code (M := 57344) (by norm_num) hp

section
variable (V : FVec Ideal S256x131072 .f32) (hV : ∀ a c, V (ix2 a c) = ((s.v1 a c : ℝ) : EReal))
include hV

theorem pay19_at (a : Fin 256) (j : Fin 1024) (e : Fin 128) : k0_pay19 V (ix3 a j e) = ((s.v1 a (col j e) : ℝ) : EReal) := by
  unfold k0_pay19
  exact (cut V _ a j e).trans (hV a (col j e))

theorem top_v (a : Fin 256) (j : Fin 1024) : k0_pay21 V (ix2 a j) = ((s.vTop a j : ℝ) : EReal) := by
  unfold k0_pay21 k0_pay20
  exact top_at (k0_pay19 V) (fun a j e => s.v1 a (col j e)) (pay19_at s V hV) _ _ _ a j

theorem scale_v (a : Fin 256) (j : Fin 1024) : k0_pay24 (k0_pay21 V) (ix2 a j) = s.resVs a j := by
  unfold k0_pay24 k0_pay23
  exact scale_at (ix2 a j) (k0_pay21 V) _ (top_v s V hV a j)

theorem exp_v (a : Fin 256) (j : Fin 1024) : k0_pay25 (k0_pay21 V) (k0_pay22 V) (ix2 a j) = s.resVk a j := by
  unfold k0_pay25 k0_pay24 k0_pay23 k0_pay22 k0_pay20
  exact exp_at (ix2 a j) (k0_pay21 V) _ _ _ _ _ _ (top_v s V hV a j)
    (low_at (k0_pay19 V) (fun a j e => s.v1 a (col j e)) (pay19_at s V hV) reduces_S256x1024x128_S256x1024 (.inl rfl) rfl a j) nvr nvr8
    (top_is (fun e => s.v1 a (col j e))).nonneg (fun h => (low_is (fun e => s.v1 a (col j e)) h).pos) (Real.log_pos (by norm_num))

theorem code_v (a : Fin 256) (c : Fin 131072) : k0_pay1 (k0_pay26 (k0_pay19 V) (k0_pay20 V) (k0_pay21 V) (k0_pay22 V)) (ix2 a c) = s.resV a c := by
  unfold k0_pay20
  exact code_of_v s (k0_pay19 V) (k0_pay22 V) (k0_pay21 V) (pay19_at s V hV) (scale_v s V hV) (exp_v s V hV) a c
end

end Cert.ReferenceIdeal.Hand

end
-- ==== Proof.RI.ResU.lean ====
/- What the reference writes, at an element, from the new moments. -/
module

public import proofs.«01_k».proof.Proof.RI.Point

@[expose] public section

set_option maxRecDepth 16384

noncomputable section

namespace Cert.ReferenceIdeal.Hand

open Idealize.ShloMosaic
open Cert.ReferenceIdeal.Gen Cert.Real1

variable (s : St)

theorem upd_at (M V : FVec Ideal S256x131072 .f32) (hM : ∀ a c, M (ix2 a c) = ((s.m1 a c : ℝ) : EReal))
    (hV : ∀ a c, V (ix2 a c) = ((s.v1 a c : ℝ) : EReal)) (ok : s.Ok) (n : BitVec 32) (hn : ((n.toInt : ℝ)) = s.t)
    (w : Vec Ideal S256x131072 .f32) (a : Fin 256) (c : Fin 131072) :
    k0_pay11 M V (k0_pay9 n) (k0_pay10 n) (Scalar.ofBits .f32 0x3F800000#32) w (ix2 a c) = s.resU (w (ix2 a c)) a c := by
  have h9 : k0_pay9 (F := Ideal) n = ((s.t : ℝ) : EReal) := by rw [← hn]; rfl
  simp only [k0_pay11, k0_pay10, h9, same, radd, rsub, rmul, rdiv, rmax, rmin, rabs, rlog, rexp, rsqrt, rsel, rcmp, rbc, rcst, rext, rtr, rofb, absf_real, sel_lt, sel_gt, sel_ne, b0', b1, bm1, b448, b57344, hM, hV, nbeta1, nbeta2, neps, ntenth]
  have h1 := corr_pos (β := 9 / 10) (by norm_num) (by norm_num) ok.t
  have h2 := corr_pos (β := 19 / 20) (by norm_num) (by norm_num) ok.t
  have e (β : ℝ) : Scalar.subf (F := Ideal) (φ := .f32) ((1 : ℝ) : EReal) (Scalar.powf (F := Ideal) (φ := .f32) (β : EReal) (s.t : EReal)) = ((corr β s.t : ℝ) : EReal) := rfl
  have hv : 0 ≤ s.v1 a c / corr (19 / 20) s.t := div_nonneg (s.v1_nonneg ok a c) h2.le
  have hd : 0 < Real.sqrt (s.v1 a c / corr (19 / 20) s.t) + 1 / 100000000 := by positivity
  rw [e, e, div_real h1.ne', div_real h2.ne', Ideal.sqrt_coe, if_neg hv.not_gt, ← EReal.coe_add, div_real hd.ne']
  rfl

end Cert.ReferenceIdeal.Hand

end
-- ==== Proof.RI.Vals.lean ====
/- The reference's results, element by element. -/
module

public import proofs.«01_k».proof.Proof.RI.Entry
public import proofs.«01_k».proof.Proof.RI.Moments
public import proofs.«01_k».proof.Proof.RI.ResM
public import proofs.«01_k».proof.Proof.RI.ResV
public import proofs.«01_k».proof.Proof.RI.ResU
public import proofs.«01_k».proof.Proof.Pre

@[expose] public section

set_option maxRecDepth 16384

noncomputable section

namespace Cert.ReferenceIdeal.Hand

open Idealize.ShloMosaic hiding ix0 ix1 ix2 ix3
open Idealize.ShloMosaic.ValueIdx Idealize.ShloMosaic.TcCoe
open Cert.ReferenceIdeal.Gen Cert.Real1

/-- The library's two spellings of an index agree. -/
theorem ix2_eq {p q : ℕ} (a : Fin p) (b : Fin q) : Idealize.ShloMosaic.ix2 a b = ix2 a b := by
  funext ax
  match ax with
  | ⟨0, _⟩ => rfl
  | ⟨1, _⟩ => rfl

variable (m : (ℓ : Loc nD τ sig) → Buf (Elt Ideal) ℓ) (c : Dev nD) {s : St}
  (S : Cert.Pre_valid_state.Says s (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) (m ((c : Thread nD τ).loc main_arg8)))
  (t : Fin cfg0.N)
include S

theorem rM_at (a : Fin 256) (k : Fin 131072) : rM m c t (Idealize.ShloMosaic.ix2 a k) = ((s.m1 a k : ℝ) : EReal) := by
  unfold rM
  rw [blk2, blk3, blk4, blk5]
  exact m1_at s _ _ _ _ (fun a k => by rw [ix2_eq]; exact (v4_entry m c a k).trans (S.mc a k)) (fun a k => by rw [ix2_eq]; exact (v5_entry m c a k).trans (S.ms a k))
    (fun a k => by rw [ix2_eq]; exact (v6_entry m c a k).trans (S.mk a k)) S.ok (fun a k => by rw [ix2_eq]; exact (v2_entry m c a k).trans (S.g a k)) a k
theorem rV_at (a : Fin 256) (k : Fin 131072) : rV m c t (Idealize.ShloMosaic.ix2 a k) = ((s.v1 a k : ℝ) : EReal) := by
  unfold rV
  rw [blk2, blk6, blk7, blk8]
  exact v1_at s _ _ _ (fun a k => by rw [ix2_eq]; exact (v8_entry m c a k).trans (S.vc a k)) (fun a k => by rw [ix2_eq]; exact (v9_entry m c a k).trans (S.vs a k))
    (fun a k => by rw [ix2_eq]; exact (v10_entry m c a k).trans (S.vk a k)) S.ok _ (fun a k => by rw [ix2_eq]; exact (v2_entry m c a k).trans (S.g a k)) a k

include t

theorem res9 (a : Fin 256) (k : Fin 131072) : (dats m 0 c).arrAt 9 cfg0.N (ix2 a k) = s.resU (m ((c : Thread nD τ).loc main_arg0) (ix3 0 a k)) a k := by
  have hM := rM_at m c S t
  have hV := rV_at m c S t
  have e := final9 m c t _ (out9 m c t)
  rw [word0, blk1] at e
  generalize rM m c t = M at hM e
  generalize rV m c t = V' at hV e
  refine (congrFun e _).trans ?_
  rw [← v1_entry m c a k, ← ix2_eq]
  exact upd_at s M V' hM hV S.ok _ S.n _ a k
theorem res10 (a : Fin 256) (k : Fin 131072) : (dats m 0 c).arrAt 10 cfg0.N (ix2 a k) = s.resM a k := by
  have hM := rM_at m c S t
  have e := final10 m c t _ (out10 m c t)
  generalize rM m c t = M at hM e
  rw [← ix2_eq]
  exact (congrFun e _).trans (code_m s M hM a k)
theorem res11 (a : Fin 256) (k : Fin 1024) : (dats m 0 c).arrAt 11 cfg0.N (ix2 a k) = s.resMs a k := by
  have hM := rM_at m c S t
  have e := final11 m c t _ (out11 m c t)
  generalize rM m c t = M at hM e
  rw [← ix2_eq]
  exact (congrFun e _).trans (scale_m s M hM a k)
theorem res12 (a : Fin 256) (k : Fin 1024) : (dats m 0 c).arrAt 12 cfg0.N (ix2 a k) = s.resMk a k := by
  have hM := rM_at m c S t
  have e := final12 m c t _ (out12 m c t)
  generalize rM m c t = M at hM e
  rw [← ix2_eq]
  exact (congrFun e _).trans (exp_m s M hM a k)
theorem res13 (a : Fin 256) (k : Fin 131072) : (dats m 0 c).arrAt 13 cfg0.N (ix2 a k) = s.resV a k := by
  have hV := rV_at m c S t
  have e := final13 m c t _ (out13 m c t)
  generalize rV m c t = V' at hV e
  rw [← ix2_eq]
  exact (congrFun e _).trans (code_v s V' hV a k)
theorem res14 (a : Fin 256) (k : Fin 1024) : (dats m 0 c).arrAt 14 cfg0.N (ix2 a k) = s.resVs a k := by
  have hV := rV_at m c S t
  have e := final14 m c t _ (out14 m c t)
  generalize rV m c t = V' at hV e
  rw [← ix2_eq]
  exact (congrFun e _).trans (scale_v s V' hV a k)
theorem res15 (a : Fin 256) (k : Fin 1024) : (dats m 0 c).arrAt 15 cfg0.N (ix2 a k) = s.resVk a k := by
  have hV := rV_at m c S t
  have e := final15 m c t _ (out15 m c t)
  generalize rV m c t = V' at hV e
  rw [← ix2_eq]
  exact (congrFun e _).trans (exp_v s V' hV a k)

end Cert.ReferenceIdeal.Hand

end
-- ==== Proof.RI.Run.lean ====
/- The reference's run: its seven results. -/
module

public import proofs.«01_k».proof.Proof.RI.Vals
public import proofs.«01_k».proof.Proof.Results

@[expose] public section

set_option maxRecDepth 16384

noncomputable section

namespace Cert.ReferenceIdeal.Hand

open Idealize.ShloMosaic hiding ix0 ix1 ix2 ix3
open Idealize.ShloMosaic.ValueIdx Idealize.ShloMosaic.TcCoe
open Idealize.SL Idealize.SL.RA Idealize.SL.Sem
open Cert.ReferenceIdeal.Gen Cert.Real1

variable (m : (ℓ : Loc nD τ sig) → Buf (Elt Ideal) ℓ) (ρ : Dev nD → PrngReg)

theorem run (s : Dev nD → St) (S : ∀ c : Dev nD, Cert.Pre_valid_state.Says (s c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :
    θ_run defs (onTc (τ := τ) (main (F := Ideal))) ⟨m, fun _ => 0, ρ⟩ (fun r => ∀ c : Dev nD,
      r.2.mem ((c.tc : Thread nD τ).loc main_v11_0) = valU (s c) (m ((c : Thread nD τ).loc main_arg0))
      ∧ r.2.mem ((c.tc : Thread nD τ).loc main_v11_1) = valM (s c)
      ∧ r.2.mem ((c.tc : Thread nD τ).loc main_v11_2) = valMs (s c)
      ∧ r.2.mem ((c.tc : Thread nD τ).loc main_v11_3) = valMk (s c)
      ∧ r.2.mem ((c.tc : Thread nD τ).loc main_v11_4) = valV (s c)
      ∧ r.2.mem ((c.tc : Thread nD τ).loc main_v11_5) = valVs (s c)
      ∧ r.2.mem ((c.tc : Thread nD τ).loc main_v11_6) = valVk (s c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun r h c => ?_) (run_main m ρ)
  have t : Fin cfg0.N := ⟨0, by decide⟩
  exact ⟨((h c).1 9).trans (ext2 fun a k => res9 m c (S c) t a k),
    ((h c).1 10).trans (ext2 fun a k => res10 m c (S c) t a k),
    ((h c).1 11).trans (ext2 fun a k => res11 m c (S c) t a k),
    ((h c).1 12).trans (ext2 fun a k => res12 m c (S c) t a k),
    ((h c).1 13).trans (ext2 fun a k => res13 m c (S c) t a k),
    ((h c).1 14).trans (ext2 fun a k => res14 m c (S c) t a k),
    ((h c).1 15).trans (ext2 fun a k => res15 m c (S c) t a k),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c)⟩

end Cert.ReferenceIdeal.Hand

end
-- ==== Proof.Agree.lean ====
/- Kernel and reference agree on every result. -/
module

public import proofs.«01_k».proof.Defs
public import proofs.«01_k».proof.Proof.KI.Run
public import proofs.«01_k».proof.Proof.RI.Run

@[expose] public section

noncomputable section

namespace Cert.Proof

open Idealize.ShloMosaic Idealize.ShloMosaic.TcCoe Idealize.SL.Sem Cert.Real1

theorem agree : Cert.algebraic_KernelIdeal_ReferenceIdeal_pre_valid_state (hKernelIdeal := Cert.KernelIdeal.Gen.facts)
    (hReferenceIdeal := Cert.ReferenceIdeal.Gen.facts) (hPre_valid_state := Cert.Pre_valid_state.valid_facts) := by
  intro m ρ m' ρ' hpre hagree
  have S := fun c => @Cert.Pre_valid_state.says_of Cert.Pre_valid_state.valid_facts _ _ _ _ _ _ _ _ _ (hpre c)
  have T := S
  refine ⟨_, _, _, _, _, _, _, Cert.KernelIdeal.Hand.run m ρ _ S, ?_⟩
  refine (θ_run Cert.ReferenceIdeal.defs _ _).mono (fun r h c => ⟨(h c).1.trans (congrArg _ (hagree c).1), (h c).2⟩) (Cert.ReferenceIdeal.Hand.run m' ρ' _ fun c => ?_)
  obtain ⟨-, h1, h2, h3, h4, h5, h6, h7, h8⟩ := hagree c
  rw [h1, h2, h3, h4, h5, h6, h7, h8]
  exact T c

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.FrameK.Frame
public import proofs.«01_k».proof.Proof.FrameKI.Frame
public import proofs.«01_k».proof.Proof.Preserves
public import proofs.«01_k».proof.Proof.Agree

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_valid_state.valid_facts,
    fun m ρ _ => Cert.Kernel.Hand.frame m ρ,
    fun m ρ _ => Cert.KernelIdeal.Hand.frame m ρ,
    fun m ρ _ => Cert.KernelIdeal.Hand.frame m ρ,
    fun m ρ _ => Cert.ReferenceIdeal.Gen.frame m ρ,
    fun m ρ _ => Cert.ReferenceIdeal.Gen.frame m ρ,
    preserves, agree⟩

end Cert.Proof

end
